-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Near (m : (ℓ : Loc Cert.Near.nD Cert.Near.τ Cert.Near.sig) → Buf (Elt Bits) ℓ) : Prop :=
  True

def Pre_NearIdeal (m : (ℓ : Loc Cert.NearIdeal.nD Cert.NearIdeal.τ Cert.NearIdeal.sig) → Buf (Elt Ideal) ℓ) : Prop :=
  True

def Pre_NearIdeal_near_pre [hPre_near_pre : Cert.Pre_near_pre.Facts] (m : (ℓ : Loc Cert.NearIdeal.nD Cert.NearIdeal.τ Cert.NearIdeal.sig) → Buf (Elt Ideal) ℓ) : Prop :=
  ∀ c : Dev Cert.NearIdeal.nD,
    (Cert.Pre_near_pre.fn (F := Ideal) (m ((c.tc : Thread Cert.NearIdeal.nD Cert.NearIdeal.τ).loc Cert.NearIdeal.main_arg0)) (m ((c.tc : Thread Cert.NearIdeal.nD Cert.NearIdeal.τ).loc Cert.NearIdeal.main_arg1)) (m ((c.tc : Thread Cert.NearIdeal.nD Cert.NearIdeal.τ).loc Cert.NearIdeal.main_arg2)) (m ((c.tc : Thread Cert.NearIdeal.nD Cert.NearIdeal.τ).loc Cert.NearIdeal.main_arg3)) (m ((c.tc : Thread Cert.NearIdeal.nD Cert.NearIdeal.τ).loc Cert.NearIdeal.main_arg4))).1 = (fun _ => 1#1)
    ∧ (Cert.Pre_near_pre.fn (F := Ideal) (m ((c.tc : Thread Cert.NearIdeal.nD Cert.NearIdeal.τ).loc Cert.NearIdeal.main_arg0)) (m ((c.tc : Thread Cert.NearIdeal.nD Cert.NearIdeal.τ).loc Cert.NearIdeal.main_arg1)) (m ((c.tc : Thread Cert.NearIdeal.nD Cert.NearIdeal.τ).loc Cert.NearIdeal.main_arg2)) (m ((c.tc : Thread Cert.NearIdeal.nD Cert.NearIdeal.τ).loc Cert.NearIdeal.main_arg3)) (m ((c.tc : Thread Cert.NearIdeal.nD Cert.NearIdeal.τ).loc Cert.NearIdeal.main_arg4))).2.1 = (fun _ => 1#1)
    ∧ (Cert.Pre_near_pre.fn (F := Ideal) (m ((c.tc : Thread Cert.NearIdeal.nD Cert.NearIdeal.τ).loc Cert.NearIdeal.main_arg0)) (m ((c.tc : Thread Cert.NearIdeal.nD Cert.NearIdeal.τ).loc Cert.NearIdeal.main_arg1)) (m ((c.tc : Thread Cert.NearIdeal.nD Cert.NearIdeal.τ).loc Cert.NearIdeal.main_arg2)) (m ((c.tc : Thread Cert.NearIdeal.nD Cert.NearIdeal.τ).loc Cert.NearIdeal.main_arg3)) (m ((c.tc : Thread Cert.NearIdeal.nD Cert.NearIdeal.τ).loc Cert.NearIdeal.main_arg4))).2.2 = (fun _ => 1#1)

def Pre_NearRefIdeal (m : (ℓ : Loc Cert.NearRefIdeal.nD Cert.NearRefIdeal.τ Cert.NearRefIdeal.sig) → Buf (Elt Ideal) ℓ) : Prop :=
  True

def Pre_NearRefIdeal_near_pre [hPre_near_pre : Cert.Pre_near_pre.Facts] (m : (ℓ : Loc Cert.NearRefIdeal.nD Cert.NearRefIdeal.τ Cert.NearRefIdeal.sig) → Buf (Elt Ideal) ℓ) : Prop :=
  ∀ c : Dev Cert.NearRefIdeal.nD,
    (Cert.Pre_near_pre.fn (F := Ideal) (m ((c.tc : Thread Cert.NearRefIdeal.nD Cert.NearRefIdeal.τ).loc Cert.NearRefIdeal.main_arg0)) (m ((c.tc : Thread Cert.NearRefIdeal.nD Cert.NearRefIdeal.τ).loc Cert.NearRefIdeal.main_arg1)) (m ((c.tc : Thread Cert.NearRefIdeal.nD Cert.NearRefIdeal.τ).loc Cert.NearRefIdeal.main_arg2)) (m ((c.tc : Thread Cert.NearRefIdeal.nD Cert.NearRefIdeal.τ).loc Cert.NearRefIdeal.main_arg3)) (m ((c.tc : Thread Cert.NearRefIdeal.nD Cert.NearRefIdeal.τ).loc Cert.NearRefIdeal.main_arg4))).1 = (fun _ => 1#1)
    ∧ (Cert.Pre_near_pre.fn (F := Ideal) (m ((c.tc : Thread Cert.NearRefIdeal.nD Cert.NearRefIdeal.τ).loc Cert.NearRefIdeal.main_arg0)) (m ((c.tc : Thread Cert.NearRefIdeal.nD Cert.NearRefIdeal.τ).loc Cert.NearRefIdeal.main_arg1)) (m ((c.tc : Thread Cert.NearRefIdeal.nD Cert.NearRefIdeal.τ).loc Cert.NearRefIdeal.main_arg2)) (m ((c.tc : Thread Cert.NearRefIdeal.nD Cert.NearRefIdeal.τ).loc Cert.NearRefIdeal.main_arg3)) (m ((c.tc : Thread Cert.NearRefIdeal.nD Cert.NearRefIdeal.τ).loc Cert.NearRefIdeal.main_arg4))).2.1 = (fun _ => 1#1)
    ∧ (Cert.Pre_near_pre.fn (F := Ideal) (m ((c.tc : Thread Cert.NearRefIdeal.nD Cert.NearRefIdeal.τ).loc Cert.NearRefIdeal.main_arg0)) (m ((c.tc : Thread Cert.NearRefIdeal.nD Cert.NearRefIdeal.τ).loc Cert.NearRefIdeal.main_arg1)) (m ((c.tc : Thread Cert.NearRefIdeal.nD Cert.NearRefIdeal.τ).loc Cert.NearRefIdeal.main_arg2)) (m ((c.tc : Thread Cert.NearRefIdeal.nD Cert.NearRefIdeal.τ).loc Cert.NearRefIdeal.main_arg3)) (m ((c.tc : Thread Cert.NearRefIdeal.nD Cert.NearRefIdeal.τ).loc Cert.NearRefIdeal.main_arg4))).2.2 = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_front_pre [hPre_front_pre : Cert.Pre_front_pre.Facts] (m : (ℓ : Loc Cert.FrontIdeal.nD Cert.FrontIdeal.τ Cert.FrontIdeal.sig) → Buf (Elt Ideal) ℓ) : Prop :=
  ∀ c : Dev Cert.FrontIdeal.nD,
    (Cert.Pre_front_pre.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3))).1 = (fun _ => 1#1)
    ∧ (Cert.Pre_front_pre.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3))).2 = (fun _ => 1#1)

def Pre_FrontRefIdeal (m : (ℓ : Loc Cert.FrontRefIdeal.nD Cert.FrontRefIdeal.τ Cert.FrontRefIdeal.sig) → Buf (Elt Ideal) ℓ) : Prop :=
  True

def Pre_FrontRefIdeal_front_pre [hPre_front_pre : Cert.Pre_front_pre.Facts] (m : (ℓ : Loc Cert.FrontRefIdeal.nD Cert.FrontRefIdeal.τ Cert.FrontRefIdeal.sig) → Buf (Elt Ideal) ℓ) : Prop :=
  ∀ c : Dev Cert.FrontRefIdeal.nD,
    (Cert.Pre_front_pre.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2)) (m ((c.tc : Thread Cert.FrontRefIdeal.nD Cert.FrontRefIdeal.τ).loc Cert.FrontRefIdeal.main_arg3))).1 = (fun _ => 1#1)
    ∧ (Cert.Pre_front_pre.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2)) (m ((c.tc : Thread Cert.FrontRefIdeal.nD Cert.FrontRefIdeal.τ).loc Cert.FrontRefIdeal.main_arg3))).2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Near [hNear : Cert.Near.Facts] : Prop :=
  ∀ (m : (ℓ : Loc Cert.Near.nD Cert.Near.τ Cert.Near.sig) → Buf (Elt Bits) ℓ) (g : Dev Cert.Near.nD → PrngReg), Pre_Near m →
    θ_run (Cert.Near.defs (F := Bits)) (onTc (τ := Cert.Near.τ) (Cert.Near.main (F := Bits))) ⟨m, fun _ => 0, g⟩ (fun r => (∀ c : Dev Cert.Near.nD,
      r.2.mem ((c.tc : Thread Cert.Near.nD Cert.Near.τ).loc Cert.Near.main_arg0) = m ((c.tc : Thread Cert.Near.nD Cert.Near.τ).loc Cert.Near.main_arg0)
      ∧ r.2.mem ((c.tc : Thread Cert.Near.nD Cert.Near.τ).loc Cert.Near.main_arg1) = m ((c.tc : Thread Cert.Near.nD Cert.Near.τ).loc Cert.Near.main_arg1)
      ∧ r.2.mem ((c.tc : Thread Cert.Near.nD Cert.Near.τ).loc Cert.Near.main_arg2) = m ((c.tc : Thread Cert.Near.nD Cert.Near.τ).loc Cert.Near.main_arg2)
      ∧ r.2.mem ((c.tc : Thread Cert.Near.nD Cert.Near.τ).loc Cert.Near.main_arg3) = m ((c.tc : Thread Cert.Near.nD Cert.Near.τ).loc Cert.Near.main_arg3)
      ∧ r.2.mem ((c.tc : Thread Cert.Near.nD Cert.Near.τ).loc Cert.Near.main_arg4) = m ((c.tc : Thread Cert.Near.nD Cert.Near.τ).loc Cert.Near.main_arg4))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1)
      ∧ r.2.mem ((c.tc : Thread Cert.NearIdeal.nD Cert.NearIdeal.τ).loc Cert.NearIdeal.main_arg2) = m ((c.tc : Thread Cert.NearIdeal.nD Cert.NearIdeal.τ).loc Cert.NearIdeal.main_arg2)
      ∧ r.2.mem ((c.tc : Thread Cert.NearIdeal.nD Cert.NearIdeal.τ).loc Cert.NearIdeal.main_arg3) = m ((c.tc : Thread Cert.NearIdeal.nD Cert.NearIdeal.τ).loc Cert.NearIdeal.main_arg3)
      ∧ r.2.mem ((c.tc : Thread Cert.NearIdeal.nD Cert.NearIdeal.τ).loc Cert.NearIdeal.main_arg4) = m ((c.tc : Thread Cert.NearIdeal.nD Cert.NearIdeal.τ).loc Cert.NearIdeal.main_arg4))
      ∧ r.2.sem = fun _ => 0)

def quiescent_NearIdeal_pre_near_pre [hNearIdeal : Cert.NearIdeal.Facts] [hPre_near_pre : Cert.Pre_near_pre.Facts] : Prop :=
  ∀ (m : (ℓ : Loc Cert.NearIdeal.nD Cert.NearIdeal.τ Cert.NearIdeal.sig) → Buf (Elt Ideal) ℓ) (g : Dev Cert.NearIdeal.nD → PrngReg), Pre_NearIdeal_near_pre m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1)
      ∧ r.2.mem ((c.tc : Thread Cert.NearIdeal.nD Cert.NearIdeal.τ).loc Cert.NearIdeal.main_arg2) = m ((c.tc : Thread Cert.NearIdeal.nD Cert.NearIdeal.τ).loc Cert.NearIdeal.main_arg2)
      ∧ r.2.mem ((c.tc : Thread Cert.NearIdeal.nD Cert.NearIdeal.τ).loc Cert.NearIdeal.main_arg3) = m ((c.tc : Thread Cert.NearIdeal.nD Cert.NearIdeal.τ).loc Cert.NearIdeal.main_arg3)
      ∧ r.2.mem ((c.tc : Thread Cert.NearIdeal.nD Cert.NearIdeal.τ).loc Cert.NearIdeal.main_arg4) = m ((c.tc : Thread Cert.NearIdeal.nD Cert.NearIdeal.τ).loc Cert.NearIdeal.main_arg4))
      ∧ r.2.sem = fun _ => 0)

def quiescent_NearRefIdeal [hNearRefIdeal : Cert.NearRefIdeal.Facts] : Prop :=
  ∀ (m : (ℓ : Loc Cert.NearRefIdeal.nD Cert.NearRefIdeal.τ Cert.NearRefIdeal.sig) → Buf (Elt Ideal) ℓ) (g : Dev Cert.NearRefIdeal.nD → PrngReg), Pre_NearRefIdeal m →
    θ_run (Cert.NearRefIdeal.defs (F := Ideal)) (onTc (τ := Cert.NearRefIdeal.τ) (Cert.NearRefIdeal.main (F := Ideal))) ⟨m, fun _ => 0, g⟩ (fun r => (∀ c : Dev Cert.NearRefIdeal.nD,
      r.2.mem ((c.tc : Thread Cert.NearRefIdeal.nD Cert.NearRefIdeal.τ).loc Cert.NearRefIdeal.main_arg0) = m ((c.tc : Thread Cert.NearRefIdeal.nD Cert.NearRefIdeal.τ).loc Cert.NearRefIdeal.main_arg0)
      ∧ r.2.mem ((c.tc : Thread Cert.NearRefIdeal.nD Cert.NearRefIdeal.τ).loc Cert.NearRefIdeal.main_arg1) = m ((c.tc : Thread Cert.NearRefIdeal.nD Cert.NearRefIdeal.τ).loc Cert.NearRefIdeal.main_arg1)
      ∧ r.2.mem ((c.tc : Thread Cert.NearRefIdeal.nD Cert.NearRefIdeal.τ).loc Cert.NearRefIdeal.main_arg2) = m ((c.tc : Thread Cert.NearRefIdeal.nD Cert.NearRefIdeal.τ).loc Cert.NearRefIdeal.main_arg2)
      ∧ r.2.mem ((c.tc : Thread Cert.NearRefIdeal.nD Cert.NearRefIdeal.τ).loc Cert.NearRefIdeal.main_arg3) = m ((c.tc : Thread Cert.NearRefIdeal.nD Cert.NearRefIdeal.τ).loc Cert.NearRefIdeal.main_arg3)
      ∧ r.2.mem ((c.tc : Thread Cert.NearRefIdeal.nD Cert.NearRefIdeal.τ).loc Cert.NearRefIdeal.main_arg4) = m ((c.tc : Thread Cert.NearRefIdeal.nD Cert.NearRefIdeal.τ).loc Cert.NearRefIdeal.main_arg4))
      ∧ r.2.sem = fun _ => 0)

def quiescent_NearRefIdeal_pre_near_pre [hNearRefIdeal : Cert.NearRefIdeal.Facts] [hPre_near_pre : Cert.Pre_near_pre.Facts] : Prop :=
  ∀ (m : (ℓ : Loc Cert.NearRefIdeal.nD Cert.NearRefIdeal.τ Cert.NearRefIdeal.sig) → Buf (Elt Ideal) ℓ) (g : Dev Cert.NearRefIdeal.nD → PrngReg), Pre_NearRefIdeal_near_pre m →
    θ_run (Cert.NearRefIdeal.defs (F := Ideal)) (onTc (τ := Cert.NearRefIdeal.τ) (Cert.NearRefIdeal.main (F := Ideal))) ⟨m, fun _ => 0, g⟩ (fun r => (∀ c : Dev Cert.NearRefIdeal.nD,
      r.2.mem ((c.tc : Thread Cert.NearRefIdeal.nD Cert.NearRefIdeal.τ).loc Cert.NearRefIdeal.main_arg0) = m ((c.tc : Thread Cert.NearRefIdeal.nD Cert.NearRefIdeal.τ).loc Cert.NearRefIdeal.main_arg0)
      ∧ r.2.mem ((c.tc : Thread Cert.NearRefIdeal.nD Cert.NearRefIdeal.τ).loc Cert.NearRefIdeal.main_arg1) = m ((c.tc : Thread Cert.NearRefIdeal.nD Cert.NearRefIdeal.τ).loc Cert.NearRefIdeal.main_arg1)
      ∧ r.2.mem ((c.tc : Thread Cert.NearRefIdeal.nD Cert.NearRefIdeal.τ).loc Cert.NearRefIdeal.main_arg2) = m ((c.tc : Thread Cert.NearRefIdeal.nD Cert.NearRefIdeal.τ).loc Cert.NearRefIdeal.main_arg2)
      ∧ r.2.mem ((c.tc : Thread Cert.NearRefIdeal.nD Cert.NearRefIdeal.τ).loc Cert.NearRefIdeal.main_arg3) = m ((c.tc : Thread Cert.NearRefIdeal.nD Cert.NearRefIdeal.τ).loc Cert.NearRefIdeal.main_arg3)
      ∧ r.2.mem ((c.tc : Thread Cert.NearRefIdeal.nD Cert.NearRefIdeal.τ).loc Cert.NearRefIdeal.main_arg4) = m ((c.tc : Thread Cert.NearRefIdeal.nD Cert.NearRefIdeal.τ).loc Cert.NearRefIdeal.main_arg4))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ r.2.sem = fun _ => 0)

def quiescent_FrontIdeal_pre_front_pre [hFrontIdeal : Cert.FrontIdeal.Facts] [hPre_front_pre : Cert.Pre_front_pre.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_front_pre m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3))
      ∧ r.2.sem = fun _ => 0)

def quiescent_FrontRefIdeal_pre_front_pre [hFrontRefIdeal : Cert.FrontRefIdeal.Facts] [hPre_front_pre : Cert.Pre_front_pre.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal_front_pre m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Near_NearIdeal : Prop :=
  True

def algebraic_NearIdeal_NearRefIdeal_pre_near_pre [hNearIdeal : Cert.NearIdeal.Facts] [hNearRefIdeal : Cert.NearRefIdeal.Facts] [hPre_near_pre : Cert.Pre_near_pre.Facts] : Prop :=
  ∀ (m : (ℓ : Loc Cert.NearIdeal.nD Cert.NearIdeal.τ Cert.NearIdeal.sig) → Buf (Elt Ideal) ℓ) (g : Dev Cert.NearIdeal.nD → PrngReg)
    (m' : (ℓ : Loc Cert.NearRefIdeal.nD Cert.NearRefIdeal.τ Cert.NearRefIdeal.sig) → Buf (Elt Ideal) ℓ) (g' : Dev Cert.NearRefIdeal.nD → PrngReg), Pre_NearIdeal_near_pre m →
    (∀ c : Dev Cert.NearIdeal.nD,
      m' ((c.tc : Thread Cert.NearRefIdeal.nD Cert.NearRefIdeal.τ).loc Cert.NearRefIdeal.main_arg0) = m ((c.tc : Thread Cert.NearIdeal.nD Cert.NearIdeal.τ).loc Cert.NearIdeal.main_arg0)
      ∧ m' ((c.tc : Thread Cert.NearRefIdeal.nD Cert.NearRefIdeal.τ).loc Cert.NearRefIdeal.main_arg1) = m ((c.tc : Thread Cert.NearIdeal.nD Cert.NearIdeal.τ).loc Cert.NearIdeal.main_arg1)
      ∧ m' ((c.tc : Thread Cert.NearRefIdeal.nD Cert.NearRefIdeal.τ).loc Cert.NearRefIdeal.main_arg2) = m ((c.tc : Thread Cert.NearIdeal.nD Cert.NearIdeal.τ).loc Cert.NearIdeal.main_arg2)
      ∧ m' ((c.tc : Thread Cert.NearRefIdeal.nD Cert.NearRefIdeal.τ).loc Cert.NearRefIdeal.main_arg3) = m ((c.tc : Thread Cert.NearIdeal.nD Cert.NearIdeal.τ).loc Cert.NearIdeal.main_arg3)
      ∧ m' ((c.tc : Thread Cert.NearRefIdeal.nD Cert.NearRefIdeal.τ).loc Cert.NearRefIdeal.main_arg4) = m ((c.tc : Thread Cert.NearIdeal.nD Cert.NearIdeal.τ).loc Cert.NearIdeal.main_arg4)) →
    ∃ (v0 : (c : Dev Cert.NearIdeal.nD) → Buf (Elt Ideal) ((c.tc : Thread Cert.NearIdeal.nD Cert.NearIdeal.τ).loc Cert.NearIdeal.main_v7_0)) (v1 : (c : Dev Cert.NearIdeal.nD) → Buf (Elt Ideal) ((c.tc : Thread Cert.NearIdeal.nD Cert.NearIdeal.τ).loc Cert.NearIdeal.main_v7_1)) (v2 : (c : Dev Cert.NearIdeal.nD) → Buf (Elt Ideal) ((c.tc : Thread Cert.NearIdeal.nD Cert.NearIdeal.τ).loc Cert.NearIdeal.main_v7_2)) (v3 : (c : Dev Cert.NearIdeal.nD) → Buf (Elt Ideal) ((c.tc : Thread Cert.NearIdeal.nD Cert.NearIdeal.τ).loc Cert.NearIdeal.main_v7_3)),
      θ_run (Cert.NearIdeal.defs (F := Ideal)) (onTc (τ := Cert.NearIdeal.τ) (Cert.NearIdeal.main (F := Ideal))) ⟨m, fun _ => 0, g⟩ (fun r => ∀ c : Dev Cert.NearIdeal.nD,
          r.2.mem ((c.tc : Thread Cert.NearIdeal.nD Cert.NearIdeal.τ).loc Cert.NearIdeal.main_v7_0) = v0 c
          ∧ r.2.mem ((c.tc : Thread Cert.NearIdeal.nD Cert.NearIdeal.τ).loc Cert.NearIdeal.main_v7_1) = v1 c
          ∧ r.2.mem ((c.tc : Thread Cert.NearIdeal.nD Cert.NearIdeal.τ).loc Cert.NearIdeal.main_v7_2) = v2 c
          ∧ r.2.mem ((c.tc : Thread Cert.NearIdeal.nD Cert.NearIdeal.τ).loc Cert.NearIdeal.main_v7_3) = v3 c
          ∧ r.2.mem ((c.tc : Thread Cert.NearIdeal.nD Cert.NearIdeal.τ).loc Cert.NearIdeal.main_arg0) = m ((c.tc : Thread Cert.NearIdeal.nD Cert.NearIdeal.τ).loc Cert.NearIdeal.main_arg0)
          ∧ r.2.mem ((c.tc : Thread Cert.NearIdeal.nD Cert.NearIdeal.τ).loc Cert.NearIdeal.main_arg1) = m ((c.tc : Thread Cert.NearIdeal.nD Cert.NearIdeal.τ).loc Cert.NearIdeal.main_arg1)
          ∧ r.2.mem ((c.tc : Thread Cert.NearIdeal.nD Cert.NearIdeal.τ).loc Cert.NearIdeal.main_arg2) = m ((c.tc : Thread Cert.NearIdeal.nD Cert.NearIdeal.τ).loc Cert.NearIdeal.main_arg2)
          ∧ r.2.mem ((c.tc : Thread Cert.NearIdeal.nD Cert.NearIdeal.τ).loc Cert.NearIdeal.main_arg3) = m ((c.tc : Thread Cert.NearIdeal.nD Cert.NearIdeal.τ).loc Cert.NearIdeal.main_arg3)
          ∧ r.2.mem ((c.tc : Thread Cert.NearIdeal.nD Cert.NearIdeal.τ).loc Cert.NearIdeal.main_arg4) = m ((c.tc : Thread Cert.NearIdeal.nD Cert.NearIdeal.τ).loc Cert.NearIdeal.main_arg4))
      ∧ θ_run (Cert.NearRefIdeal.defs (F := Ideal)) (onTc (τ := Cert.NearRefIdeal.τ) (Cert.NearRefIdeal.main (F := Ideal))) ⟨m', fun _ => 0, g'⟩ (fun r => ∀ c : Dev Cert.NearRefIdeal.nD,
          r.2.mem ((c.tc : Thread Cert.NearRefIdeal.nD Cert.NearRefIdeal.τ).loc Cert.NearRefIdeal.main_v31) = v0 c
          ∧ r.2.mem ((c.tc : Thread Cert.NearRefIdeal.nD Cert.NearRefIdeal.τ).loc Cert.NearRefIdeal.main_v25) = v1 c
          ∧ r.2.mem ((c.tc : Thread Cert.NearRefIdeal.nD Cert.NearRefIdeal.τ).loc Cert.NearRefIdeal.main_v30) = v2 c
          ∧ r.2.mem ((c.tc : Thread Cert.NearRefIdeal.nD Cert.NearRefIdeal.τ).loc Cert.NearRefIdeal.main_v23) = v3 c
          ∧ r.2.mem ((c.tc : Thread Cert.NearRefIdeal.nD Cert.NearRefIdeal.τ).loc Cert.NearRefIdeal.main_arg0) = m' ((c.tc : Thread Cert.NearRefIdeal.nD Cert.NearRefIdeal.τ).loc Cert.NearRefIdeal.main_arg0)
          ∧ r.2.mem ((c.tc : Thread Cert.NearRefIdeal.nD Cert.NearRefIdeal.τ).loc Cert.NearRefIdeal.main_arg1) = m' ((c.tc : Thread Cert.NearRefIdeal.nD Cert.NearRefIdeal.τ).loc Cert.NearRefIdeal.main_arg1)
          ∧ r.2.mem ((c.tc : Thread Cert.NearRefIdeal.nD Cert.NearRefIdeal.τ).loc Cert.NearRefIdeal.main_arg2) = m' ((c.tc : Thread Cert.NearRefIdeal.nD Cert.NearRefIdeal.τ).loc Cert.NearRefIdeal.main_arg2)
          ∧ r.2.mem ((c.tc : Thread Cert.NearRefIdeal.nD Cert.NearRefIdeal.τ).loc Cert.NearRefIdeal.main_arg3) = m' ((c.tc : Thread Cert.NearRefIdeal.nD Cert.NearRefIdeal.τ).loc Cert.NearRefIdeal.main_arg3)
          ∧ r.2.mem ((c.tc : Thread Cert.NearRefIdeal.nD Cert.NearRefIdeal.τ).loc Cert.NearRefIdeal.main_arg4) = m' ((c.tc : Thread Cert.NearRefIdeal.nD Cert.NearRefIdeal.τ).loc Cert.NearRefIdeal.main_arg4))

def preserves_Front_FrontIdeal : Prop :=
  True

def algebraic_FrontIdeal_FrontRefIdeal_pre_front_pre [hFrontIdeal : Cert.FrontIdeal.Facts] [hFrontRefIdeal : Cert.FrontRefIdeal.Facts] [hPre_front_pre : Cert.Pre_front_pre.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal_front_pre m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)) →
    ∃ (v0 : (c : Dev Cert.FrontIdeal.nD) → Buf (Elt Ideal) ((c.tc : Thread Cert.FrontIdeal.nD Cert.FrontIdeal.τ).loc Cert.FrontIdeal.main_v17)) (v1 : (c : Dev Cert.FrontIdeal.nD) → Buf (Elt Ideal) ((c.tc : Thread Cert.FrontIdeal.nD Cert.FrontIdeal.τ).loc Cert.FrontIdeal.main_v16_1)) (v2 : (c : Dev Cert.FrontIdeal.nD) → Buf (Elt Ideal) ((c.tc : Thread Cert.FrontIdeal.nD Cert.FrontIdeal.τ).loc Cert.FrontIdeal.main_v16_2)) (v3 : (c : Dev Cert.FrontIdeal.nD) → Buf (Elt Ideal) ((c.tc : Thread Cert.FrontIdeal.nD Cert.FrontIdeal.τ).loc Cert.FrontIdeal.main_v16_3)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v17) = v0 c
          ∧ r.2.mem ((c.tc : Thread Cert.FrontIdeal.nD Cert.FrontIdeal.τ).loc Cert.FrontIdeal.main_v16_1) = v1 c
          ∧ r.2.mem ((c.tc : Thread Cert.FrontIdeal.nD Cert.FrontIdeal.τ).loc Cert.FrontIdeal.main_v16_2) = v2 c
          ∧ r.2.mem ((c.tc : Thread Cert.FrontIdeal.nD Cert.FrontIdeal.τ).loc Cert.FrontIdeal.main_v16_3) = v3 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v13) = v0 c
          ∧ r.2.mem ((c.tc : Thread Cert.FrontRefIdeal.nD Cert.FrontRefIdeal.τ).loc Cert.FrontRefIdeal.main_v31) = v1 c
          ∧ r.2.mem ((c.tc : Thread Cert.FrontRefIdeal.nD Cert.FrontRefIdeal.τ).loc Cert.FrontRefIdeal.main_v36) = v2 c
          ∧ r.2.mem ((c.tc : Thread Cert.FrontRefIdeal.nD Cert.FrontRefIdeal.τ).loc Cert.FrontRefIdeal.main_v29) = v3 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3))

def Claim : Prop :=
  ∃ (hKernel : Cert.Kernel.Facts) (hKernelIdeal : Cert.KernelIdeal.Facts) (hReferenceIdeal : Cert.ReferenceIdeal.Facts) (hNear : Cert.Near.Facts) (hNearIdeal : Cert.NearIdeal.Facts) (hNearRefIdeal : Cert.NearRefIdeal.Facts) (hFront : Cert.Front.Facts) (hFrontIdeal : Cert.FrontIdeal.Facts) (hFrontRefIdeal : Cert.FrontRefIdeal.Facts) (hPre_in_range : Cert.Pre_in_range.Facts) (hPre_finite : Cert.Pre_finite.Facts) (hPre_near_pre : Cert.Pre_near_pre.Facts) (hPre_front_pre : Cert.Pre_front_pre.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Near (hNear := hNear)
    ∧ quiescent_NearIdeal (hNearIdeal := hNearIdeal)
    ∧ quiescent_NearIdeal_pre_near_pre (hNearIdeal := hNearIdeal) (hPre_near_pre := hPre_near_pre)
    ∧ quiescent_NearRefIdeal (hNearRefIdeal := hNearRefIdeal)
    ∧ quiescent_NearRefIdeal_pre_near_pre (hNearRefIdeal := hNearRefIdeal) (hPre_near_pre := hPre_near_pre)
    ∧ quiescent_Front (hFront := hFront)
    ∧ quiescent_FrontIdeal (hFrontIdeal := hFrontIdeal)
    ∧ quiescent_FrontIdeal_pre_front_pre (hFrontIdeal := hFrontIdeal) (hPre_front_pre := hPre_front_pre)
    ∧ quiescent_FrontRefIdeal (hFrontRefIdeal := hFrontRefIdeal)
    ∧ quiescent_FrontRefIdeal_pre_front_pre (hFrontRefIdeal := hFrontRefIdeal) (hPre_front_pre := hPre_front_pre)
    ∧ preserves_Kernel_KernelIdeal
    ∧ algebraic_KernelIdeal_ReferenceIdeal_pre_finite (hKernelIdeal := hKernelIdeal) (hReferenceIdeal := hReferenceIdeal) (hPre_finite := hPre_finite)
    ∧ preserves_Near_NearIdeal
    ∧ algebraic_NearIdeal_NearRefIdeal_pre_near_pre (hNearIdeal := hNearIdeal) (hNearRefIdeal := hNearRefIdeal) (hPre_near_pre := hPre_near_pre)
    ∧ preserves_Front_FrontIdeal
    ∧ algebraic_FrontIdeal_FrontRefIdeal_pre_front_pre (hFrontIdeal := hFrontIdeal) (hFrontRefIdeal := hFrontRefIdeal) (hPre_front_pre := hPre_front_pre)
-- ==== Pre_finite.lean ====
abbrev S4x2048x256 : Shape := ⟨3, ![4, 2048, 256]⟩
abbrev S4x16x512x1 : Shape := ⟨4, ![4, 16, 512, 1]⟩
abbrev S4x512x256 : Shape := ⟨3, ![4, 512, 256]⟩
abbrev S256x256 : Shape := ⟨2, ![256, 256]⟩
abbrev S256 : Shape := ⟨1, ![256]⟩
abbrev S_ : Shape := ⟨0, ![]⟩

class Facts : Prop where
  bcast_S_S4x16x512x1 : S_.BroadcastsInDim S4x16x512x1 (![] : Fin 0 → Fin S4x16x512x1.rank)
  bcast_S_S4x2048x256 : S_.BroadcastsInDim S4x2048x256 (![] : Fin 0 → Fin S4x2048x256.rank)
  bcast_S_S4x512x256 : S_.BroadcastsInDim S4x512x256 (![] : Fin 0 → Fin S4x512x256.rank)
  bcast_S_S256x256 : S_.BroadcastsInDim S256x256 (![] : Fin 0 → Fin S256x256.rank)

variable [Facts]

def fn {F : FTy → Type} [FloatOps F] (main_arg0 : FVec F S4x2048x256 .f32) (main_arg1 : IVec S4x16x512x1 32) (main_arg2 : FVec F S4x512x256 .f32) (main_arg3 : FVec F S256x256 .f32) (main_arg4 : FVec F S256 .f32) : IVec S4x16x512x1 1 × IVec S4x2048x256 1 × IVec S4x512x256 1 × IVec S256x256 1 :=
  let main_c : IVec S_ 32 := constantI S_ 32 0#32
  let main_v0 : IVec S4x16x512x1 32 := broadcastInDim S4x16x512x1 ![] bcast_S_S4x16x512x1 main_c
  let main_v1 : IVec S4x16x512x1 1 := cmpi .sge main_arg1 main_v0
  let main_c_0 : IVec S_ 32 := constantI S_ 32 8192#32
  let main_v2 : IVec S4x16x512x1 32 := broadcastInDim S4x16x512x1 ![] bcast_S_S4x16x512x1 main_c_0
  let main_v3 : IVec S4x16x512x1 1 := cmpi .slt main_arg1 main_v2
  let main_v4 : IVec S4x16x512x1 1 := andi main_v1 main_v3
  let main_v5 : FVec F S4x2048x256 .f32 := Host.absf main_arg0
  let main_cst : FVec F S_ .f32 := constant S_ .f32 0x7F800000#32
  let main_v6 : FVec F S4x2048x256 .f32 := broadcastInDim S4x2048x256 ![] bcast_S_S4x2048x256 main_cst
  let main_v7 : IVec S4x2048x256 1 := cmpf .olt main_v5 main_v6
  let main_v8 : FVec F S4x512x256 .f32 := Host.absf main_arg2
  let main_cst_1 : FVec F S_ .f32 := constant S_ .f32 0x7F800000#32
  let main_v9 : FVec F S4x512x256 .f32 := broadcastInDim S4x512x256 ![] bcast_S_S4x512x256 main_cst_1
  let main_v10 : IVec S4x512x256 1 := cmpf .olt main_v8 main_v9
  let main_v11 : FVec F S256x256 .f32 := Host.absf main_arg3
  let main_cst_2 : FVec F S_ .f32 := constant S_ .f32 0x7F800000#32
  let main_v12 : FVec F S256x256 .f32 := broadcastInDim S256x256 ![] bcast_S_S256x256 main_cst_2
  let main_v13 : IVec S256x256 1 := cmpf .olt main_v11 main_v12
  (main_v4, main_v7, main_v10, main_v13)
-- ==== Pre_front_pre.lean ====
abbrev S4x2048x128 : Shape := ⟨3, ![4, 2048, 128]⟩
abbrev S4x2048x3 : Shape := ⟨3, ![4, 2048, 3]⟩
abbrev S131x256 : Shape := ⟨2, ![131, 256]⟩
abbrev S256 : Shape := ⟨1, ![256]⟩
abbrev S_ : Shape := ⟨0, ![]⟩
abbrev S3x256 : Shape := ⟨2, ![3, 256]⟩

class Facts : Prop where
  bcast_S_S4x2048x3 : S_.BroadcastsInDim S4x2048x3 (![] : Fin 0 → Fin S4x2048x3.rank)
  slices_S131x256_S3x256_128_0 : S131x256.Slices ![128, 0] S3x256
  bcast_S_S3x256 : S_.BroadcastsInDim S3x256 (![] : Fin 0 → Fin S3x256.rank)

variable [Facts]

def fn {F : FTy → Type} [FloatOps F] (main_arg0 : FVec F S4x2048x128 .f32) (main_arg1 : FVec F S4x2048x3 .f32) (main_arg2 : FVec F S131x256 .f32) (main_arg3 : FVec F S256 .f32) : IVec S4x2048x3 1 × IVec S3x256 1 :=
  let main_v0 : FVec F S4x2048x3 .f32 := Host.absf main_arg1
  let main_cst : FVec F S_ .f32 := constant S_ .f32 0x7F800000#32
  let main_v1 : FVec F S4x2048x3 .f32 := broadcastInDim S4x2048x3 ![] bcast_S_S4x2048x3 main_cst
  let main_v2 : IVec S4x2048x3 1 := cmpf .olt main_v0 main_v1
  let main_v3 : FVec F S3x256 .f32 := (extractStridedSlice S3x256 ![128, 0] · slices_S131x256_S3x256_128_0) main_arg2
  let main_v4 : FVec F S3x256 .f32 := Host.absf main_v3
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  (main_v2, main_v6)
-- ==== Pre_in_range.lean ====
abbrev S4x2048x256 : Shape := ⟨3, ![4, 2048, 256]⟩
abbrev S4x16x512x1 : Shape := ⟨4, ![4, 16, 512, 1]⟩
abbrev S4x512x256 : Shape := ⟨3, ![4, 512, 256]⟩
abbrev S256x256 : Shape := ⟨2, ![256, 256]⟩
abbrev S256 : Shape := ⟨1, ![256]⟩
abbrev S_ : Shape := ⟨0, ![]⟩

class Facts : Prop where
  bcast_S_S4x16x512x1 : S_.BroadcastsInDim S4x16x512x1 (![] : Fin 0 → Fin S4x16x512x1.rank)

variable [Facts]

def fn {F : FTy → Type} [FloatOps F] (main_arg0 : FVec F S4x2048x256 .f32) (main_arg1 : IVec S4x16x512x1 32) (main_arg2 : FVec F S4x512x256 .f32) (main_arg3 : FVec F S256x256 .f32) (main_arg4 : FVec F S256 .f32) : IVec S4x16x512x1 1 :=
  let main_c : IVec S_ 32 := constantI S_ 32 0#32
  let main_v0 : IVec S4x16x512x1 32 := broadcastInDim S4x16x512x1 ![] bcast_S_S4x16x512x1 main_c
  let main_v1 : IVec S4x16x512x1 1 := cmpi .sge main_arg1 main_v0
  let main_c_0 : IVec S_ 32 := constantI S_ 32 8192#32
  let main_v2 : IVec S4x16x512x1 32 := broadcastInDim S4x16x512x1 ![] bcast_S_S4x16x512x1 main_c_0
  let main_v3 : IVec S4x16x512x1 1 := cmpi .slt main_arg1 main_v2
  let main_v4 : IVec S4x16x512x1 1 := andi main_v1 main_v3
  main_v4
-- ==== Pre_near_pre.lean ====
abbrev S4x2048x128 : Shape := ⟨3, ![4, 2048, 128]⟩
abbrev S4x2048x3 : Shape := ⟨3, ![4, 2048, 3]⟩
abbrev S4x512x1 : Shape := ⟨3, ![4, 512, 1]⟩
abbrev S131x256 : Shape := ⟨2, ![131, 256]⟩
abbrev S256 : Shape := ⟨1, ![256]⟩
abbrev S_ : Shape := ⟨0, ![]⟩
abbrev S3x256 : Shape := ⟨2, ![3, 256]⟩

class Facts : Prop where
  bcast_S_S4x512x1 : S_.BroadcastsInDim S4x512x1 (![] : Fin 0 → Fin S4x512x1.rank)
  bcast_S_S4x2048x3 : S_.BroadcastsInDim S4x2048x3 (![] : Fin 0 → Fin S4x2048x3.rank)
  slices_S131x256_S3x256_128_0 : S131x256.Slices ![128, 0] S3x256
  bcast_S_S3x256 : S_.BroadcastsInDim S3x256 (![] : Fin 0 → Fin S3x256.rank)

variable [Facts]

def fn {F : FTy → Type} [FloatOps F] (main_arg0 : FVec F S4x2048x128 .f32) (main_arg1 : FVec F S4x2048x3 .f32) (main_arg2 : IVec S4x512x1 32) (main_arg3 : FVec F S131x256 .f32) (main_arg4 : FVec F S256 .f32) : IVec S4x512x1 1 × IVec S4x2048x3 1 × IVec S3x256 1 :=
  let main_c : IVec S_ 32 := constantI S_ 32 0#32
  let main_v0 : IVec S4x512x1 32 := broadcastInDim S4x512x1 ![] bcast_S_S4x512x1 main_c
  let main_v1 : IVec S4x512x1 1 := cmpi .sge main_arg2 main_v0
  let main_c_0 : IVec S_ 32 := constantI S_ 32 2048#32
  let main_v2 : IVec S4x512x1 32 := broadcastInDim S4x512x1 ![] bcast_S_S4x512x1 main_c_0
  let main_v3 : IVec S4x512x1 1 := cmpi .slt main_arg2 main_v2
  let main_v4 : IVec S4x512x1 1 := andi main_v1 main_v3
  let main_v5 : FVec F S4x2048x3 .f32 := Host.absf main_arg1
  let main_cst : FVec F S_ .f32 := constant S_ .f32 0x7F800000#32
  let main_v6 : FVec F S4x2048x3 .f32 := broadcastInDim S4x2048x3 ![] bcast_S_S4x2048x3 main_cst
  let main_v7 : IVec S4x2048x3 1 := cmpf .olt main_v5 main_v6
  let main_v8 : FVec F S3x256 .f32 := (extractStridedSlice S3x256 ![128, 0] · slices_S131x256_S3x256_128_0) main_arg3
  let main_v9 : FVec F S3x256 .f32 := Host.absf main_v8
  let main_cst_1 : FVec F S_ .f32 := constant S_ .f32 0x7F800000#32
  let main_v10 : FVec F S3x256 .f32 := broadcastInDim S3x256 ![] bcast_S_S3x256 main_cst_1
  let main_v11 : IVec S3x256 1 := cmpf .olt main_v9 main_v10
  (main_v4, main_v7, main_v11)
-- ==== Kernel.lean ====
abbrev S4x2048x256 : Shape := ⟨3, ![4, 2048, 256]⟩
abbrev S4x16x512x1 : Shape := ⟨4, ![4, 16, 512, 1]⟩
abbrev S4x512x256 : Shape := ⟨3, ![4, 512, 256]⟩
abbrev S256x256 : Shape := ⟨2, ![256, 256]⟩
abbrev S256 : Shape := ⟨1, ![256]⟩
abbrev S1x256 : Shape := ⟨2, ![1, 256]⟩
abbrev S8192x2x128 : Shape := ⟨3, ![8192, 2, 128]⟩
abbrev S32768 : Shape := ⟨1, ![32768]⟩
abbrev S32768x2x128 : Shape := ⟨3, ![32768, 2, 128]⟩
abbrev S128 : Shape := ⟨1, ![128]⟩
abbrev S128x2x128 : Shape := ⟨3, ![128, 2, 128]⟩
abbrev S_ : Shape := ⟨0, ![]⟩
abbrev S4x16x512x256 : Shape := ⟨4, ![4, 16, 512, 256]⟩
abbrev S1x1x512x256 : Shape := ⟨4, ![1, 1, 512, 256]⟩
abbrev S1x512x256 : Shape := ⟨3, ![1, 512, 256]⟩
abbrev S512x256 : Shape := ⟨2, ![512, 256]⟩

abbrev nBuf : Table → Nat
  | .hbm => 15
  | .local .tc .vmem => 9
  | .local .scVector .vmem => 4
  | _ => 0

abbrev bufTy : (tb : Table) → Fin (nBuf tb) → BufTy
  | .hbm, ⟨0, _⟩ => ⟨S4x2048x256, .f32⟩
  | .hbm, ⟨1, _⟩ => ⟨S4x16x512x1, .i32⟩
  | .hbm, ⟨2, _⟩ => ⟨S4x512x256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S8192x2x128, .f32⟩
  | .hbm, ⟨7, _⟩ => ⟨S32768, .i32⟩
  | .hbm, ⟨8, _⟩ => ⟨S32768x2x128, .f32⟩
  | .hbm, ⟨9, _⟩ => ⟨S4x16x512x256, .f32⟩
  | .hbm, ⟨10, _⟩ => ⟨S256x256, .bf16⟩
  | .hbm, ⟨11, _⟩ => ⟨S256x256, .f32⟩
  | .hbm, ⟨12, _⟩ => ⟨S256x256, .f32⟩
  | .hbm, ⟨13, _⟩ => ⟨S256x256, .bf16⟩
  | .hbm, ⟨14, _⟩ => ⟨S4x512x256, .f32⟩
  | .local .tc .vmem, ⟨0, _⟩ => ⟨S1x1x512x256, .f32⟩
  | .local .tc .vmem, ⟨1, _⟩ => ⟨S1x1x512x256, .f32⟩
  | .local .tc .vmem, ⟨2, _⟩ => ⟨S1x512x256, .f32⟩
  | .local .tc .vmem, ⟨3, _⟩ => ⟨S1x512x256, .f32⟩
  | .local .tc .vmem, ⟨4, _⟩ => ⟨S256x256, .bf16⟩
  | .local .tc .vmem, ⟨5, _⟩ => ⟨S256x256, .bf16⟩
  | .local .tc .vmem, ⟨6, _⟩ => ⟨S1x256, .f32⟩
  | .local .tc .vmem, ⟨7, _⟩ => ⟨S1x512x256, .f32⟩
  | .local .tc .vmem, ⟨8, _⟩ => ⟨S1x512x256, .f32⟩
  | .local .scVector .vmem, ⟨0, _⟩ => ⟨S128, .i32⟩
  | .local .scVector .vmem, ⟨1, _⟩ => ⟨S128, .i32⟩
  | .local .scVector .vmem, ⟨2, _⟩ => ⟨S128x2x128, .f32⟩
  | .local .scVector .vmem, ⟨3, _⟩ => ⟨S128x2x128, .f32⟩
  | _, _ => ⟨S4x2048x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v1_scv : Ref sig .scVector := ⟨.hbm, 6, rfl⟩
abbrev main_v2_scv : Ref sig .scVector := ⟨.hbm, 7, rfl⟩
abbrev main_v3_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) (c128_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v4 : BitVec 32 := Scalar.addi v2 c128_i32
  ![v4.toNat]
def k0_off3 (i : grid0.Coords) (c0_i32_8 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v7 : BitVec 32 := Scalar.addi v2 c0_i32_8
  let c0_i32_9 : BitVec 32 := 0#32
  let c0_i32_10 : BitVec 32 := 0#32
  ![v7.toNat, 0, 0]
abbrev grid1 : Pipeline.Grid := ⟨2, ![4, 16], ![false, false]⟩

def k1_cond1 (i : grid1.Coords) : BitVec 1 :=
  let arg1 : BitVec 32 := BitVec.ofNat 32 (i 1).val
  let c0_i32 : BitVec 32 := 0#32
  let v28 : BitVec 1 := Scalar.cmpi .eq arg1 c0_i32
  let v29 : BitVec 32 := Scalar.extui v28
  let c0_i32_18 : BitVec 32 := 0#32
  let v30 : BitVec 1 := Scalar.cmpi .ne v29 c0_i32_18
  v30

def k1_cond2 (i : grid1.Coords) : BitVec 1 :=
  let arg1 : BitVec 32 := BitVec.ofNat 32 (i 1).val
  let c0_i32_19 : BitVec 32 := 0#32
  let v31 : BitVec 1 := Scalar.cmpi .sgt arg1 c0_i32_19
  let v32 : BitVec 32 := Scalar.extui v31
  let c0_i32_20 : BitVec 32 := 0#32
  let v33 : BitVec 1 := Scalar.cmpi .ne v32 c0_i32_20
  v33

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x256 : Shape := ⟨3, ![4, 2048, 256]⟩
abbrev S4x16x512x1 : Shape := ⟨4, ![4, 16, 512, 1]⟩
abbrev S4x512x256 : Shape := ⟨3, ![4, 512, 256]⟩
abbrev S256x256 : Shape := ⟨2, ![256, 256]⟩
abbrev S256 : Shape := ⟨1, ![256]⟩
abbrev S8192x256 : Shape := ⟨2, ![8192, 256]⟩
abbrev S4x16x512 : Shape := ⟨3, ![4, 16, 512]⟩
abbrev S_ : Shape := ⟨0, ![]⟩
abbrev S4x16x512x256 : Shape := ⟨4, ![4, 16, 512, 256]⟩
abbrev S4x1x512x256 : Shape := ⟨4, ![4, 1, 512, 256]⟩
abbrev S1x1x1x256 : Shape := ⟨4, ![1, 1, 1, 256]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S4x16x512x1, .i32⟩
  | .hbm, ⟨2, _⟩ => ⟨S4x512x256, .f32⟩
  | .hbm, ⟨3, _⟩ => ⟨S256x256, .f32⟩
  | .hbm, ⟨4, _⟩ => ⟨S256, .f32⟩
  | .hbm, ⟨5, _⟩ => ⟨S8192x256, .f32⟩
  | .hbm, ⟨6, _⟩ => ⟨S4x16x512, .i32⟩
  | .hbm, ⟨7, _⟩ => ⟨S_, .i32⟩
  | .hbm, ⟨8, _⟩ => ⟨S4x16x512, .i32⟩
  | .hbm, ⟨9, _⟩ => ⟨S4x16x512, .i1⟩
  | .hbm, ⟨10, _⟩ => ⟨S_, .i32⟩
  | .hbm, ⟨11, _⟩ => ⟨S4x16x512, .i32⟩
  | .hbm, ⟨12, _⟩ => ⟨S4x16x512, .i32⟩
  | .hbm, ⟨13, _⟩ => ⟨S4x16x512, .i32⟩
  | .hbm, ⟨14, _⟩ => ⟨S4x16x512x1, .i32⟩
  | .hbm, ⟨15, _⟩ => ⟨S4x16x512x256, .f32⟩
  | .hbm, ⟨16, _⟩ => ⟨S4x1x512x256, .f32⟩
  | .hbm, ⟨17, _⟩ => ⟨S4x16x512x256, .f32⟩
  | .hbm, ⟨18, _⟩ => ⟨S4x16x512x256, .f32⟩
  | .hbm, ⟨19, _⟩ => ⟨S_, .f32⟩
  | .hbm, ⟨20, _⟩ => ⟨S4x16x512x256, .f32⟩
  | .hbm, ⟨21, _⟩ => ⟨S4x16x512x256, .f32⟩
  | .hbm, ⟨22, _⟩ => ⟨S4x16x512x256, .f32⟩
  | .hbm, ⟨23, _⟩ => ⟨S1x1x1x256, .f32⟩
  | .hbm, ⟨24, _⟩ => ⟨S4x16x512x256, .f32⟩
  | .hbm, ⟨25, _⟩ => ⟨S4x16x512x256, .f32⟩
  | .hbm, ⟨26, _⟩ => ⟨S_, .f32⟩
  | .hbm, ⟨27, _⟩ => ⟨S4x16x512x256, .f32⟩
  | .hbm, ⟨28, _⟩ => ⟨S4x16x512x256, .f32⟩
  | .hbm, ⟨29, _⟩ => ⟨S_, .f32⟩
  | .hbm, ⟨30, _⟩ => ⟨S4x512x256, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Near.lean ====
abbrev S4x2048x128 : Shape := ⟨3, ![4, 2048, 128]⟩
abbrev S4x2048x3 : Shape := ⟨3, ![4, 2048, 3]⟩
abbrev S4x512x1 : Shape := ⟨3, ![4, 512, 1]⟩
abbrev S131x256 : Shape := ⟨2, ![131, 256]⟩
abbrev S256 : Shape := ⟨1, ![256]⟩
abbrev S4x3x2048 : Shape := ⟨3, ![4, 3, 2048]⟩
abbrev S128x256 : Shape := ⟨2, ![128, 256]⟩
abbrev S_ : Shape := ⟨0, ![]⟩
abbrev S8x256 : Shape := ⟨2, ![8, 256]⟩
abbrev S3x256 : Shape := ⟨2, ![3, 256]⟩
abbrev S1 : Shape := ⟨1, ![1]⟩
abbrev S1x256 : Shape := ⟨2, ![1, 256]⟩
abbrev S4x512x128 : Shape := ⟨3, ![4, 512, 128]⟩
abbrev S4x2048x256 : Shape := ⟨3, ![4, 2048, 256]⟩
abbrev S4x512x256 : Shape := ⟨3, ![4, 512, 256]⟩
abbrev S4x16x512x1 : Shape := ⟨4, ![4, 16, 512, 1]⟩
abbrev S1x3x2048 : Shape := ⟨3, ![1, 3, 2048]⟩
abbrev S1x2048x3 : Shape := ⟨3, ![1, 2048, 3]⟩
abbrev S1x2048x128 : Shape := ⟨3, ![1, 2048, 128]⟩
abbrev S1x512x1 : Shape := ⟨3, ![1, 512, 1]⟩
abbrev S1x512x128 : Shape := ⟨3, ![1, 512, 128]⟩
abbrev S1x2048x256 : Shape := ⟨3, ![1, 2048, 256]⟩
abbrev S1x512x256 : Shape := ⟨3, ![1, 512, 256]⟩
abbrev S1x16x512x1 : Shape := ⟨4, ![1, 16, 512, 1]⟩
abbrev S1x1x2048 : Shape := ⟨3, ![1, 1, 2048]⟩
abbrev S1x2048 : Shape := ⟨2, ![1, 2048]⟩
abbrev S1x2048x1 : Shape := ⟨3, ![1, 2048, 1]⟩
abbrev S2048x1 : Shape := ⟨2, ![2048, 1]⟩
abbrev S2048x128 : Shape := ⟨2, ![2048, 128]⟩
abbrev S512x1 : Shape := ⟨2, ![512, 1]⟩
abbrev S2048x256 : Shape := ⟨2, ![2048, 256]⟩
abbrev S512x2048 : Shape := ⟨2, ![512, 2048]⟩
abbrev S512 : Shape := ⟨1, ![512]⟩
abbrev S512x256 : Shape := ⟨2, ![512, 256]⟩
abbrev S1x1x512x1 : Shape := ⟨4, ![1, 1, 512, 1]⟩
abbrev S512x128 : Shape := ⟨2, ![512, 128]⟩

abbrev nBuf : Space → Nat
  | .hbm => 18
  | .vmem => 19
  | .smem => 0
  | _ => 0

abbrev bufTy : (tb : Table) → Fin (tcTables nBuf tb) → BufTy
  | .hbm, ⟨0, _⟩ => ⟨S4x2048x128, .f32⟩
  | .hbm, ⟨1, _⟩ => ⟨S4x2048x3, .f32⟩
  | .hbm, ⟨2, _⟩ => ⟨S4x512x1, .i32⟩
  | .hbm, ⟨3, _⟩ => ⟨S131x256, .f32⟩
  | .hbm, ⟨4, _⟩ => ⟨S256, .f32⟩
  | .hbm, ⟨5, _⟩ => ⟨S4x3x2048, .f32⟩
  | .hbm, ⟨6, _⟩ => ⟨S128x256, .f32⟩
  | .hbm, ⟨7, _⟩ => ⟨S_, .f32⟩
  | .hbm, ⟨8, _⟩ => ⟨S8x256, .f32⟩
  | .hbm, ⟨9, _⟩ => ⟨S3x256, .f32⟩
  | .hbm, ⟨10, _⟩ => ⟨S_, .i32⟩
  | .hbm, ⟨11, _⟩ => ⟨S1, .i32⟩
  | .hbm, ⟨12, _⟩ => ⟨S8x256, .f32⟩
  | .hbm, ⟨13, _⟩ => ⟨S1x256, .f32⟩
  | .hbm, ⟨14, _⟩ => ⟨S4x512x128, .f32⟩
  | .hbm, ⟨15, _⟩ => ⟨S4x2048x256, .f32⟩
  | .hbm, ⟨16, _⟩ => ⟨S4x512x256, .f32⟩
  | .hbm, ⟨17, _⟩ => ⟨S4x16x512x1, .i32⟩
  | .local _ .vmem, ⟨0, _⟩ => ⟨S1x3x2048, .f32⟩
  | .local _ .vmem, ⟨1, _⟩ => ⟨S1x3x2048, .f32⟩
  | .local _ .vmem, ⟨2, _⟩ => ⟨S1x2048x3, .f32⟩
  | .local _ .vmem, ⟨3, _⟩ => ⟨S1x2048x3, .f32⟩
  | .local _ .vmem, ⟨4, _⟩ => ⟨S1x2048x128, .f32⟩
  | .local _ .vmem, ⟨5, _⟩ => ⟨S1x2048x128, .f32⟩
  | .local _ .vmem, ⟨6, _⟩ => ⟨S1x512x1, .i32⟩
  | .local _ .vmem, ⟨7, _⟩ => ⟨S1x512x1, .i32⟩
  | .local _ .vmem, ⟨8, _⟩ => ⟨S128x256, .f32⟩
  | .local _ .vmem, ⟨9, _⟩ => ⟨S8x256, .f32⟩
  | .local _ .vmem, ⟨10, _⟩ => ⟨S1x256, .f32⟩
  | .local _ .vmem, ⟨11, _⟩ => ⟨S1x512x128, .f32⟩
  | .local _ .vmem, ⟨12, _⟩ => ⟨S1x512x128, .f32⟩
  | .local _ .vmem, ⟨13, _⟩ => ⟨S1x2048x256, .f32⟩
  | .local _ .vmem, ⟨14, _⟩ => ⟨S1x2048x256, .f32⟩
  | .local _ .vmem, ⟨15, _⟩ => ⟨S1x512x256, .f32⟩
  | .local _ .vmem, ⟨16, _⟩ => ⟨S1x512x256, .f32⟩
  | .local _ .vmem, ⟨17, _⟩ => ⟨S1x16x512x1, .i32⟩
  | .local _ .vmem, ⟨18, _⟩ => ⟨S1x16x512x1, .i32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x512x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== NearRefIdeal.lean ====
abbrev S4x2048x128 : Shape := ⟨3, ![4, 2048, 128]⟩
abbrev S4x2048x3 : Shape := ⟨3, ![4, 2048, 3]⟩
abbrev S4x512x1 : Shape := ⟨3, ![4, 512, 1]⟩
abbrev S131x256 : Shape := ⟨2, ![131, 256]⟩
abbrev S256 : Shape := ⟨1, ![256]⟩
abbrev S4x512 : Shape := ⟨2, ![4, 512]⟩
abbrev S_ : Shape := ⟨0, ![]⟩
abbrev S4x512x3 : Shape := ⟨3, ![4, 512, 3]⟩
abbrev S4x512x1x3 : Shape := ⟨4, ![4, 512, 1, 3]⟩
abbrev S4x1x2048x3 : Shape := ⟨4, ![4, 1, 2048, 3]⟩
abbrev S4x512x2048x3 : Shape := ⟨4, ![4, 512, 2048, 3]⟩
abbrev S4x512x2048 : Shape := ⟨3, ![4, 512, 2048]⟩
abbrev S4x512x16 : Shape := ⟨3, ![4, 512, 16]⟩
abbrev S4 : Shape := ⟨1, ![4]⟩
abbrev S4x1x1 : Shape := ⟨3, ![4, 1, 1]⟩
abbrev S4x16x512 : Shape := ⟨3, ![4, 16, 512]⟩
abbrev S4x16x512x1 : Shape := ⟨4, ![4, 16, 512, 1]⟩
abbrev S4x2048x131 : Shape := ⟨3, ![4, 2048, 131]⟩
abbrev S4x2048x256 : Shape := ⟨3, ![4, 2048, 256]⟩
abbrev S3x256 : Shape := ⟨2, ![3, 256]⟩
abbrev S4x512x256 : Shape := ⟨3, ![4, 512, 256]⟩
abbrev S1x1x256 : Shape := ⟨3, ![1, 1, 256]⟩
abbrev S4x512x128 : Shape := ⟨3, ![4, 512, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x3, .f32⟩
  | .hbm, ⟨2, _⟩ => ⟨S4x512x1, .i32⟩
  | .hbm, ⟨3, _⟩ => ⟨S131x256, .f32⟩
  | .hbm, ⟨4, _⟩ => ⟨S256, .f32⟩
  | .hbm, ⟨5, _⟩ => ⟨S4x512, .i32⟩
  | .hbm, ⟨6, _⟩ => ⟨S_, .i32⟩
  | .hbm, ⟨7, _⟩ => ⟨S4x512, .i32⟩
  | .hbm, ⟨8, _⟩ => ⟨S4x512, .i1⟩
  | .hbm, ⟨9, _⟩ => ⟨S_, .i32⟩
  | .hbm, ⟨10, _⟩ => ⟨S4x512, .i32⟩
  | .hbm, ⟨11, _⟩ => ⟨S4x512, .i32⟩
  | .hbm, ⟨12, _⟩ => ⟨S4x512, .i32⟩
  | .hbm, ⟨13, _⟩ => ⟨S4x512x1, .i32⟩
  | .hbm, ⟨14, _⟩ => ⟨S4x512x3, .f32⟩
  | .hbm, ⟨15, _⟩ => ⟨S4x512x1x3, .f32⟩
  | .hbm, ⟨16, _⟩ => ⟨S4x1x2048x3, .f32⟩
  | .hbm, ⟨17, _⟩ => ⟨S4x512x2048x3, .f32⟩
  | .hbm, ⟨18, _⟩ => ⟨S4x512x2048x3, .f32⟩
  | .hbm, ⟨19, _⟩ => ⟨S4x512x2048x3, .f32⟩
  | .hbm, ⟨20, _⟩ => ⟨S4x512x2048x3, .f32⟩
  | .hbm, ⟨21, _⟩ => ⟨S_, .f32⟩
  | .hbm, ⟨22, _⟩ => ⟨S4x512x2048, .f32⟩
  | .hbm, ⟨23, _⟩ => ⟨S4x512x2048, .f32⟩
  | .hbm, ⟨24, _⟩ => ⟨S4x512x16, .f32⟩
  | .hbm, ⟨25, _⟩ => ⟨S4x512x16, .i32⟩
  | .hbm, ⟨26, _⟩ => ⟨S4, .i32⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S4x1x1, .i32⟩
  | .hbm, ⟨31, _⟩ => ⟨S4x512x16, .i32⟩
  | .hbm, ⟨32, _⟩ => ⟨S4x512x16, .i32⟩
  | .hbm, ⟨33, _⟩ => ⟨S4x16x512, .i32⟩
  | .hbm, ⟨34, _⟩ => ⟨S4x16x512x1, .i32⟩
  | .hbm, ⟨35, _⟩ => ⟨S4x2048x131, .f32⟩
  | .hbm, ⟨36, _⟩ => ⟨S4x2048x256, .f32⟩
  | .hbm, ⟨37, _⟩ => ⟨S3x256, .f32⟩
  | .hbm, ⟨38, _⟩ => ⟨S4x512x256, .f32⟩
  | .hbm, ⟨39, _⟩ => ⟨S1x1x256, .f32⟩
  | .hbm, ⟨40, _⟩ => ⟨S4x512x256, .f32⟩
  | .hbm, ⟨41, _⟩ => ⟨S4x512x256, .f32⟩
  | .hbm, ⟨42, _⟩ => ⟨S_, .i32⟩
  | .hbm, ⟨43, _⟩ => ⟨S_, .f32⟩
  | .hbm, ⟨44, _⟩ => ⟨S4x512x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_call0_v0 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Front.lean ====
abbrev S4x2048x128 : Shape := ⟨3, ![4, 2048, 128]⟩
abbrev S4x2048x3 : Shape := ⟨3, ![4, 2048, 3]⟩
abbrev S131x256 : Shape := ⟨2, ![131, 256]⟩
abbrev S256 : Shape := ⟨1, ![256]⟩
abbrev S4x3x2048 : Shape := ⟨3, ![4, 3, 2048]⟩
abbrev S4x1x2048 : Shape := ⟨3, ![4, 1, 2048]⟩
abbrev S4x2048 : Shape := ⟨2, ![4, 2048]⟩
abbrev S12x2048 : Shape := ⟨2, ![12, 2048]⟩
abbrev S4x512 : Shape := ⟨2, ![4, 512]⟩
abbrev S12x1 : Shape := ⟨2, ![12, 1]⟩
abbrev S4 : Shape := ⟨1, ![4]⟩
abbrev S4x1 : Shape := ⟨2, ![4, 1]⟩
abbrev S12 : Shape := ⟨1, ![12]⟩
abbrev S4x512x1 : Shape := ⟨3, ![4, 512, 1]⟩
abbrev S128x256 : Shape := ⟨2, ![128, 256]⟩
abbrev S_ : Shape := ⟨0, ![]⟩
abbrev S8x256 : Shape := ⟨2, ![8, 256]⟩
abbrev S3x256 : Shape := ⟨2, ![3, 256]⟩
abbrev S1 : Shape := ⟨1, ![1]⟩
abbrev S1x256 : Shape := ⟨2, ![1, 256]⟩
abbrev S4x512x128 : Shape := ⟨3, ![4, 512, 128]⟩
abbrev S4x2048x256 : Shape := ⟨3, ![4, 2048, 256]⟩
abbrev S4x512x256 : Shape := ⟨3, ![4, 512, 256]⟩
abbrev S4x16x512x1 : Shape := ⟨4, ![4, 16, 512, 1]⟩
abbrev S1x3x2048 : Shape := ⟨3, ![1, 3, 2048]⟩
abbrev S1x2048x3 : Shape := ⟨3, ![1, 2048, 3]⟩
abbrev S1x2048x128 : Shape := ⟨3, ![1, 2048, 128]⟩
abbrev S1x512x1 : Shape := ⟨3, ![1, 512, 1]⟩
abbrev S1x512x128 : Shape := ⟨3, ![1, 512, 128]⟩
abbrev S1x2048x256 : Shape := ⟨3, ![1, 2048, 256]⟩
abbrev S1x512x256 : Shape := ⟨3, ![1, 512, 256]⟩
abbrev S1x16x512x1 : Shape := ⟨4, ![1, 16, 512, 1]⟩
abbrev S1x1x2048 : Shape := ⟨3, ![1, 1, 2048]⟩
abbrev S1x2048 : Shape := ⟨2, ![1, 2048]⟩
abbrev S1x2048x1 : Shape := ⟨3, ![1, 2048, 1]⟩
abbrev S2048x1 : Shape := ⟨2, ![2048, 1]⟩
abbrev S2048x128 : Shape := ⟨2, ![2048, 128]⟩
abbrev S512x1 : Shape := ⟨2, ![512, 1]⟩
abbrev S2048x256 : Shape := ⟨2, ![2048, 256]⟩
abbrev S512x2048 : Shape := ⟨2, ![512, 2048]⟩
abbrev S512 : Shape := ⟨1, ![512]⟩
abbrev S512x256 : Shape := ⟨2, ![512, 256]⟩
abbrev S1x1x512x1 : Shape := ⟨4, ![1, 1, 512, 1]⟩
abbrev S512x128 : Shape := ⟨2, ![512, 128]⟩
abbrev S4x512x3 : Shape := ⟨3, ![4, 512, 3]⟩

abbrev nBuf : Space → Nat
  | .hbm => 27
  | .vmem => 21
  | .smem => 0
  | _ => 0

abbrev bufTy : (tb : Table) → Fin (tcTables nBuf tb) → BufTy
  | .hbm, ⟨0, _⟩ => ⟨S4x2048x128, .f32⟩
  | .hbm, ⟨1, _⟩ => ⟨S4x2048x3, .f32⟩
  | .hbm, ⟨2, _⟩ => ⟨S131x256, .f32⟩
  | .hbm, ⟨3, _⟩ => ⟨S256, .f32⟩
  | .hbm, ⟨4, _⟩ => ⟨S4x3x2048, .f32⟩
  | .hbm, ⟨5, _⟩ => ⟨S4x1x2048, .f32⟩
  | .hbm, ⟨6, _⟩ => ⟨S4x2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x2048, .f32⟩
  | .hbm, ⟨11, _⟩ => ⟨S12x2048, .f32⟩
  | .hbm, ⟨12, _⟩ => ⟨S4x512, .i32⟩
  | .hbm, ⟨13, _⟩ => ⟨S4x512x1, .i32⟩
  | .hbm, ⟨14, _⟩ => ⟨S128x256, .f32⟩
  | .hbm, ⟨15, _⟩ => ⟨S_, .f32⟩
  | .hbm, ⟨16, _⟩ => ⟨S8x256, .f32⟩
  | .hbm, ⟨17, _⟩ => ⟨S3x256, .f32⟩
  | .hbm, ⟨18, _⟩ => ⟨S_, .i32⟩
  | .hbm, ⟨19, _⟩ => ⟨S1, .i32⟩
  | .hbm, ⟨20, _⟩ => ⟨S8x256, .f32⟩
  | .hbm, ⟨21, _⟩ => ⟨S1x256, .f32⟩
  | .hbm, ⟨22, _⟩ => ⟨S4x512x128, .f32⟩
  | .hbm, ⟨23, _⟩ => ⟨S4x2048x256, .f32⟩
  | .hbm, ⟨24, _⟩ => ⟨S4x512x256, .f32⟩
  | .hbm, ⟨25, _⟩ => ⟨S4x16x512x1, .i32⟩
  | .hbm, ⟨26, _⟩ => ⟨S4x512x3, .f32⟩
  | .local _ .vmem, ⟨0, _⟩ => ⟨S12x2048, .f32⟩
  | .local _ .vmem, ⟨1, _⟩ => ⟨S4x512, .i32⟩
  | .local _ .vmem, ⟨2, _⟩ => ⟨S1x3x2048, .f32⟩
  | .local _ .vmem, ⟨3, _⟩ => ⟨S1x3x2048, .f32⟩
  | .local _ .vmem, ⟨4, _⟩ => ⟨S1x2048x3, .f32⟩
  | .local _ .vmem, ⟨5, _⟩ => ⟨S1x2048x3, .f32⟩
  | .local _ .vmem, ⟨6, _⟩ => ⟨S1x2048x128, .f32⟩
  | .local _ .vmem, ⟨7, _⟩ => ⟨S1x2048x128, .f32⟩
  | .local _ .vmem, ⟨8, _⟩ => ⟨S1x512x1, .i32⟩
  | .local _ .vmem, ⟨9, _⟩ => ⟨S1x512x1, .i32⟩
  | .local _ .vmem, ⟨10, _⟩ => ⟨S128x256, .f32⟩
  | .local _ .vmem, ⟨11, _⟩ => ⟨S8x256, .f32⟩
  | .local _ .vmem, ⟨12, _⟩ => ⟨S1x256, .f32⟩
  | .local _ .vmem, ⟨13, _⟩ => ⟨S1x512x128, .f32⟩
  | .local _ .vmem, ⟨14, _⟩ => ⟨S1x512x128, .f32⟩
  | .local _ .vmem, ⟨15, _⟩ => ⟨S1x2048x256, .f32⟩
  | .local _ .vmem, ⟨16, _⟩ => ⟨S1x2048x256, .f32⟩
  | .local _ .vmem, ⟨17, _⟩ => ⟨S1x512x256, .f32⟩
  | .local _ .vmem, ⟨18, _⟩ => ⟨S1x512x256, .f32⟩
  | .local _ .vmem, ⟨19, _⟩ => ⟨S1x16x512x1, .i32⟩
  | .local _ .vmem, ⟨20, _⟩ => ⟨S1x16x512x1, .i32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c511_i32 : BitVec 32 := 511#32
  let v7 : BitVec 32 := Scalar.addi c1_i32 c511_i32
  let c1_i32_1 : BitVec 32 := 1#32
  ⟨c1_i32, v7, c1_i32_1⟩
abbrev stage0_0 : Fin 1 → Memref sig .tc .vmem S12x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x3x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2048x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x16x512x1 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== FrontRefIdeal.lean ====
abbrev S4x2048x128 : Shape := ⟨3, ![4, 2048, 128]⟩
abbrev S4x2048x3 : Shape := ⟨3, ![4, 2048, 3]⟩
abbrev S131x256 : Shape := ⟨2, ![131, 256]⟩
abbrev S256 : Shape := ⟨1, ![256]⟩
abbrev S_ : Shape := ⟨0, ![]⟩
abbrev S4 : Shape := ⟨1, ![4]⟩
abbrev S4x2048 : Shape := ⟨2, ![4, 2048]⟩
abbrev S511x4 : Shape := ⟨2, ![511, 4]⟩
abbrev S4x1x1 : Shape := ⟨3, ![4, 1, 1]⟩
abbrev S1 : Shape := ⟨1, ![1]⟩
abbrev S1x1x1 : Shape := ⟨3, ![1, 1, 1]⟩
abbrev S4x1 : Shape := ⟨2, ![4, 1]⟩
abbrev S4x1x3 : Shape := ⟨3, ![4, 1, 3]⟩
abbrev S1x4 : Shape := ⟨2, ![1, 4]⟩
abbrev S4x511 : Shape := ⟨2, ![4, 511]⟩
abbrev S4x512 : Shape := ⟨2, ![4, 512]⟩
abbrev S4x512x1 : Shape := ⟨3, ![4, 512, 1]⟩
abbrev S4x512x3 : Shape := ⟨3, ![4, 512, 3]⟩
abbrev S4x512x1x3 : Shape := ⟨4, ![4, 512, 1, 3]⟩
abbrev S4x1x2048x3 : Shape := ⟨4, ![4, 1, 2048, 3]⟩
abbrev S4x512x2048x3 : Shape := ⟨4, ![4, 512, 2048, 3]⟩
abbrev S4x512x2048 : Shape := ⟨3, ![4, 512, 2048]⟩
abbrev S4x512x16 : Shape := ⟨3, ![4, 512, 16]⟩
abbrev S4x16x512 : Shape := ⟨3, ![4, 16, 512]⟩
abbrev S4x16x512x1 : Shape := ⟨4, ![4, 16, 512, 1]⟩
abbrev S4x2048x131 : Shape := ⟨3, ![4, 2048, 131]⟩
abbrev S4x2048x256 : Shape := ⟨3, ![4, 2048, 256]⟩
abbrev S3x256 : Shape := ⟨2, ![3, 256]⟩
abbrev S4x512x256 : Shape := ⟨3, ![4, 512, 256]⟩
abbrev S1x1x256 : Shape := ⟨3, ![1, 1, 256]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x3, .f32⟩
  | .hbm, ⟨2, _⟩ => ⟨S131x256, .f32⟩
  | .hbm, ⟨3, _⟩ => ⟨S256, .f32⟩
  | .hbm, ⟨4, _⟩ => ⟨S_, .i32⟩
  | .hbm, ⟨5, _⟩ => ⟨S4, .i32⟩
  | .hbm, ⟨6, _⟩ => ⟨S_, .f32⟩
  | .hbm, ⟨7, _⟩ => ⟨S4x2048, .f32⟩
  | .hbm, ⟨8, _⟩ => ⟨S_, .i32⟩
  | .hbm, ⟨9, _⟩ => ⟨S511x4, .i32⟩
  | .hbm, ⟨10, _⟩ => ⟨S_, .i32⟩
  | .hbm, ⟨11, _⟩ => ⟨S4x2048x3, .f32⟩
  | .hbm, ⟨12, _⟩ => ⟨S_, .i32⟩
  | .hbm, ⟨13, _⟩ => ⟨S4x2048, .f32⟩
  | .hbm, ⟨14, _⟩ => ⟨S4, .i32⟩
  | .hbm, ⟨15, _⟩ => ⟨S511x4, .i32⟩
  | .hbm, ⟨16, _⟩ => ⟨S_, .i32⟩
  | .hbm, ⟨17, _⟩ => ⟨S_, .i1⟩
  | .hbm, ⟨18, _⟩ => ⟨S4x1x1, .i32⟩
  | .hbm, ⟨19, _⟩ => ⟨S_, .i32⟩
  | .hbm, ⟨20, _⟩ => ⟨S4x1x1, .i32⟩
  | .hbm, ⟨21, _⟩ => ⟨S4x1x1, .i1⟩
  | .hbm, ⟨22, _⟩ => ⟨S_, .i32⟩
  | .hbm, ⟨23, _⟩ => ⟨S4x1x1, .i32⟩
  | .hbm, ⟨24, _⟩ => ⟨S4x1x1, .i32⟩
  | .hbm, ⟨25, _⟩ => ⟨S4x1x1, .i32⟩
  | .hbm, ⟨26, _⟩ => ⟨S1, .i32⟩
  | .hbm, ⟨27, _⟩ => ⟨S_, .i32⟩
  | .hbm, ⟨28, _⟩ => ⟨S4x1x1, .i32⟩
  | .hbm, ⟨29, _⟩ => ⟨S4x1x1, .i1⟩
  | .hbm, ⟨30, _⟩ => ⟨S1x1x1, .i32⟩
  | .hbm, ⟨31, _⟩ => ⟨S4x1x1, .i32⟩
  | .hbm, ⟨32, _⟩ => ⟨S4x1x1, .i1⟩
  | .hbm, ⟨33, _⟩ => ⟨S4x1x1, .i1⟩
  | .hbm, ⟨34, _⟩ => ⟨S_, .i1⟩
  | .hbm, ⟨35, _⟩ => ⟨S4x1, .i1⟩
  | .hbm, ⟨36, _⟩ => ⟨S4x1x3, .f32⟩
  | .hbm, ⟨37, _⟩ => ⟨S4x1x3, .i1⟩
  | .hbm, ⟨38, _⟩ => ⟨S_, .f32⟩
  | .hbm, ⟨39, _⟩ => ⟨S4x1x3, .f32⟩
  | .hbm, ⟨40, _⟩ => ⟨S4x1x3, .f32⟩
  | .hbm, ⟨41, _⟩ => ⟨S4x2048x3, .f32⟩
  | .hbm, ⟨42, _⟩ => ⟨S4x2048x3, .f32⟩
  | .hbm, ⟨43, _⟩ => ⟨S4x2048x3, .f32⟩
  | .hbm, ⟨44, _⟩ => ⟨S_, .f32⟩
  | .hbm, ⟨45, _⟩ => ⟨S4x2048, .f32⟩
  | .hbm, ⟨46, _⟩ => ⟨S4x2048, .f32⟩
  | .hbm, ⟨47, _⟩ => ⟨S4x2048, .i32⟩
  | .hbm, ⟨48, _⟩ => ⟨S_, .f32⟩
  | .hbm, ⟨49, _⟩ => ⟨S_, .i32⟩
  | .hbm, ⟨50, _⟩ => ⟨S4, .f32⟩
  | .hbm, ⟨51, _⟩ => ⟨S4, .i32⟩
  | .hbm, ⟨52, _⟩ => ⟨S1x4, .i32⟩
  | .hbm, ⟨53, _⟩ => ⟨S_, .i32⟩
  | .hbm, ⟨54, _⟩ => ⟨S511x4, .i32⟩
  | .hbm, ⟨55, _⟩ => ⟨S_, .i32⟩
  | .hbm, ⟨56, _⟩ => ⟨S_, .i32⟩
  | .hbm, ⟨57, _⟩ => ⟨S4x1, .i32⟩
  | .hbm, ⟨58, _⟩ => ⟨S4x511, .i32⟩
  | .hbm, ⟨59, _⟩ => ⟨S4x512, .i32⟩
  | .hbm, ⟨60, _⟩ => ⟨S_, .i32⟩
  | .hbm, ⟨61, _⟩ => ⟨S4x512, .i32⟩
  | .hbm, ⟨62, _⟩ => ⟨S4x512, .i1⟩
  | .hbm, ⟨63, _⟩ => ⟨S_, .i32⟩
  | .hbm, ⟨64, _⟩ => ⟨S4x512, .i32⟩
  | .hbm, ⟨65, _⟩ => ⟨S4x512, .i32⟩
  | .hbm, ⟨66, _⟩ => ⟨S4x512, .i32⟩
  | .hbm, ⟨67, _⟩ => ⟨S4x512x1, .i32⟩
  | .hbm, ⟨68, _⟩ => ⟨S4x512x3, .f32⟩
  | .hbm, ⟨69, _⟩ => ⟨S4x512x1x3, .f32⟩
  | .hbm, ⟨70, _⟩ => ⟨S4x1x2048x3, .f32⟩
  | .hbm, ⟨71, _⟩ => ⟨S4x512x2048x3, .f32⟩
  | .hbm, ⟨72, _⟩ => ⟨S4x512x2048x3, .f32⟩
  | .hbm, ⟨73, _⟩ => ⟨S4x512x2048x3, .f32⟩
  | .hbm, ⟨74, _⟩ => ⟨S4x512x2048x3, .f32⟩
  | .hbm, ⟨75, _⟩ => ⟨S_, .f32⟩
  | .hbm, ⟨76, _⟩ => ⟨S4x512x2048, .f32⟩
  | .hbm, ⟨77, _⟩ => ⟨S4x512x2048, .f32⟩
  | .hbm, ⟨78, _⟩ => ⟨S4x512x16, .f32⟩
  | .hbm, ⟨79, _⟩ => ⟨S4x512x16, .i32⟩
  | .hbm, ⟨80, _⟩ => ⟨S4, .i32⟩
  | .hbm, ⟨81, _⟩ => ⟨S_, .i32⟩
  | .hbm, ⟨82, _⟩ => ⟨S4, .i32⟩
  | .hbm, ⟨83, _⟩ => ⟨S4, .i32⟩
  | .hbm, ⟨84, _⟩ => ⟨S4x1x1, .i32⟩
  | .hbm, ⟨85, _⟩ => ⟨S4x512x16, .i32⟩
  | .hbm, ⟨86, _⟩ => ⟨S4x512x16, .i32⟩
  | .hbm, ⟨87, _⟩ => ⟨S4x16x512, .i32⟩
  | .hbm, ⟨88, _⟩ => ⟨S4x16x512x1, .i32⟩
  | .hbm, ⟨89, _⟩ => ⟨S4x2048x131, .f32⟩
  | .hbm, ⟨90, _⟩ => ⟨S4x2048x256, .f32⟩
  | .hbm, ⟨91, _⟩ => ⟨S3x256, .f32⟩
  | .hbm, ⟨92, _⟩ => ⟨S4x512x256, .f32⟩
  | .hbm, ⟨93, _⟩ => ⟨S1x1x256, .f32⟩
  | .hbm, ⟨94, _⟩ => ⟨S4x512x256, .f32⟩
  | .hbm, ⟨95, _⟩ => ⟨S4x512x256, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_c_1 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_while0c_c_10 : Ref sig .tc := ⟨.hbm, 16, rfl⟩
abbrev main_while0c_v37 : Ref sig .tc := ⟨.hbm, 17, rfl⟩
abbrev main_while0b_v37 : Ref sig .tc := ⟨.hbm, 18, rfl⟩
abbrev main_while0b_call0_c : Ref sig .tc := ⟨.hbm, 19, rfl⟩
abbrev main_while0b_call0_v0 : Ref sig .tc := ⟨.hbm, 20, rfl⟩
abbrev main_while0b_call0_v1 : Ref sig .tc := ⟨.hbm, 21, rfl⟩
abbrev main_while0b_call0_c_0 : Ref sig .tc := ⟨.hbm, 22, rfl⟩
abbrev main_while0b_call0_v2 : Ref sig .tc := ⟨.hbm, 23, rfl⟩
abbrev main_while0b_call0_v3 : Ref sig .tc := ⟨.hbm, 24, rfl⟩
abbrev main_while0b_call0_v4 : Ref sig .tc := ⟨.hbm, 25, rfl⟩
abbrev main_while0b_call0_c_1 : Ref sig .tc := ⟨.hbm, 26, rfl⟩
abbrev main_while0b_call0_c_2 : Ref sig .tc := ⟨.hbm, 27, rfl⟩
abbrev main_while0b_call0_v5 : Ref sig .tc := ⟨.hbm, 28, rfl⟩
abbrev main_while0b_call0_v6 : Ref sig .tc := ⟨.hbm, 29, rfl⟩
abbrev main_while0b_call0_v7 : Ref sig .tc := ⟨.hbm, 30, rfl⟩
abbrev main_while0b_call0_v8 : Ref sig .tc := ⟨.hbm, 31, rfl⟩
abbrev main_while0b_call0_v9 : Ref sig .tc := ⟨.hbm, 32, rfl⟩
abbrev main_while0b_call0_v10 : Ref sig .tc := ⟨.hbm, 33, rfl⟩
abbrev main_while0b_call0_c_3 : Ref sig .tc := ⟨.hbm, 34, rfl⟩
abbrev main_while0b_call0_v11 : Ref sig .tc := ⟨.hbm, 35, rfl⟩
abbrev main_while0b_call0_v12 : Ref sig .tc := ⟨.hbm, 36, rfl⟩
abbrev main_while0b_call0_v13 : Ref sig .tc := ⟨.hbm, 37, rfl⟩
abbrev main_while0b_call0_cst : Ref sig .tc := ⟨.hbm, 38, rfl⟩
abbrev main_while0b_call0_v14 : Ref sig .tc := ⟨.hbm, 39, rfl⟩
abbrev main_while0b_v38 : Ref sig .tc := ⟨.hbm, 40, rfl⟩
abbrev main_while0b_v39 : Ref sig .tc := ⟨.hbm, 41, rfl⟩
abbrev main_while0b_v40 : Ref sig .tc := ⟨.hbm, 42, rfl⟩
abbrev main_while0b_v41 : Ref sig .tc := ⟨.hbm, 43, rfl⟩
abbrev main_while0b_cst_10 : Ref sig .tc := ⟨.hbm, 44, rfl⟩
abbrev main_while0b_v42 : Ref sig .tc := ⟨.hbm, 45, rfl⟩
abbrev main_while0b_v43 : Ref sig .tc := ⟨.hbm, 46, rfl⟩
abbrev main_while0b_call1_v0 : Ref sig .tc := ⟨.hbm, 47, rfl⟩
abbrev main_while0b_call1_cst : Ref sig .tc := ⟨.hbm, 48, rfl⟩
abbrev main_while0b_call1_c : Ref sig .tc := ⟨.hbm, 49, rfl⟩
abbrev main_while0b_call1_v1_0 : Ref sig .tc := ⟨.hbm, 50, rfl⟩
abbrev main_while0b_v44 : Ref sig .tc := ⟨.hbm, 51, rfl⟩
abbrev main_while0b_call2_v0 : Ref sig .tc := ⟨.hbm, 52, rfl⟩
abbrev main_while0b_call2_c : Ref sig .tc := ⟨.hbm, 53, rfl⟩
abbrev main_while0b_v45 : Ref sig .tc := ⟨.hbm, 54, rfl⟩
abbrev main_while0b_c_11 : Ref sig .tc := ⟨.hbm, 55, rfl⟩
abbrev main_while0b_v46 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_c_2 : Ref sig .tc := ⟨.hbm, 60, rfl⟩
abbrev main_v7 : Ref sig .tc := ⟨.hbm, 61, rfl⟩
abbrev main_v8 : Ref sig .tc := ⟨.hbm, 62, rfl⟩
abbrev main_c_3 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_cst_4 : Ref sig .tc := ⟨.hbm, 75, rfl⟩
abbrev main_v20 : Ref sig .tc := ⟨.hbm, 76, rfl⟩
abbrev main_v21 : Ref sig .tc := ⟨.hbm, 77, rfl⟩
abbrev main_values : Ref sig .tc := ⟨.hbm, 78, rfl⟩
abbrev main_indices : Ref sig .tc := ⟨.hbm, 79, rfl⟩
abbrev main_v22 : Ref sig .tc := ⟨.hbm, 80, rfl⟩
abbrev main_c_5 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩

abbrev nD : Nat := 1
abbrev τ : Topo := Topo.v7x

variable {F : FTy → Type} [FloatOps F]

abbrev main_while0_count : Scf.Loop 32 := ⟨0#32, 511#32, 1#32⟩
-- ==== Proof.Tile.lean ====
/-
  The SparseCore gather: what ONE task moves. A task is one vector subcore `(core, subcore)`; it owns 1024 consecutive
  entries of the list and the 1024 rows of the result that they name, in eight chunks of 128.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev 𝒱₀ : Variants := Variants.none
abbrev 𝒱 : Variants := 𝒱₀.lift
abbrev v₀ : 𝒱.V := Sum.inl none

/-- The ghost state: the handshakes' rounds, the pipelined region's rounds, and the transfers' counters. -/
abbrev UH : Type := URounds (GSem nD τ sig) ℕ
abbrev UU : Type := UH × (URounds (GSem nD τ sig) Unit × Counters)

local notation "𝕄" => MT nD τ sig (HIx 1) (Elt F) ℕ UU ℕ

/-! ## The arrays and the scratch -/

abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

abbrev tV : Memref sig .scVector .hbm S8192x2x128 .f32 := Memref.whole main_v1_scv
abbrev iV : Memref sig .scVector .hbm S32768 .i32 := Memref.whole main_v2_scv
abbrev oV : Memref sig .scVector .hbm S32768x2x128 .f32 := Memref.whole main_v3_scv
abbrev l0V : Memref sig .scVector .vmem S128 .i32 := Memref.whole cc0_scratch0
abbrev l1V : Memref sig .scVector .vmem S128 .i32 := Memref.whole cc0_scratch1
abbrev r0V : Memref sig .scVector .vmem S128x2x128 .f32 := Memref.whole cc0_scratch2
abbrev r1V : Memref sig .scVector .vmem S128x2x128 .f32 := Memref.whole cc0_scratch3

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Chunk `r` of the task's part of the list, as the task names it: the first by one offset, the seven after it by another. -/
abbrev iC0 (L : grid0.Coords) : Memref sig .scVector .hbm S128 .i32 := (iV).slice (Rect.unit (s := S32768) (k0_off1 L) S128.size (k0_off1_inb L)) (fun _ => rfl)
abbrev iC (L : grid0.Coords) (r : Fin 7) : Memref sig .scVector .hbm S128 .i32 :=
  (iV).slice (Rect.unit (s := S32768) (k0_off2 L (BitVec.ofNat 32 (128 + 128 * r.val))) S128.size (k0_off2_inb L r)) (fun _ => rfl)
abbrev iC1 (L : grid0.Coords) : Memref sig .scVector .hbm S128 .i32 := (iV).slice (Rect.unit (s := S32768) (k0_off2 L 128#32) S128.size (k0_off2_inb L 0)) (fun _ => rfl)
abbrev iC2 (L : grid0.Coords) : Memref sig .scVector .hbm S128 .i32 := (iV).slice (Rect.unit (s := S32768) (k0_off2 L 256#32) S128.size (k0_off2_inb L 1)) (fun _ => rfl)
abbrev iC3 (L : grid0.Coords) : Memref sig .scVector .hbm S128 .i32 := (iV).slice (Rect.unit (s := S32768) (k0_off2 L 384#32) S128.size (k0_off2_inb L 2)) (fun _ => rfl)
abbrev iC4 (L : grid0.Coords) : Memref sig .scVector .hbm S128 .i32 := (iV).slice (Rect.unit (s := S32768) (k0_off2 L 512#32) S128.size (k0_off2_inb L 3)) (fun _ => rfl)
abbrev iC5 (L : grid0.Coords) : Memref sig .scVector .hbm S128 .i32 := (iV).slice (Rect.unit (s := S32768) (k0_off2 L 640#32) S128.size (k0_off2_inb L 4)) (fun _ => rfl)
abbrev iC6 (L : grid0.Coords) : Memref sig .scVector .hbm S128 .i32 := (iV).slice (Rect.unit (s := S32768) (k0_off2 L 768#32) S128.size (k0_off2_inb L 5)) (fun _ => rfl)
abbrev iC7 (L : grid0.Coords) : Memref sig .scVector .hbm S128 .i32 := (iV).slice (Rect.unit (s := S32768) (k0_off2 L 896#32) S128.size (k0_off2_inb L 6)) (fun _ => rfl)

/-- Chunk `r` of the task's part of the result. -/
abbrev oC0 (L : grid0.Coords) : Memref sig .scVector .hbm S128x2x128 .f32 := (oV).slice (Rect.unit (s := S32768x2x128) (k0_off3 L 0#32) S128x2x128.size (k0_off3_inb L 0)) (fun _ => rfl)
abbrev oC1 (L : grid0.Coords) : Memref sig .scVector .hbm S128x2x128 .f32 := (oV).slice (Rect.unit (s := S32768x2x128) (k0_off3 L 128#32) S128x2x128.size (k0_off3_inb L 1)) (fun _ => rfl)
abbrev oC2 (L : grid0.Coords) : Memref sig .scVector .hbm S128x2x128 .f32 := (oV).slice (Rect.unit (s := S32768x2x128) (k0_off3 L 256#32) S128x2x128.size (k0_off3_inb L 2)) (fun _ => rfl)
abbrev oC3 (L : grid0.Coords) : Memref sig .scVector .hbm S128x2x128 .f32 := (oV).slice (Rect.unit (s := S32768x2x128) (k0_off3 L 384#32) S128x2x128.size (k0_off3_inb L 3)) (fun _ => rfl)
abbrev oC4 (L : grid0.Coords) : Memref sig .scVector .hbm S128x2x128 .f32 := (oV).slice (Rect.unit (s := S32768x2x128) (k0_off3 L 512#32) S128x2x128.size (k0_off3_inb L 4)) (fun _ => rfl)
abbrev oC5 (L : grid0.Coords) : Memref sig .scVector .hbm S128x2x128 .f32 := (oV).slice (Rect.unit (s := S32768x2x128) (k0_off3 L 640#32) S128x2x128.size (k0_off3_inb L 5)) (fun _ => rfl)
abbrev oC6 (L : grid0.Coords) : Memref sig .scVector .hbm S128x2x128 .f32 := (oV).slice (Rect.unit (s := S32768x2x128) (k0_off3 L 768#32) S128x2x128.size (k0_off3_inb L 6)) (fun _ => rfl)
abbrev oC7 (L : grid0.Coords) : Memref sig .scVector .hbm S128x2x128 .f32 := (oV).slice (Rect.unit (s := S32768x2x128) (k0_off3 L 896#32) S128x2x128.size (k0_off3_inb L 7)) (fun _ => rfl)

/-- The twelve transfer cells that the task names, all at zero: two for the gathers, two for the copies out, one for each
    copy of a chunk of the list. -/
abbrev csem (k : Nat) (hk : k < 12 := by decide) : DmaSem sig := ⟨k, lt_of_lt_of_le hk (by decide : 12 ≤ sig.nDmaSem)⟩
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0)

variable [FloatOps F]

omit [FloatOps F] in
/-- A chunk of the list, read, is in range where the list is. -/
theorem read_lt (R : Rect S32768) (hR : ∀ a, R.stride a = 1) (ix : Buf (Elt F) (iLoc d))
    (hix : ∀ j : S32768.Idx, (ix j : BitVec 32).toNat < 8192) :
    ∀ x, (View.read (Elt F) ((iV).slice R hR).view ix x : BitVec 32).toNat < 8192 := by
  intro x
  rw [View.read_apply]
  exact hix _

/-! ### The values -/

/-- The place of the table that entry `w` of the list names, at the result's place `j`: row `w`, the same columns. -/
abbrev tix (w : BitVec 32) (j : S32768x2x128.Idx) : S8192x2x128.Idx := fun a => ⟨![w.toNat % 8192, (j 1).val, (j 2).val] a, by
  have h1 : (j 1).val < 2 := (j 1).isLt
  have h2 : (j 2).val < 128 := (j 2).isLt
  fin_cases a
  · exact Nat.mod_lt _ (by decide)
  · exact h1
  · exact h2⟩
/-- The place of the list that row `j 0` of the result reads. -/
abbrev lix (j : S32768x2x128.Idx) : S32768.Idx := fun a => ⟨(j 0).val, by
  have h0 : (j 0).val < 32768 := (j 0).isLt
  fin_cases a; exact h0⟩
/-- The gathered rows: row `r` of the result is the table's row that entry `r` of the list names. -/
def gat {α : Type} (tb : S8192x2x128.Idx → α) (ix : S32768.Idx → BitVec 32) : S32768x2x128.Idx → α :=
  fun j => tb (tix (ix (lix j)) j)

theorem rowMajor_S128 (k : Fin 128) : (S128.rowMajor.symm k 0).val = k.val := by
  revert k; decide +kernel

omit [FloatOps F] in
/-- What a gather fetches: through a list buffer filled with `pay`, row `x 0` is the table's row `pay (x 0)`. -/
theorem payload_val (tb : S8192x2x128.Idx → Elt F .f32) (words : S128.Idx → Elt F .i32)
    (hn : S128.numel = S128x2x128.size gathers_S8192x2x128_S128x2x128.axis') (hin : ∀ x, (words x : BitVec 32).toNat < 8192)
    (x : S128x2x128.Idx) (w : BitVec 32) (hw : ∀ y : S128.Idx, (y 0).val = (x 0).val → words y = w)
    (j : S8192x2x128.Idx) (h0 : (j 0).val = w.toNat) (h1 : (j 1).val = (x 1).val) (h2 : (j 2).val = (x 2).val) :
    SparseCore.gatherPayload (F := F) gathers_S8192x2x128_S128x2x128
        (View.read (Elt F) ((tV).slice (Rect.unit (s := S8192x2x128) ![0, 0, 0] S8192x2x128.size inb_S8192x2x128_S8192x2x128_0_0_0) (fun _ => rfl)).view tb)
        (SparseCore.rows words hn hin) x = tb j := by
  unfold SparseCore.gatherPayload
  rw [View.read_apply]
  refine (cast_eq _ _).trans (congrArg tb ?_)
  funext a
  apply Fin.ext
  match a with
  | 0 =>
    refine (?_ : 0 + 1 * (words (S128.rowMajor.symm _)).toNat = (j 0).val)
    rw [h0, ← hw (S128.rowMajor.symm (Fin.cast hn.symm (x 0))) (rowMajor_S128 _)]
    exact (Nat.zero_add _).trans (Nat.one_mul _)
  | 1 =>
    rw [h1]; exact (Nat.zero_add _).trans (Nat.one_mul _)
  | 2 =>
    rw [h2]; exact (Nat.zero_add _).trans (Nat.one_mul _)

omit [FloatOps F] in
/-- A chunk of the list, read, word by word. -/
theorem read_at (R : Rect S32768) (hR : ∀ a, R.stride a = 1) (ix : Buf (Elt F) (iLoc d)) (x : R.shape.Idx) (y : S32768.Idx)
    (h : R.off 0 + (x 0).val = (y 0).val) : View.read (Elt F) ((iV).slice R hR).view ix x = ix y := by
  rw [View.read_apply]
  refine (cast_eq _ _).trans (congrArg ix ?_)
  funext a
  apply Fin.ext
  have ha : a = (0 : Fin 1) := Subsingleton.elim (α := Fin 1) _ _
  subst ha
  refine Eq.trans ?_ h
  show R.off 0 + R.stride 0 * (x 0).val = _
  rw [hR 0, Nat.one_mul]

omit [FloatOps F] in
/-- A chunk of the result written with `W` holds the gathered rows, if `W` does, row by row. -/
theorem chunk_congr (R : Rect S32768x2x128) (hR : ∀ a, R.stride a = 1) (o0 : Buf (Elt F) (oLoc d))
    (W : R.shape.Idx → Elt F .f32) (G : S32768x2x128.Idx → Elt F .f32) (h : ∀ x, W x = G (R.emb x)) :
    ∀ i ∈ ((oV).slice R hR).view.set, ((oV).slice R hR).view.writes (Elt F) o0 [⟨Rect.whole R.shape, W⟩] i = G i := by
  intro i hi
  obtain ⟨x, -, rfl⟩ := Finset.mem_map.mp hi
  have e := View.read_writes_cons_emb ((oV).slice R hR).view o0 (Rect.whole _) W [] x
  rw [Rect.emb_whole_apply, View.read_apply] at e
  exact (cast_eq _ _).symm.trans (e.trans (h x))

omit [FloatOps F] in
/-- A row of a gathered chunk is the result's row: the list chunk and the result chunk begin at the same place `n`. -/
theorem row_val (tb : S8192x2x128.Idx → Elt F .f32) (ix : Buf (Elt F) (iLoc d)) (hix : ∀ j : S32768.Idx, (ix j : BitVec 32).toNat < 8192)
    (n : ℕ) (oi : Fin 1 → ℕ) (hi : ∀ a, oi a + S128.size a ≤ S32768.size a) (hoi : oi 0 = n)
    (oo : Fin 3 → ℕ) (ho : ∀ a, oo a + S128x2x128.size a ≤ S32768x2x128.size a) (h0 : oo 0 = n) (h1 : oo 1 = 0) (h2 : oo 2 = 0)
    (words : S128.Idx → Elt F .i32) (hn : S128.numel = S128x2x128.size gathers_S8192x2x128_S128x2x128.axis')
    (hin : ∀ x, (words x : BitVec 32).toNat < 8192)
    (hw : ∀ y, words y = View.read (Elt F) ((iV).slice (Rect.unit (s := S32768) oi S128.size hi) (fun _ => rfl)).view ix y)
    (x : S128x2x128.Idx) :
    SparseCore.gatherPayload (F := F) gathers_S8192x2x128_S128x2x128
        (View.read (Elt F) ((tV).slice (Rect.unit (s := S8192x2x128) ![0, 0, 0] S8192x2x128.size inb_S8192x2x128_S8192x2x128_0_0_0) (fun _ => rfl)).view tb)
        (SparseCore.rows words hn hin) x
      = gat tb ix ((Rect.unit (s := S32768x2x128) oo S128x2x128.size ho).emb x) := by
  have e (a) : ((Rect.unit (s := S32768x2x128) oo S128x2x128.size ho).emb x a).val = oo a + (x a).val := by
    show oo a + 1 * (x a).val = _
    rw [Nat.one_mul]
  refine payload_val tb words hn hin x (ix (lix ((Rect.unit (s := S32768x2x128) oo S128x2x128.size ho).emb x))) (fun y hy => ?_) _ ?_ ?_ ?_
  · refine (hw y).trans (read_at d (Rect.unit (s := S32768) oi S128.size hi) (fun _ => rfl) ix y _ ?_)
    show oi 0 + (y 0).val = ((Rect.unit (s := S32768x2x128) oo S128x2x128.size ho).emb x 0).val
    rw [e, hoi, h0, hy]
  · exact Nat.mod_eq_of_lt (hix _)
  · show ((Rect.unit (s := S32768x2x128) oo S128x2x128.size ho).emb x 1).val = _
    rw [e, h1, Nat.zero_add]
  · show ((Rect.unit (s := S32768x2x128) oo S128x2x128.size ho).emb x 2).val = _
    rw [e, h2, Nat.zero_add]

omit [FloatOps F] in
theorem words0 (g : Buf (Elt F) ((l0V).view.loc (VT d L))) (pay : S128.Idx → Elt F .i32) (ps) (x) :
    View.read (Elt F) (l0V).view ((l0V).view.writes (Elt F) g (⟨Rect.whole cc0_scratch0.ty.shape, pay⟩ :: ps)) x = pay x := by
  have e := View.read_writes_cons_emb (l0V).view g (Rect.whole _) pay ps x
  rw [Rect.emb_whole_apply] at e
  exact e
omit [FloatOps F] in
theorem words1 (g : Buf (Elt F) ((l1V).view.loc (VT d L))) (pay : S128.Idx → Elt F .i32) (ps) (x) :
    View.read (Elt F) (l1V).view ((l1V).view.writes (Elt F) g (⟨Rect.whole cc0_scratch1.ty.shape, pay⟩ :: ps)) x = pay x := by
  have e := View.read_writes_cons_emb (l1V).view g (Rect.whole _) pay ps x
  rw [Rect.emb_whole_apply] at e
  exact e
omit [FloatOps F] in
theorem held0 (g : Buf (Elt F) ((r0V).view.loc (VT d L))) (pay : S128x2x128.Idx → Elt F .f32) (ps) (x) :
    View.read (Elt F) (r0V).view ((r0V).view.writes (Elt F) g (⟨Rect.whole cc0_scratch2.ty.shape, pay⟩ :: ps)) x = pay x := by
  have e := View.read_writes_cons_emb (r0V).view g (Rect.whole _) pay ps x
  rw [Rect.emb_whole_apply] at e
  exact e
omit [FloatOps F] in
theorem held1 (g : Buf (Elt F) ((r1V).view.loc (VT d L))) (pay : S128x2x128.Idx → Elt F .f32) (ps) (x) :
    View.read (Elt F) (r1V).view ((r1V).view.writes (Elt F) g (⟨Rect.whole cc0_scratch3.ty.shape, pay⟩ :: ps)) x = pay x := by
  have e := View.read_writes_cons_emb (r1V).view g (Rect.whole _) pay ps x
  rw [Rect.emb_whole_apply] at e
  exact e

omit [FloatOps F] in
/-- A list buffer that a copy has filled holds words in range wherever the copied words are in range. -/
theorem inb0 (g : Buf (Elt F) ((l0V).view.loc (VT d L))) (pay : S128.Idx → Elt F .i32) (ps) (h : ∀ x, (pay x : BitVec 32).toNat < 8192) :
    ∀ x, (View.read (Elt F) (l0V).view ((l0V).view.writes (Elt F) g (⟨Rect.whole cc0_scratch0.ty.shape, pay⟩ :: ps)) x : BitVec 32).toNat < 8192 :=
  fun x => (congrArg BitVec.toNat (words0 d L g pay ps x)).trans_lt (h x)
omit [FloatOps F] in
theorem inb1 (g : Buf (Elt F) ((l1V).view.loc (VT d L))) (pay : S128.Idx → Elt F .i32) (ps) (h : ∀ x, (pay x : BitVec 32).toNat < 8192) :
    ∀ x, (View.read (Elt F) (l1V).view ((l1V).view.writes (Elt F) g (⟨Rect.whole cc0_scratch1.ty.shape, pay⟩ :: ps)) x : BitVec 32).toNat < 8192 :=
  fun x => (congrArg BitVec.toNat (words1 d L g pay ps x)).trans_lt (h x)

theorem off1_0 (L : grid0.Coords) : k0_off1 L 0 = 2048 * (L 1).val + 1024 * (L 0).val := by rw [k0_off1_eq]; rfl
theorem off2_0 (L : grid0.Coords) (r : Fin 7) : k0_off2 L (BitVec.ofNat 32 (128 + 128 * r.val)) 0 = 2048 * (L 1).val + 1024 * (L 0).val + 128 * r.val + 128 := by rw [k0_off2_eq]; rfl
theorem off3_0 (L : grid0.Coords) (r : Fin 8) : k0_off3 L (BitVec.ofNat 32 (128 * r.val)) 0 = 2048 * (L 1).val + 1024 * (L 0).val + 128 * r.val := by rw [k0_off3_eq]; rfl
theorem off3_1 (L : grid0.Coords) (r : Fin 8) : k0_off3 L (BitVec.ofNat 32 (128 * r.val)) 1 = 0 := by rw [k0_off3_eq]; rfl
theorem off3_2 (L : grid0.Coords) (r : Fin 8) : k0_off3 L (BitVec.ofNat 32 (128 * r.val)) 2 = 0 := by rw [k0_off3_eq]; rfl

set_option maxHeartbeats 4000000 in
theorem tile_run (q0 q1 : PosShare TreeShare) (tb : Buf (Elt F) (tLoc d)) (ix : Buf (Elt F) (iLoc d)) (o0 : Buf (Elt F) (oLoc d))
    (hix : ∀ j : S32768.Idx, (ix j : BitVec 32).toNat < 8192)
    (O : CellTallies nD τ sig (HIx 1)) (W : Waits sig (HIx 1))
    (a0 : Buf (Elt F) ((l0V).view.loc (VT d L))) (a1 : Buf (Elt F) ((l1V).view.loc (VT d L)))
    (b0 : Buf (Elt F) ((r0V).view.loc (VT d L))) (b1 : Buf (Elt F) ((r1V).view.loc (VT d L))) :
    (iprop(Transfers.MayWaits (VT d L) (default : HIx 1) O
        ∗ ((tV).view.loc (VT d L) ↦{q0} tb)
        ∗ ((tV).view.loc (VT d L) ↦{q1} tb)
        ∗ ((iC0 L).view.loc (VT d L) ↦[(iC0 L).view.set]{fullShare} ix)
        ∗ ((iC1 L).view.loc (VT d L) ↦[(iC1 L).view.set]{fullShare} ix)
        ∗ ((iC2 L).view.loc (VT d L) ↦[(iC2 L).view.set]{fullShare} ix)
        ∗ ((iC3 L).view.loc (VT d L) ↦[(iC3 L).view.set]{fullShare} ix)
        ∗ ((iC4 L).view.loc (VT d L) ↦[(iC4 L).view.set]{fullShare} ix)
        ∗ ((iC5 L).view.loc (VT d L) ↦[(iC5 L).view.set]{fullShare} ix)
        ∗ ((iC6 L).view.loc (VT d L) ↦[(iC6 L).view.set]{fullShare} ix)
        ∗ ((iC7 L).view.loc (VT d L) ↦[(iC7 L).view.set]{fullShare} ix)
        ∗ ((oC0 L).view.loc (VT d L) ↦[(oC0 L).view.set]{fullShare} o0)
        ∗ ((oC1 L).view.loc (VT d L) ↦[(oC1 L).view.set]{fullShare} o0)
        ∗ ((oC2 L).view.loc (VT d L) ↦[(oC2 L).view.set]{fullShare} o0)
        ∗ ((oC3 L).view.loc (VT d L) ↦[(oC3 L).view.set]{fullShare} o0)
        ∗ ((oC4 L).view.loc (VT d L) ↦[(oC4 L).view.set]{fullShare} o0)
        ∗ ((oC5 L).view.loc (VT d L) ↦[(oC5 L).view.set]{fullShare} o0)
        ∗ ((oC6 L).view.loc (VT d L) ↦[(oC6 L).view.set]{fullShare} o0)
        ∗ ((oC7 L).view.loc (VT d L) ↦[(oC7 L).view.set]{fullShare} o0)
        ∗ ((l0V).view.loc (VT d L) ↦[(l0V).view.set]{fullShare} a0)
        ∗ ((l1V).view.loc (VT d L) ↦[(l1V).view.set]{fullShare} a1)
        ∗ ((r0V).view.loc (VT d L) ↦[(r0V).view.set]{fullShare} b0)
        ∗ ((r1V).view.loc (VT d L) ↦[(r1V).view.set]{fullShare} b1)
        ∗ cells0 d L
        ∗ owes (VT d L) O W) : sProp 𝕄)
      ⊢ wp frame (wpE (defs₀ (F := F)) 𝒱₀ (VT d L) none) Set.univ
          (cc0__sc_gather_body L tV (Memref.isWhole_whole _) iV (Memref.isWhole_whole _) oV (Memref.isWhole_whole _)
            l0V (Memref.isWhole_whole _) l1V (Memref.isWhole_whole _) r0V (Memref.isWhole_whole _) r1V (Memref.isWhole_whole _)
            cc0_scratch4 cc0_scratch5 cc0_scratch6 cc0_scratch7 cc0_scoped0 cc0_scoped1 cc0_scoped2 cc0_scoped3 cc0_scoped4 cc0_scoped5 cc0_scoped6 cc0_scoped7)
          fun _ => iprop(((tV).view.loc (VT d L) ↦{q0} tb)
        ∗ ((tV).view.loc (VT d L) ↦{q1} tb)
        ∗ ((iC0 L).view.loc (VT d L) ↦[(iC0 L).view.set]{fullShare} ix)
        ∗ ((iC1 L).view.loc (VT d L) ↦[(iC1 L).view.set]{fullShare} ix)
        ∗ ((iC2 L).view.loc (VT d L) ↦[(iC2 L).view.set]{fullShare} ix)
        ∗ ((iC3 L).view.loc (VT d L) ↦[(iC3 L).view.set]{fullShare} ix)
        ∗ ((iC4 L).view.loc (VT d L) ↦[(iC4 L).view.set]{fullShare} ix)
        ∗ ((iC5 L).view.loc (VT d L) ↦[(iC5 L).view.set]{fullShare} ix)
        ∗ ((iC6 L).view.loc (VT d L) ↦[(iC6 L).view.set]{fullShare} ix)
        ∗ ((iC7 L).view.loc (VT d L) ↦[(iC7 L).view.set]{fullShare} ix)
        ∗ ((oC0 L).view.loc (VT d L) ↦[(oC0 L).view.set]{fullShare} (gat tb ix : Buf (Elt F) (oLoc d)))
        ∗ ((oC1 L).view.loc (VT d L) ↦[(oC1 L).view.set]{fullShare} (gat tb ix : Buf (Elt F) (oLoc d)))
        ∗ ((oC2 L).view.loc (VT d L) ↦[(oC2 L).view.set]{fullShare} (gat tb ix : Buf (Elt F) (oLoc d)))
        ∗ ((oC3 L).view.loc (VT d L) ↦[(oC3 L).view.set]{fullShare} (gat tb ix : Buf (Elt F) (oLoc d)))
        ∗ ((oC4 L).view.loc (VT d L) ↦[(oC4 L).view.set]{fullShare} (gat tb ix : Buf (Elt F) (oLoc d)))
        ∗ ((oC5 L).view.loc (VT d L) ↦[(oC5 L).view.set]{fullShare} (gat tb ix : Buf (Elt F) (oLoc d)))
        ∗ ((oC6 L).view.loc (VT d L) ↦[(oC6 L).view.set]{fullShare} (gat tb ix : Buf (Elt F) (oLoc d)))
        ∗ ((oC7 L).view.loc (VT d L) ↦[(oC7 L).view.set]{fullShare} (gat tb ix : Buf (Elt F) (oLoc d)))
        ∗ (∃ g, (l0V).view.loc (VT d L) ↦[(l0V).view.set]{fullShare} g)
        ∗ (∃ g, (l1V).view.loc (VT d L) ↦[(l1V).view.set]{fullShare} g)
        ∗ (∃ g, (r0V).view.loc (VT d L) ↦[(r0V).view.set]{fullShare} g)
        ∗ (∃ g, (r1V).view.loc (VT d L) ↦[(r1V).view.set]{fullShare} g)
        ∗ cells0 d L
        ∗ ∃ W', owes (VT d L) O W') := by
  iintro ⟨#Hmw, HT0, HT1, HI0, HI1, HI2, HI3, HI4, HI5, HI6, HI7, HO0, HO1, HO2, HO3, HO4, HO5, HO6, HO7, HA0, HA1, HB0, HB1,
    ⟨Hc0, Hc1, Hc2, Hc3, Hc4, Hc5, Hc6, Hc7, Hc8, Hc9, Hc10, Hc11⟩, HO⟩
  sl_unfold [cc0__sc_gather_body]
  sl_exec
  have hin0 := fun g ps => inb0 d L g (tile_run.sl.dma0 d L ix) ps (fun x => read_lt d (Rect.unit (s := S32768) (k0_off1 L) S128.size (k0_off1_inb L)) (fun _ => rfl) ix hix x)
  sl_exec
  have hin1 := fun g ps => inb1 d L g (tile_run.sl.dma0_1 d L ix) ps (fun x => read_lt d (Rect.unit (s := S32768) (k0_off2 L 128#32) S128.size (k0_off2_inb L 0)) (fun _ => rfl) ix hix x)
  sl_exec
  have hin2 := fun g ps => inb0 d L g (tile_run.sl.dma0_3 d L ix) ps (fun x => read_lt d (Rect.unit (s := S32768) (k0_off2 L 256#32) S128.size (k0_off2_inb L 1)) (fun _ => rfl) ix hix x)
  sl_exec
  have hin3 := fun g ps => inb1 d L g (tile_run.sl.dma0_5 d L ix) ps (fun x => read_lt d (Rect.unit (s := S32768) (k0_off2 L 384#32) S128.size (k0_off2_inb L 2)) (fun _ => rfl) ix hix x)
  sl_exec
  have hin4 := fun g ps => inb0 d L g (tile_run.sl.dma0_7 d L ix) ps (fun x => read_lt d (Rect.unit (s := S32768) (k0_off2 L 512#32) S128.size (k0_off2_inb L 3)) (fun _ => rfl) ix hix x)
  sl_exec
  have hin5 := fun g ps => inb1 d L g (tile_run.sl.dma0_9 d L ix) ps (fun x => read_lt d (Rect.unit (s := S32768) (k0_off2 L 640#32) S128.size (k0_off2_inb L 4)) (fun _ => rfl) ix hix x)
  sl_exec
  have hin6 := fun g ps => inb0 d L g (tile_run.sl.dma0_11 d L ix) ps (fun x => read_lt d (Rect.unit (s := S32768) (k0_off2 L 768#32) S128.size (k0_off2_inb L 5)) (fun _ => rfl) ix hix x)
  sl_exec
  have hin7 := fun g ps => inb1 d L g (tile_run.sl.dma0_13 d L ix) ps (fun x => read_lt d (Rect.unit (s := S32768) (k0_off2 L 896#32) S128.size (k0_off2_inb L 6)) (fun _ => rfl) ix hix x)
  sl_exec
  have hv0 : ∀ x : S128x2x128.Idx, tile_run.sl.dma0_2 d L tb ix b0 hin0 x
      = (gat tb ix : Buf (Elt F) (oLoc d)) ((Rect.unit (s := S32768x2x128) (k0_off3 L 0#32) S128x2x128.size (k0_off3_inb L 0)).emb x) := fun x =>
    (held0 d L b0 _ _ x).trans (row_val d tb ix hix _ (k0_off1 L) (k0_off1_inb L) (off1_0 L) (k0_off3 L 0#32) (k0_off3_inb L 0) (off3_0 L 0) (off3_1 L 0) (off3_2 L 0) _ _ _
      (fun y => words0 d L _ _ _ y) x)
  have hp0 : ((oC0 L).view.loc (VT d L) ↦[(oC0 L).view.set]{fullShare} (oC0 L).view.writes (Elt F) o0 [⟨Rect.whole S128x2x128, tile_run.sl.dma0_2 d L tb ix b0 hin0⟩] : sProp 𝕄)
      = ((oC0 L).view.loc (VT d L) ↦[(oC0 L).view.set]{fullShare} (gat tb ix : Buf (Elt F) (oLoc d))) :=
    pointsTo_congr (ℓ := oLoc d) (q := fullShare) (chunk_congr d (Rect.unit (s := S32768x2x128) (k0_off3 L 0#32) S128x2x128.size (k0_off3_inb L 0)) (fun _ => rfl) o0 _ _ hv0)
  ihave HO0 := (Entails.of_eq hp0) $$ HO0
  have hv1 : ∀ x : S128x2x128.Idx, tile_run.sl.dma0_4 d L tb ix b1 hin1 x
      = (gat tb ix : Buf (Elt F) (oLoc d)) ((Rect.unit (s := S32768x2x128) (k0_off3 L 128#32) S128x2x128.size (k0_off3_inb L 1)).emb x) := fun x =>
    (held1 d L b1 _ _ x).trans (row_val d tb ix hix _ (k0_off2 L 128#32) (k0_off2_inb L 0) (off2_0 L 0) (k0_off3 L 128#32) (k0_off3_inb L 1) (off3_0 L 1) (off3_1 L 1) (off3_2 L 1) _ _ _
      (fun y => words1 d L _ _ _ y) x)
  have hp1 : ((oC1 L).view.loc (VT d L) ↦[(oC1 L).view.set]{fullShare} (oC1 L).view.writes (Elt F) o0 [⟨Rect.whole S128x2x128, tile_run.sl.dma0_4 d L tb ix b1 hin1⟩] : sProp 𝕄)
      = ((oC1 L).view.loc (VT d L) ↦[(oC1 L).view.set]{fullShare} (gat tb ix : Buf (Elt F) (oLoc d))) :=
    pointsTo_congr (ℓ := oLoc d) (q := fullShare) (chunk_congr d (Rect.unit (s := S32768x2x128) (k0_off3 L 128#32) S128x2x128.size (k0_off3_inb L 1)) (fun _ => rfl) o0 _ _ hv1)
  ihave HO1 := (Entails.of_eq hp1) $$ HO1
  have hv2 : ∀ x : S128x2x128.Idx, tile_run.sl.dma0_6 d L tb ix b0 hin0 hin2 x
      = (gat tb ix : Buf (Elt F) (oLoc d)) ((Rect.unit (s := S32768x2x128) (k0_off3 L 256#32) S128x2x128.size (k0_off3_inb L 2)).emb x) := fun x =>
    (held0 d L b0 _ _ x).trans (row_val d tb ix hix _ (k0_off2 L 256#32) (k0_off2_inb L 1) (off2_0 L 1) (k0_off3 L 256#32) (k0_off3_inb L 2) (off3_0 L 2) (off3_1 L 2) (off3_2 L 2) _ _ _
      (fun y => words0 d L _ _ _ y) x)
  have hp2 : ((oC2 L).view.loc (VT d L) ↦[(oC2 L).view.set]{fullShare} (oC2 L).view.writes (Elt F) o0 [⟨Rect.whole S128x2x128, tile_run.sl.dma0_6 d L tb ix b0 hin0 hin2⟩] : sProp 𝕄)
      = ((oC2 L).view.loc (VT d L) ↦[(oC2 L).view.set]{fullShare} (gat tb ix : Buf (Elt F) (oLoc d))) :=
    pointsTo_congr (ℓ := oLoc d) (q := fullShare) (chunk_congr d (Rect.unit (s := S32768x2x128) (k0_off3 L 256#32) S128x2x128.size (k0_off3_inb L 2)) (fun _ => rfl) o0 _ _ hv2)
  ihave HO2 := (Entails.of_eq hp2) $$ HO2
  have hv3 : ∀ x : S128x2x128.Idx, tile_run.sl.dma0_8 d L tb ix b1 hin1 hin3 x
      = (gat tb ix : Buf (Elt F) (oLoc d)) ((Rect.unit (s := S32768x2x128) (k0_off3 L 384#32) S128x2x128.size (k0_off3_inb L 3)).emb x) := fun x =>
    (held1 d L b1 _ _ x).trans (row_val d tb ix hix _ (k0_off2 L 384#32) (k0_off2_inb L 2) (off2_0 L 2) (k0_off3 L 384#32) (k0_off3_inb L 3) (off3_0 L 3) (off3_1 L 3) (off3_2 L 3) _ _ _
      (fun y => words1 d L _ _ _ y) x)
  have hp3 : ((oC3 L).view.loc (VT d L) ↦[(oC3 L).view.set]{fullShare} (oC3 L).view.writes (Elt F) o0 [⟨Rect.whole S128x2x128, tile_run.sl.dma0_8 d L tb ix b1 hin1 hin3⟩] : sProp 𝕄)
      = ((oC3 L).view.loc (VT d L) ↦[(oC3 L).view.set]{fullShare} (gat tb ix : Buf (Elt F) (oLoc d))) :=
    pointsTo_congr (ℓ := oLoc d) (q := fullShare) (chunk_congr d (Rect.unit (s := S32768x2x128) (k0_off3 L 384#32) S128x2x128.size (k0_off3_inb L 3)) (fun _ => rfl) o0 _ _ hv3)
  ihave HO3 := (Entails.of_eq hp3) $$ HO3
  have hv4 : ∀ x : S128x2x128.Idx, tile_run.sl.dma0_10 d L tb ix b0 hin0 hin2 hin4 x
      = (gat tb ix : Buf (Elt F) (oLoc d)) ((Rect.unit (s := S32768x2x128) (k0_off3 L 512#32) S128x2x128.size (k0_off3_inb L 4)).emb x) := fun x =>
    (held0 d L b0 _ _ x).trans (row_val d tb ix hix _ (k0_off2 L 512#32) (k0_off2_inb L 3) (off2_0 L 3) (k0_off3 L 512#32) (k0_off3_inb L 4) (off3_0 L 4) (off3_1 L 4) (off3_2 L 4) _ _ _
      (fun y => words0 d L _ _ _ y) x)
  have hp4 : ((oC4 L).view.loc (VT d L) ↦[(oC4 L).view.set]{fullShare} (oC4 L).view.writes (Elt F) o0 [⟨Rect.whole S128x2x128, tile_run.sl.dma0_10 d L tb ix b0 hin0 hin2 hin4⟩] : sProp 𝕄)
      = ((oC4 L).view.loc (VT d L) ↦[(oC4 L).view.set]{fullShare} (gat tb ix : Buf (Elt F) (oLoc d))) :=
    pointsTo_congr (ℓ := oLoc d) (q := fullShare) (chunk_congr d (Rect.unit (s := S32768x2x128) (k0_off3 L 512#32) S128x2x128.size (k0_off3_inb L 4)) (fun _ => rfl) o0 _ _ hv4)
  ihave HO4 := (Entails.of_eq hp4) $$ HO4
  have hv5 : ∀ x : S128x2x128.Idx, tile_run.sl.dma0_12 d L tb ix b1 hin1 hin3 hin5 x
      = (gat tb ix : Buf (Elt F) (oLoc d)) ((Rect.unit (s := S32768x2x128) (k0_off3 L 640#32) S128x2x128.size (k0_off3_inb L 5)).emb x) := fun x =>
    (held1 d L b1 _ _ x).trans (row_val d tb ix hix _ (k0_off2 L 640#32) (k0_off2_inb L 4) (off2_0 L 4) (k0_off3 L 640#32) (k0_off3_inb L 5) (off3_0 L 5) (off3_1 L 5) (off3_2 L 5) _ _ _
      (fun y => words1 d L _ _ _ y) x)
  have hp5 : ((oC5 L).view.loc (VT d L) ↦[(oC5 L).view.set]{fullShare} (oC5 L).view.writes (Elt F) o0 [⟨Rect.whole S128x2x128, tile_run.sl.dma0_12 d L tb ix b1 hin1 hin3 hin5⟩] : sProp 𝕄)
      = ((oC5 L).view.loc (VT d L) ↦[(oC5 L).view.set]{fullShare} (gat tb ix : Buf (Elt F) (oLoc d))) :=
    pointsTo_congr (ℓ := oLoc d) (q := fullShare) (chunk_congr d (Rect.unit (s := S32768x2x128) (k0_off3 L 640#32) S128x2x128.size (k0_off3_inb L 5)) (fun _ => rfl) o0 _ _ hv5)
  ihave HO5 := (Entails.of_eq hp5) $$ HO5
  have hv6 : ∀ x : S128x2x128.Idx, tile_run.sl.dma0_14 d L tb ix b0 hin0 hin2 hin4 hin6 x
      = (gat tb ix : Buf (Elt F) (oLoc d)) ((Rect.unit (s := S32768x2x128) (k0_off3 L 768#32) S128x2x128.size (k0_off3_inb L 6)).emb x) := fun x =>
    (held0 d L b0 _ _ x).trans (row_val d tb ix hix _ (k0_off2 L 768#32) (k0_off2_inb L 5) (off2_0 L 5) (k0_off3 L 768#32) (k0_off3_inb L 6) (off3_0 L 6) (off3_1 L 6) (off3_2 L 6) _ _ _
      (fun y => words0 d L _ _ _ y) x)
  have hp6 : ((oC6 L).view.loc (VT d L) ↦[(oC6 L).view.set]{fullShare} (oC6 L).view.writes (Elt F) o0 [⟨Rect.whole S128x2x128, tile_run.sl.dma0_14 d L tb ix b0 hin0 hin2 hin4 hin6⟩] : sProp 𝕄)
      = ((oC6 L).view.loc (VT d L) ↦[(oC6 L).view.set]{fullShare} (gat tb ix : Buf (Elt F) (oLoc d))) :=
    pointsTo_congr (ℓ := oLoc d) (q := fullShare) (chunk_congr d (Rect.unit (s := S32768x2x128) (k0_off3 L 768#32) S128x2x128.size (k0_off3_inb L 6)) (fun _ => rfl) o0 _ _ hv6)
  ihave HO6 := (Entails.of_eq hp6) $$ HO6
  have hv7 : ∀ x : S128x2x128.Idx, tile_run.sl.dma0_15 d L tb ix b1 hin1 hin3 hin5 hin7 x
      = (gat tb ix : Buf (Elt F) (oLoc d)) ((Rect.unit (s := S32768x2x128) (k0_off3 L 896#32) S128x2x128.size (k0_off3_inb L 7)).emb x) := fun x =>
    (held1 d L b1 _ _ x).trans (row_val d tb ix hix _ (k0_off2 L 896#32) (k0_off2_inb L 6) (off2_0 L 6) (k0_off3 L 896#32) (k0_off3_inb L 7) (off3_0 L 7) (off3_1 L 7) (off3_2 L 7) _ _ _
      (fun y => words1 d L _ _ _ y) x)
  have hp7 : ((oC7 L).view.loc (VT d L) ↦[(oC7 L).view.set]{fullShare} (oC7 L).view.writes (Elt F) o0 [⟨Rect.whole S128x2x128, tile_run.sl.dma0_15 d L tb ix b1 hin1 hin3 hin5 hin7⟩] : sProp 𝕄)
      = ((oC7 L).view.loc (VT d L) ↦[(oC7 L).view.set]{fullShare} (gat tb ix : Buf (Elt F) (oLoc d))) :=
    pointsTo_congr (ℓ := oLoc d) (q := fullShare) (chunk_congr d (Rect.unit (s := S32768x2x128) (k0_off3 L 896#32) S128x2x128.size (k0_off3_inb L 7)) (fun _ => rfl) o0 _ _ hv7)
  ihave HO7 := (Entails.of_eq hp7) $$ HO7
  sl_step
  sl_close

end Tile
end Cert.Rows
end
-- ==== Proof.Deal.lean ====
/-
  The SparseCore gather: what each of the 32 tasks is handed, how it runs from that, and how the table, the list and the
  result go out to the tasks and come back.
-/
module

public import proofs.«01_k».proof.Proof.Tile

@[expose] public section

noncomputable section

namespace Cert.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev EH : Emb UH (MT nD τ sig (HIx 1) (Elt F) ℕ UU ℕ) := embL
abbrev D [FloatOps F] : Defs nD τ sig (Elt F) (ΛP (F := F)) := Pipeline.defs pcfgs defs₀

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What a task holds -/

section Task
variable (d : Dev nD) (L : grid0.Coords)

/-- The two read shares of the table that a task's two gathers in flight use. -/
abbrev tokNo (L : grid0.Coords) (k : Fin 2) : ℕ := 32 * (L 0).val + 2 * (L 1).val + k.val
abbrev tTok (k : Fin 2) : PosShare TreeShare := Transfers.shareTokN fullShare (tokNo L k)

abbrev tPart (tb : Buf (Elt F) (tLoc d)) : sProp 𝕄 :=
  iprop(((tV).view.loc (VT d L) ↦{tTok L 0} tb) ∗ ((tV).view.loc (VT d L) ↦{tTok L 1} tb))
abbrev iPart (ix : Buf (Elt F) (iLoc d)) : sProp 𝕄 :=
  iprop(((iC0 L).view.loc (VT d L) ↦[(iC0 L).view.set]{fullShare} ix)
    ∗ ((iC1 L).view.loc (VT d L) ↦[(iC1 L).view.set]{fullShare} ix)
    ∗ ((iC2 L).view.loc (VT d L) ↦[(iC2 L).view.set]{fullShare} ix)
    ∗ ((iC3 L).view.loc (VT d L) ↦[(iC3 L).view.set]{fullShare} ix)
    ∗ ((iC4 L).view.loc (VT d L) ↦[(iC4 L).view.set]{fullShare} ix)
    ∗ ((iC5 L).view.loc (VT d L) ↦[(iC5 L).view.set]{fullShare} ix)
    ∗ ((iC6 L).view.loc (VT d L) ↦[(iC6 L).view.set]{fullShare} ix)
    ∗ ((iC7 L).view.loc (VT d L) ↦[(iC7 L).view.set]{fullShare} ix))
abbrev oPart (f : Buf (Elt F) (oLoc d)) : sProp 𝕄 :=
  iprop(((oC0 L).view.loc (VT d L) ↦[(oC0 L).view.set]{fullShare} f)
    ∗ ((oC1 L).view.loc (VT d L) ↦[(oC1 L).view.set]{fullShare} f)
    ∗ ((oC2 L).view.loc (VT d L) ↦[(oC2 L).view.set]{fullShare} f)
    ∗ ((oC3 L).view.loc (VT d L) ↦[(oC3 L).view.set]{fullShare} f)
    ∗ ((oC4 L).view.loc (VT d L) ↦[(oC4 L).view.set]{fullShare} f)
    ∗ ((oC5 L).view.loc (VT d L) ↦[(oC5 L).view.set]{fullShare} f)
    ∗ ((oC6 L).view.loc (VT d L) ↦[(oC6 L).view.set]{fullShare} f)
    ∗ ((oC7 L).view.loc (VT d L) ↦[(oC7 L).view.set]{fullShare} f))

/-- A task's holding, its part of the result at `f`. -/
def hold (tb : Buf (Elt F) (tLoc d)) (ix : Buf (Elt F) (iLoc d)) (f : Buf (Elt F) (oLoc d)) : sProp 𝕄 :=
  iprop(tPart d L tb ∗ iPart d L ix ∗ oPart d L f)

/-! ## The task's own cells and buffers -/

abbrev dcell (d : Dev nD) (c : Fin τ.nSC) (i : Fin τ.nSub) (k : Fin 12) : GSem nD τ sig := (V d c i, .dma (csem k.val k.isLt))

theorem dcell_mem (c : Fin τ.nSC) (i : Fin τ.nSub) (k : Fin 12) : dcell d c i k ∈ ownCells (V d c i) :=
  mem_ownCells.mpr ⟨rfl, (show ∀ k : Fin 12, (SemLoc.dma (csem k.val k.isLt) : SemLoc sig).isScoped .scVector = true by decide) _⟩

theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 12)) = {0, 1, 2, 3, 4, 5, 6, 7, 8, 9, 10, 11} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

abbrev sref (k : Fin 4) : Ref sig .scVector := ![cc0_scratch0, cc0_scratch1, cc0_scratch2, cc0_scratch3] k
abbrev dref (L : grid0.Coords) (b : Ref sig .scVector) : DevRef τ sig := (Proc.scVector (cV L) (jV L)).devRef b

theorem dref_ne {L : grid0.Coords} {a b : Ref sig .scVector} (h : a ≠ b) : dref L a ≠ dref L b := fun e => h (Proc.devRef_injective _ e)

/-- The four scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase (dref L cc0_scratch0)).erase (dref L cc0_scratch1)).erase
              (dref L cc0_scratch2)).erase (dref L cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dref L cc0_scratch0) rfl)).trans ?_
  rw [SparseCore.bigSep_erase' (Finset.mem_erase.mpr ⟨dref_ne (show (cc0_scratch1 : Ref sig .scVector) ≠ cc0_scratch0 by decide),
      SparseCore.Cfg.mem_ownRefs_of_owner (p := Proc.scVector (cV L) (jV L)) (b := dref L cc0_scratch1) rfl⟩),
    SparseCore.bigSep_erase' (Finset.mem_erase.mpr ⟨dref_ne (show (cc0_scratch2 : Ref sig .scVector) ≠ cc0_scratch1 by decide),
      Finset.mem_erase.mpr ⟨dref_ne (show (cc0_scratch2 : Ref sig .scVector) ≠ cc0_scratch0 by decide),
      SparseCore.Cfg.mem_ownRefs_of_owner (p := Proc.scVector (cV L) (jV L)) (b := dref L cc0_scratch2) rfl⟩⟩),
    SparseCore.bigSep_erase' (Finset.mem_erase.mpr ⟨dref_ne (show (cc0_scratch3 : Ref sig .scVector) ≠ cc0_scratch2 by decide),
      Finset.mem_erase.mpr ⟨dref_ne (show (cc0_scratch3 : Ref sig .scVector) ≠ cc0_scratch1 by decide),
      Finset.mem_erase.mpr ⟨dref_ne (show (cc0_scratch3 : Ref sig .scVector) ≠ cc0_scratch0 by decide),
      SparseCore.Cfg.mem_ownRefs_of_owner (p := Proc.scVector (cV L) (jV L)) (b := dref L cc0_scratch3) rfl⟩⟩⟩)]

theorem pts_l0 (f : Buf (Elt F) ((VT d L).loc cc0_scratch0)) :
    ((l0V).view.loc (VT d L) ↦[(l0V).view.set]{fullShare} f : sProp 𝕄) = (VT d L).loc cc0_scratch0 ↦{fullShare} f := by
  rw [View.set_whole]
theorem pts_l1 (f : Buf (Elt F) ((VT d L).loc cc0_scratch1)) :
    ((l1V).view.loc (VT d L) ↦[(l1V).view.set]{fullShare} f : sProp 𝕄) = (VT d L).loc cc0_scratch1 ↦{fullShare} f := by
  rw [View.set_whole]
theorem pts_r0 (f : Buf (Elt F) ((VT d L).loc cc0_scratch2)) :
    ((r0V).view.loc (VT d L) ↦[(r0V).view.set]{fullShare} f : sProp 𝕄) = (VT d L).loc cc0_scratch2 ↦{fullShare} f := by
  rw [View.set_whole]
theorem pts_r1 (f : Buf (Elt F) ((VT d L).loc cc0_scratch3)) :
    ((r1V).view.loc (VT d L) ↦[(r1V).view.set]{fullShare} f : sProp 𝕄) = (VT d L).loc cc0_scratch3 ↦{fullShare} f := by
  rw [View.set_whole]

variable [FloatOps F]

/-- The task from what it is handed to what it hands back: its part of the result at the gathered rows. -/
theorem tile_body (hF : (K (F := F)).Facts) (tb : Buf (Elt F) (tLoc d)) (ix : Buf (Elt F) (iLoc d)) (o0 : Buf (Elt F) (oLoc d))
    (hix : ∀ j : S32768.Idx, (ix j : BitVec 32).toNat < 8192)
    (O : CellTallies nD τ sig (HIx 1)) (W : Waits sig (HIx 1)) (hO : ∀ g, O g none = 0) :
    iprop(levAts (K (F := F)).L (K (F := F)).lev ∗ emp
        ∗ hold d L tb ix o0
        ∗ scopedBufs (VT d L) ∗ scopedSems0 (VT d L) ∗ owes (VT d L) O W)
      ⊢ wp frame (wpE (defs₀ (F := F)) 𝒱₀ (VT d L) none) Set.univ
          (cc0__sc_gather_body L tV (Memref.isWhole_whole _) iV (Memref.isWhole_whole _) oV (Memref.isWhole_whole _)
            l0V (Memref.isWhole_whole _) l1V (Memref.isWhole_whole _) r0V (Memref.isWhole_whole _) r1V (Memref.isWhole_whole _)
            cc0_scratch4 cc0_scratch5 cc0_scratch6 cc0_scratch7 cc0_scoped0 cc0_scoped1 cc0_scoped2 cc0_scoped3 cc0_scoped4 cc0_scoped5 cc0_scoped6 cc0_scoped7)
          fun _ => iprop(hold d L tb ix (gat tb ix : Buf (Elt F) (oLoc d))
            ∗ scopedBufs (VT d L) ∗ scopedSems0 (VT d L)
            ∗ ∃ W', ⌜∀ p ∈ W', p ∈ W ∨ p.2 = none ∨ p.2 = some (0 : Fin 1)⌝ ∗ owes (VT d L) O W') := by
  unfold hold
  rw [(K (F := F)).scopedBufs_V hF d (cV L) (jV L), SparseCore.Cfg.scopedSems0_V (Val := Elt F) d (cV L) (jV L), ownSems0_V, ownBufs_V]
  iintro ⟨#Hlv, -, ⟨⟨HT0, HT1⟩, ⟨HI0, HI1, HI2, HI3, HI4, HI5, HI6, HI7⟩, ⟨HO0, HO1, HO2, HO3, HO4, HO5, HO6, HO7⟩⟩, ⟨⟨%a0, HA0⟩, ⟨%a1, HA1⟩, ⟨%b0, HB0⟩, ⟨%b1, HB1⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HA0' := (Entails.of_eq (pts_l0 (F := F) d L _).symm) $$ HA0
  ihave HA1' := (Entails.of_eq (pts_l1 (F := F) d L _).symm) $$ HA1
  ihave HB0' := (Entails.of_eq (pts_r0 (F := F) d L _).symm) $$ HB0
  ihave HB1' := (Entails.of_eq (pts_r1 (F := F) d L _).symm) $$ HB1
  iapply (wp_wand_r Idealize.ShloMosaic.frame (wpE (defs₀ (F := F)) 𝒱₀ (VT d L) none) Set.univ)
  isplitr [Hbufs Hsems]
  · iapply (tile_run d L (tTok L 0) (tTok L 1) tb ix o0 hix O W a0 a1 b0 b1)
    isplitr; · iexact Hmw
    isplitl [HT0]; · iexact HT0
    isplitl [HT1]; · iexact HT1
    isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HA0']; · iexact HA0'
    isplitl [HA1']; · iexact HA1'
    isplitl [HB0']; · iexact HB0'
    isplitl [HB1']; · iexact HB1'
    isplitl [HC]; · iexact HC
    iexact HO
  iintro %_ ⟨HT0, HT1, HI0, HI1, HI2, HI3, HI4, HI5, HI6, HI7, HO0, HO1, HO2, HO3, HO4, HO5, HO6, HO7, ⟨%a0', HA0'⟩, ⟨%a1', HA1'⟩, ⟨%b0', HB0'⟩, ⟨%b1', HB1'⟩, HC, ⟨%W', HO⟩⟩
  isplitl [HT0 HT1 HI0 HI1 HI2 HI3 HI4 HI5 HI6 HI7 HO0 HO1 HO2 HO3 HO4 HO5 HO6 HO7]
  · isplitl [HT0 HT1]
    · isplitl [HT0]; · iexact HT0
      iexact HT1
    isplitl [HI0 HI1 HI2 HI3 HI4 HI5 HI6 HI7]
    · isplitl [HI0]; · iexact HI0
      isplitl [HI1]; · iexact HI1
      isplitl [HI2]; · iexact HI2
      isplitl [HI3]; · iexact HI3
      isplitl [HI4]; · iexact HI4
      isplitl [HI5]; · iexact HI5
      isplitl [HI6]; · iexact HI6
      iexact HI7
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    iexact HO7
  isplitr [HC Hsems HO]
  · isplitl [HA0']; · iexists _; iapply (Entails.of_eq (pts_l0 (F := F) d L _)); iexact HA0'
    isplitl [HA1']; · iexists _; iapply (Entails.of_eq (pts_l1 (F := F) d L _)); iexact HA1'
    isplitl [HB0']; · iexists _; iapply (Entails.of_eq (pts_r0 (F := F) d L _)); iexact HB0'
    isplitl [HB1']; · iexists _; iapply (Entails.of_eq (pts_r1 (F := F) d L _)); iexact HB1'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Task

/-! ## What the call carries -/

abbrev coordsV (c : Fin (grid0.bound 0)) (s : Fin (grid0.bound 1)) : grid0.Coords :=
  fun | 0 => c | 1 => s | ⟨_ + 2, h⟩ => absurd h (Nat.not_lt.2 (Nat.le_add_left _ _))

variable (tb : (d : Dev nD) → Buf (Elt F) (tLoc d)) (ix : (d : Dev nD) → Buf (Elt F) (iLoc d)) (o0 : (d : Dev nD) → Buf (Elt F) (oLoc d))

theorem nCore_all (q : Fin 1) : (K (F := F)).nCore q = grid0.bound 0 := match q with | 0 => nCore_zero
theorem nSub_all (q : Fin 1) : (K (F := F)).nSub q = grid0.bound 1 := match q with | 0 => nSub_zero

/-- The grid point of a task of the call. -/
def coordsK (q : Fin 1) (c : Fin ((K (F := F)).nCore q)) (i : Fin ((K (F := F)).nSub q)) : grid0.Coords :=
  coordsV (Fin.cast (nCore_all q) c) (Fin.cast (nSub_all q) i)

/-- Each task takes its holding and brings it back, the result's part at the gathered rows; a core carries its tasks'. -/
def P : (K (F := F)).Pay (nD := nD) (Val := Elt F) (Name := ℕ) (U := UU) where
  st := fun q d c => bigSep Finset.univ fun i : Fin ((K (F := F)).nSub q) => hold d (coordsK q c i) (tb d) (ix d) (o0 d)
  dn := fun q d c => bigSep Finset.univ fun i : Fin ((K (F := F)).nSub q) => hold d (coordsK q c i) (tb d) (ix d) (gat (tb d) (ix d))
  go := fun q d c i => hold d (coordsK q c i) (tb d) (ix d) (o0 d)
  td := fun q d c i => hold d (coordsK q c i) (tb d) (ix d) (gat (tb d) (ix d))
  x := fun _ _ => iprop(emp)

instance hold_storable (d : Dev nD) (L : grid0.Coords) (t : Buf (Elt F) (tLoc d)) (x : Buf (Elt F) (iLoc d)) (f : Buf (Elt F) (oLoc d)) :
    BI.Storable (upEmb : UEmb _ 𝕄) (hold d L t x f) := by
  have pt (ℓ : Loc nD τ sig) (S : Finset _) (q : PosShare TreeShare) (f : Buf (Elt F) ℓ) :
      BI.Storable (upEmb : UEmb _ 𝕄) (ℓ ↦[S]{q} f) := inferInstance
  have ch {a b : sProp 𝕄} (ha : BI.Storable (upEmb : UEmb _ 𝕄) a) (hb : BI.Storable (upEmb : UEmb _ 𝕄) b) :
      BI.Storable (upEmb : UEmb _ 𝕄) iprop(a ∗ b) := inferInstance
  have c8 {a0 a1 a2 a3 a4 a5 a6 a7 : sProp 𝕄} (h0 : BI.Storable (upEmb : UEmb _ 𝕄) a0) (h1 : BI.Storable (upEmb : UEmb _ 𝕄) a1)
      (h2 : BI.Storable (upEmb : UEmb _ 𝕄) a2) (h3 : BI.Storable (upEmb : UEmb _ 𝕄) a3) (h4 : BI.Storable (upEmb : UEmb _ 𝕄) a4)
      (h5 : BI.Storable (upEmb : UEmb _ 𝕄) a5) (h6 : BI.Storable (upEmb : UEmb _ 𝕄) a6) (h7 : BI.Storable (upEmb : UEmb _ 𝕄) a7) :
      BI.Storable (upEmb : UEmb _ 𝕄) iprop(a0 ∗ a1 ∗ a2 ∗ a3 ∗ a4 ∗ a5 ∗ a6 ∗ a7) := ch h0 (ch h1 (ch h2 (ch h3 (ch h4 (ch h5 (ch h6 h7))))))
  unfold hold
  exact ch (ch (pt _ _ _ _) (pt _ _ _ _)) (ch (c8 (pt _ _ _ _) (pt _ _ _ _) (pt _ _ _ _) (pt _ _ _ _) (pt _ _ _ _) (pt _ _ _ _) (pt _ _ _ _) (pt _ _ _ _))
    (c8 (pt _ _ _ _) (pt _ _ _ _) (pt _ _ _ _) (pt _ _ _ _) (pt _ _ _ _) (pt _ _ _ _) (pt _ _ _ _) (pt _ _ _ _)))

theorem bigSep_storable {ι : Type} (s : Finset ι) {f : ι → sProp 𝕄} (h : ∀ i, BI.Storable (upEmb : UEmb _ 𝕄) (f i)) :
    BI.Storable (upEmb : UEmb _ 𝕄) (bigSep s f) := inferInstance

instance P_storable : (P (F := F) tb ix o0).IsStorable where
  st q d c := bigSep_storable Finset.univ fun i : Fin ((K (F := F)).nSub q) => hold_storable d (coordsK q c i) (tb d) (ix d) (o0 d)
  dn q d c := bigSep_storable Finset.univ fun i : Fin ((K (F := F)).nSub q) => hold_storable d (coordsK q c i) (tb d) (ix d) (gat (tb d) (ix d))
  go q d c i := hold_storable d (coordsK q c i) (tb d) (ix d) (o0 d)
  td q d c i := hold_storable d (coordsK q c i) (tb d) (ix d) (gat (tb d) (ix d))

theorem vecSplit : (K (F := F)).VecSplit' (P tb ix o0) 0 := by
  have triv (p q : sProp 𝕄) : p ⊢ |={Set.univ}=> iprop(p ∗ (q -∗ q)) := by
    iintro H; imodintro
    isplitl [H]; · iexact H
    iintro H; iexact H
  exact fun d c => triv _ _

variable [FloatOps F]

theorem defs₀_vector (c : Fin τ.nSC) (s : Fin τ.nSub) :
    defs₀ (F := F) (.scVector c s) 0 ()
      = SparseCore.onTile hcore0 hsub0 (fun c s => cc0__sc_gather_body (coordsV c s)
          tV (Memref.isWhole_whole _) iV (Memref.isWhole_whole _) oV (Memref.isWhole_whole _)
            l0V (Memref.isWhole_whole _) l1V (Memref.isWhole_whole _) r0V (Memref.isWhole_whole _) r1V (Memref.isWhole_whole _)
            cc0_scratch4 cc0_scratch5 cc0_scratch6 cc0_scratch7 cc0_scoped0 cc0_scoped1 cc0_scoped2 cc0_scoped3 cc0_scoped4 cc0_scoped5 cc0_scoped6 cc0_scoped7) ⟨⟩ c s := rfl

theorem tileObl (hF : (K (F := F)).Facts) (hix : ∀ d, ∀ j : S32768.Idx, (ix d j : BitVec 32).toNat < 8192) :
    (K (F := F)).TileObl (D (F := F)) 𝒱 (P tb ix o0) v₀ 0 := by
  intro d c i O W hO _ _
  simp only [show (P tb ix o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (tb d) (ix d) (o0 d) (hix d) O W hO

end Cert.Rows
end
-- ==== Proof.Split.lean ====
/-
  Dealing the arrays out: the table (in 64 shares and a rest), the list (in 256 chunks) and the result (in 256 chunks)
  are the 32 tasks' holdings, and the holdings are the arrays.
-/
module

public import proofs.«01_k».proof.Proof.Deal

@[expose] public section

noncomputable section

namespace Cert.Rows

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A chunk: its core, its subcore, its place among the task's eight. -/
abbrev Ch : Type := (Fin 2 × Fin 16) × Fin 8

/-- The chunk's number in the list. -/
def chNo (p : Ch) : ℕ := 16 * p.1.2.val + 8 * p.1.1.val + p.2.val

theorem chNo_inj : ∀ p q : Ch, chNo p = chNo q → p = q := by
  rintro ⟨⟨c, s⟩, r⟩ ⟨⟨c', s'⟩, r'⟩ h
  have := c.isLt; have := c'.isLt; have := r.isLt; have := r'.isLt
  simp only [chNo] at h
  have h1 : s.val = s'.val := by omega
  have h2 : c.val = c'.val := by omega
  have h3 : r.val = r'.val := by omega
  rw [Fin.ext h1, Fin.ext h2, Fin.ext h3]

theorem chNo_surj (n : ℕ) (h : n < 256) : ∃ p : Ch, chNo p = n :=
  ⟨((⟨n / 8 % 2, by omega⟩, ⟨n / 16, by omega⟩), ⟨n % 8, by omega⟩), by simp only [chNo]; omega⟩

/-- The chunk's words of the list, -/
def iSet (p : Ch) : Finset S32768.Idx := Finset.univ.filter fun x => (x 0).val / 128 = chNo p
/-- its rows of the result. -/
def oSet (p : Ch) : Finset S32768x2x128.Idx := Finset.univ.filter fun x => (x 0).val / 128 = chNo p

theorem iSet_disj : ∀ p ∈ (Finset.univ : Finset Ch), ∀ q ∈ (Finset.univ : Finset Ch), p ≠ q → Disjoint (iSet p) (iSet q) := fun p _ q _ h =>
  Finset.disjoint_left.mpr fun x hx hy => h (chNo_inj p q ((Finset.mem_filter.mp hx).2.symm.trans (Finset.mem_filter.mp hy).2))
theorem oSet_disj : ∀ p ∈ (Finset.univ : Finset Ch), ∀ q ∈ (Finset.univ : Finset Ch), p ≠ q → Disjoint (oSet p) (oSet q) := fun p _ q _ h =>
  Finset.disjoint_left.mpr fun x hx hy => h (chNo_inj p q ((Finset.mem_filter.mp hx).2.symm.trans (Finset.mem_filter.mp hy).2))
theorem iSet_cover : (Finset.univ : Finset Ch).biUnion iSet = Finset.univ :=
  Finset.eq_univ_of_forall fun x => by
    have hx : (x 0).val < 32768 := (x 0).isLt
    obtain ⟨p, hp⟩ := chNo_surj ((x 0).val / 128) (by omega)
    exact Finset.mem_biUnion.mpr ⟨p, Finset.mem_univ _, Finset.mem_filter.mpr ⟨Finset.mem_univ _, hp.symm⟩⟩
theorem oSet_cover : (Finset.univ : Finset Ch).biUnion oSet = Finset.univ :=
  Finset.eq_univ_of_forall fun x => by
    have hx : (x 0).val < 32768 := (x 0).isLt
    obtain ⟨p, hp⟩ := chNo_surj ((x 0).val / 128) (by omega)
    exact Finset.mem_biUnion.mpr ⟨p, Finset.mem_univ _, Finset.mem_filter.mpr ⟨Finset.mem_univ _, hp.symm⟩⟩

/-- A chunk's view of the list selects its words, -/
theorem iChunk_set {off : Fin 1 → ℕ} (inb : ∀ a, off a + S128.size a ≤ S32768.size a) (p : Ch) (h : off 0 = 128 * chNo p) :
    ((iV).slice (Rect.unit (s := S32768) off S128.size inb) (fun _ => rfl)).view.set = iSet p := by
  show ((View.whole (main_v2_scv : Ref sig .scVector)).slice (Rect.unit (s := S32768) off S128.size inb)).set = _
  rw [View.set_slice]
  refine (Finset.map_refl).trans (Finset.ext fun x => ?_)
  rw [Rect.mem_set_unit]
  refine Iff.trans ?_ (Finset.mem_filter.trans (and_iff_right (Finset.mem_univ x))).symm
  refine ⟨fun hx => ?_, fun hx a => ?_⟩
  · have h0 := hx 0
    rw [h] at h0
    have : S128.size 0 = 128 := rfl
    rw [this] at h0
    omega
  · obtain rfl : a = 0 := Subsingleton.elim (α := Fin 1) _ _
    rw [h]
    show 128 * chNo p ≤ (x 0).val ∧ (x 0).val < 128 * chNo p + 128
    omega

/-- its view of the result selects its rows. -/
theorem oChunk_set {off : Fin 3 → ℕ} (inb : ∀ a, off a + S128x2x128.size a ≤ S32768x2x128.size a) (p : Ch) (h : off 0 = 128 * chNo p)
    (h1 : off 1 = 0) (h2 : off 2 = 0) :
    ((oV).slice (Rect.unit (s := S32768x2x128) off S128x2x128.size inb) (fun _ => rfl)).view.set = oSet p := by
  show ((View.whole (main_v3_scv : Ref sig .scVector)).slice (Rect.unit (s := S32768x2x128) off S128x2x128.size inb)).set = _
  rw [View.set_slice]
  refine (Finset.map_refl).trans (Finset.ext fun x => ?_)
  rw [Rect.mem_set_unit]
  refine Iff.trans ?_ (Finset.mem_filter.trans (and_iff_right (Finset.mem_univ x))).symm
  refine ⟨fun hx => ?_, fun hx a => ?_⟩
  · have h0 := hx 0
    rw [h] at h0
    have : S128x2x128.size 0 = 128 := rfl
    rw [this] at h0
    omega
  · have b1 : (x 1).val < 2 := (x 1).isLt
    have b2 : (x 2).val < 128 := (x 2).isLt
    fin_cases a
    · show off 0 ≤ (x 0).val ∧ (x 0).val < off 0 + 128
      rw [h]; omega
    · show off 1 ≤ (x 1).val ∧ (x 1).val < off 1 + 2
      rw [h1]; omega
    · show off 2 ≤ (x 2).val ∧ (x 2).val < off 2 + 128
      rw [h2]; omega

theorem assoc_eq (A B C : sProp 𝕄) : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB] <;> iassumption
  have h2 : iprop(A ∗ B ∗ C) ⊢ iprop((A ∗ B) ∗ C) := by
    iintro ⟨HA, HB, HC⟩
    isplitl [HA HB]
    · isplitl [HA] <;> iassumption
    iexact HC
  exact BI.Entails.antisymm h1 h2

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (d : Dev nD)

theorem iPart_eq (c : Fin 2) (s : Fin 16) (f : Buf (Elt F) (iLoc d)) :
    (iPart d (coordsV c s) f : sProp 𝕄) = bigSep Finset.univ fun r : Fin 8 => (iLoc d ↦[iSet ((c, s), r)]{fullShare} f) := by
  rw [bigSep_eight]
  have h0 : (iC0 (coordsV c s)).view.set = iSet ((c, s), 0) := iChunk_set _ _ ((off1_0 _).trans (by simp only [chNo]; show 2048 * s.val + 1024 * c.val = _; omega))
  have h1 : (iC1 (coordsV c s)).view.set = iSet ((c, s), 1) := iChunk_set _ _ ((off2_0 _ 0).trans (by simp only [chNo]; show 2048 * s.val + 1024 * c.val + 128 * 0 + 128 = _; change _ = 128 * (16 * s.val + 8 * c.val + 1); omega))
  have h2 : (iC2 (coordsV c s)).view.set = iSet ((c, s), 2) := iChunk_set _ _ ((off2_0 _ 1).trans (by simp only [chNo]; show 2048 * s.val + 1024 * c.val + 128 * 1 + 128 = _; change _ = 128 * (16 * s.val + 8 * c.val + 2); omega))
  have h3 : (iC3 (coordsV c s)).view.set = iSet ((c, s), 3) := iChunk_set _ _ ((off2_0 _ 2).trans (by simp only [chNo]; show 2048 * s.val + 1024 * c.val + 128 * 2 + 128 = _; change _ = 128 * (16 * s.val + 8 * c.val + 3); omega))
  have h4 : (iC4 (coordsV c s)).view.set = iSet ((c, s), 4) := iChunk_set _ _ ((off2_0 _ 3).trans (by simp only [chNo]; show 2048 * s.val + 1024 * c.val + 128 * 3 + 128 = _; change _ = 128 * (16 * s.val + 8 * c.val + 4); omega))
  have h5 : (iC5 (coordsV c s)).view.set = iSet ((c, s), 5) := iChunk_set _ _ ((off2_0 _ 4).trans (by simp only [chNo]; show 2048 * s.val + 1024 * c.val + 128 * 4 + 128 = _; change _ = 128 * (16 * s.val + 8 * c.val + 5); omega))
  have h6 : (iC6 (coordsV c s)).view.set = iSet ((c, s), 6) := iChunk_set _ _ ((off2_0 _ 5).trans (by simp only [chNo]; show 2048 * s.val + 1024 * c.val + 128 * 5 + 128 = _; change _ = 128 * (16 * s.val + 8 * c.val + 6); omega))
  have h7 : (iC7 (coordsV c s)).view.set = iSet ((c, s), 7) := iChunk_set _ _ ((off2_0 _ 6).trans (by simp only [chNo]; show 2048 * s.val + 1024 * c.val + 128 * 6 + 128 = _; change _ = 128 * (16 * s.val + 8 * c.val + 7); omega))
  refine congrArg₂ (fun a b => iprop(a ∗ b)) (congrArg (fun S => (iLoc d ↦[S]{fullShare} f : sProp 𝕄)) h0) (congrArg₂ (fun a b => iprop(a ∗ b)) (congrArg (fun S => (iLoc d ↦[S]{fullShare} f : sProp 𝕄)) h1) (congrArg₂ (fun a b => iprop(a ∗ b)) (congrArg (fun S => (iLoc d ↦[S]{fullShare} f : sProp 𝕄)) h2) (congrArg₂ (fun a b => iprop(a ∗ b)) (congrArg (fun S => (iLoc d ↦[S]{fullShare} f : sProp 𝕄)) h3) (congrArg₂ (fun a b => iprop(a ∗ b)) (congrArg (fun S => (iLoc d ↦[S]{fullShare} f : sProp 𝕄)) h4) (congrArg₂ (fun a b => iprop(a ∗ b)) (congrArg (fun S => (iLoc d ↦[S]{fullShare} f : sProp 𝕄)) h5) (congrArg₂ (fun a b => iprop(a ∗ b)) (congrArg (fun S => (iLoc d ↦[S]{fullShare} f : sProp 𝕄)) h6) (congrArg (fun S => (iLoc d ↦[S]{fullShare} f : sProp 𝕄)) h7)))))))

theorem oPart_eq (c : Fin 2) (s : Fin 16) (f : Buf (Elt F) (oLoc d)) :
    (oPart d (coordsV c s) f : sProp 𝕄) = bigSep Finset.univ fun r : Fin 8 => (oLoc d ↦[oSet ((c, s), r)]{fullShare} f) := by
  rw [bigSep_eight]
  have h0 : (oC0 (coordsV c s)).view.set = oSet ((c, s), 0) := oChunk_set _ _ ((off3_0 _ 0).trans (by simp only [chNo]; show 2048 * s.val + 1024 * c.val + 128 * 0 = _; change _ = 128 * (16 * s.val + 8 * c.val + 0); omega)) (off3_1 _ 0) (off3_2 _ 0)
  have h1 : (oC1 (coordsV c s)).view.set = oSet ((c, s), 1) := oChunk_set _ _ ((off3_0 _ 1).trans (by simp only [chNo]; show 2048 * s.val + 1024 * c.val + 128 * 1 = _; change _ = 128 * (16 * s.val + 8 * c.val + 1); omega)) (off3_1 _ 1) (off3_2 _ 1)
  have h2 : (oC2 (coordsV c s)).view.set = oSet ((c, s), 2) := oChunk_set _ _ ((off3_0 _ 2).trans (by simp only [chNo]; show 2048 * s.val + 1024 * c.val + 128 * 2 = _; change _ = 128 * (16 * s.val + 8 * c.val + 2); omega)) (off3_1 _ 2) (off3_2 _ 2)
  have h3 : (oC3 (coordsV c s)).view.set = oSet ((c, s), 3) := oChunk_set _ _ ((off3_0 _ 3).trans (by simp only [chNo]; show 2048 * s.val + 1024 * c.val + 128 * 3 = _; change _ = 128 * (16 * s.val + 8 * c.val + 3); omega)) (off3_1 _ 3) (off3_2 _ 3)
  have h4 : (oC4 (coordsV c s)).view.set = oSet ((c, s), 4) := oChunk_set _ _ ((off3_0 _ 4).trans (by simp only [chNo]; show 2048 * s.val + 1024 * c.val + 128 * 4 = _; change _ = 128 * (16 * s.val + 8 * c.val + 4); omega)) (off3_1 _ 4) (off3_2 _ 4)
  have h5 : (oC5 (coordsV c s)).view.set = oSet ((c, s), 5) := oChunk_set _ _ ((off3_0 _ 5).trans (by simp only [chNo]; show 2048 * s.val + 1024 * c.val + 128 * 5 = _; change _ = 128 * (16 * s.val + 8 * c.val + 5); omega)) (off3_1 _ 5) (off3_2 _ 5)
  have h6 : (oC6 (coordsV c s)).view.set = oSet ((c, s), 6) := oChunk_set _ _ ((off3_0 _ 6).trans (by simp only [chNo]; show 2048 * s.val + 1024 * c.val + 128 * 6 = _; change _ = 128 * (16 * s.val + 8 * c.val + 6); omega)) (off3_1 _ 6) (off3_2 _ 6)
  have h7 : (oC7 (coordsV c s)).view.set = oSet ((c, s), 7) := oChunk_set _ _ ((off3_0 _ 7).trans (by simp only [chNo]; show 2048 * s.val + 1024 * c.val + 128 * 7 = _; change _ = 128 * (16 * s.val + 8 * c.val + 7); omega)) (off3_1 _ 7) (off3_2 _ 7)
  refine congrArg₂ (fun a b => iprop(a ∗ b)) (congrArg (fun S => (oLoc d ↦[S]{fullShare} f : sProp 𝕄)) h0) (congrArg₂ (fun a b => iprop(a ∗ b)) (congrArg (fun S => (oLoc d ↦[S]{fullShare} f : sProp 𝕄)) h1) (congrArg₂ (fun a b => iprop(a ∗ b)) (congrArg (fun S => (oLoc d ↦[S]{fullShare} f : sProp 𝕄)) h2) (congrArg₂ (fun a b => iprop(a ∗ b)) (congrArg (fun S => (oLoc d ↦[S]{fullShare} f : sProp 𝕄)) h3) (congrArg₂ (fun a b => iprop(a ∗ b)) (congrArg (fun S => (oLoc d ↦[S]{fullShare} f : sProp 𝕄)) h4) (congrArg₂ (fun a b => iprop(a ∗ b)) (congrArg (fun S => (oLoc d ↦[S]{fullShare} f : sProp 𝕄)) h5) (congrArg₂ (fun a b => iprop(a ∗ b)) (congrArg (fun S => (oLoc d ↦[S]{fullShare} f : sProp 𝕄)) h6) (congrArg (fun S => (oLoc d ↦[S]{fullShare} f : sProp 𝕄)) h7)))))))

/-- The list whole is the tasks' chunks of it; -/
theorem list_eq (f : Buf (Elt F) (iLoc d)) :
    (iLoc d ↦{fullShare} f : sProp 𝕄) = bigSep Finset.univ fun p : Fin 2 × Fin 16 => iPart d (coordsV p.1 p.2) f := by
  have h : (iLoc d ↦{fullShare} f : sProp 𝕄) = bigSep Finset.univ fun p : Ch => (iLoc d ↦[iSet p]{fullShare} f) := by
    rw [← pointsTo_biUnion Finset.univ (ℓ := iLoc d) iSet iSet_disj, iSet_cover]; try rfl
  rw [h, BI.bigSep_univ_prod]
  exact bigSep_congr fun p _ => (iPart_eq d p.1 p.2 f).symm

/-- the result whole is the tasks' chunks of it; -/
theorem result_eq (f : Buf (Elt F) (oLoc d)) :
    (oLoc d ↦{fullShare} f : sProp 𝕄) = bigSep Finset.univ fun p : Fin 2 × Fin 16 => oPart d (coordsV p.1 p.2) f := by
  have h : (oLoc d ↦{fullShare} f : sProp 𝕄) = bigSep Finset.univ fun p : Ch => (oLoc d ↦[oSet p]{fullShare} f) := by
    rw [← pointsTo_biUnion Finset.univ (ℓ := oLoc d) oSet oSet_disj, oSet_cover]; try rfl
  rw [h, BI.bigSep_univ_prod]
  exact bigSep_congr fun p _ => (oPart_eq d p.1 p.2 f).symm

/-- the table whole is a rest and the tasks' read shares of it. -/
theorem table_eq (f : Buf (Elt F) (tLoc d)) :
    (tLoc d ↦{fullShare} f : sProp 𝕄)
      = iprop((tLoc d ↦{Transfers.shareDrop fullShare 64} f) ∗ bigSep Finset.univ fun p : Fin 2 × Fin 16 => tPart d (coordsV p.1 p.2) f) := by
  rw [BI.Entails.antisymm (Transfers.pointsTo_toks_range (ℓ := tLoc d) (S := Finset.univ) (f := f) fullShare 64).1
    (Transfers.pointsTo_toks_range (ℓ := tLoc d) (S := Finset.univ) (f := f) fullShare 64).2]
  congr 1
  rw [show Finset.range 64 = (Finset.univ : Finset ((Fin 2 × Fin 16) × Fin 2)).image (fun p => 32 * p.1.1.val + 2 * p.1.2.val + p.2.val) by decide,
    SparseCore.bigSep_image_of_injOn (fun p _ q _ h => by
      obtain ⟨⟨c, s⟩, k⟩ := p; obtain ⟨⟨c', s'⟩, k'⟩ := q
      have := k.isLt; have := k'.isLt; have := s.isLt; have := s'.isLt
      simp only at h
      have h1 : c.val = c'.val := by omega
      have h2 : s.val = s'.val := by omega
      have h3 : k.val = k'.val := by omega
      rw [Fin.ext h1, Fin.ext h2, Fin.ext h3]),
    BI.bigSep_univ_prod]
  exact bigSep_congr fun p _ => BI.bigSep_fin_two _

/-- All the tasks' holdings are the read shares, the list and the result. -/
theorem holds_eq (tb : Buf (Elt F) (tLoc d)) (ix : Buf (Elt F) (iLoc d)) (f : Buf (Elt F) (oLoc d)) :
    (bigSep Finset.univ fun c : Fin ((K (F := F)).nCore 0) => bigSep Finset.univ fun i : Fin ((K (F := F)).nSub 0) => hold d (coordsK (F := F) 0 c i) tb ix f : sProp 𝕄)
      = iprop((bigSep Finset.univ fun p : Fin 2 × Fin 16 => tPart d (coordsV p.1 p.2) tb) ∗ (iLoc d ↦{fullShare} ix) ∗ (oLoc d ↦{fullShare} f)) := by
  have h : (bigSep Finset.univ fun c : Fin ((K (F := F)).nCore 0) => bigSep Finset.univ fun i : Fin ((K (F := F)).nSub 0) => hold d (coordsK (F := F) 0 c i) tb ix f : sProp 𝕄)
      = bigSep Finset.univ fun p : Fin 2 × Fin 16 => hold d (coordsV p.1 p.2) tb ix f := (BI.bigSep_univ_prod (α := Fin 2) (β := Fin 16) (fun p => hold d (coordsV p.1 p.2) tb ix f)).symm
  rw [h, list_eq, result_eq, ← bigSep_sep', ← bigSep_sep']
  rfl

/-- Handing the arrays to the tasks, the rest of the table kept: -/
theorem deal (tb : Buf (Elt F) (tLoc d)) (ix : Buf (Elt F) (iLoc d)) (f : Buf (Elt F) (oLoc d)) :
    iprop((tLoc d ↦{fullShare} tb) ∗ (iLoc d ↦{fullShare} ix) ∗ (oLoc d ↦{fullShare} f))
      = (iprop((tLoc d ↦{Transfers.shareDrop fullShare 64} tb)
        ∗ bigSep Finset.univ fun c : Fin ((K (F := F)).nCore 0) => bigSep Finset.univ fun i : Fin ((K (F := F)).nSub 0) => hold d (coordsK (F := F) 0 c i) tb ix f) : sProp 𝕄) := by
  rw [holds_eq, table_eq]
  exact assoc_eq _ _ _

end Cert.Rows

end
-- ==== Proof.Mlp.lean ====
/-
  The message-passing kernel's second half: what one grid point of the two-layer kernel computes, and how its body runs
  at a point. A point (b, j) takes neighbour j's gathered rows of batch b; the output block of batch b keeps the running
  maximum over j.
-/
module

public import proofs.«01_k».proof.Proof.Deal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.WordCmp
public import Idealize.ShloMosaic.Lib.VecWindow

@[expose] public section

set_option maxRecDepth 16384

noncomputable section

namespace Cert.Rows

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat Cfg Window BodyObligation)

variable {F : FTy → Type} [FloatOps F]

local notation "𝕄" => MT nD τ sig (HIx 1) (Elt F) ℕ UU ℕ

/-- One point's two layers: the block of gathered rows, the centroids' addend, the weights' two halves, the bias. -/
def layers (x0 : Vec F S1x1x512x256 .f32) (x1 : Vec F S1x512x256 .f32) (x2 x3 : Vec F S256x256 .bf16) (x4 : Vec F S1x256 .f32) :
    Vec F S1x512x256 .f32 := k1_pay3 x0 x1 x2 x3 x2 x4

/-- One point's two layers, raised by what the block held. -/
def layersOver (x0 : Vec F S1x1x512x256 .f32) (x1 : Vec F S1x512x256 .f32) (x2 x3 : Vec F S256x256 .bf16) (x4 : Vec F S1x256 .f32)
    (xo : Vec F S1x512x256 .f32) : Vec F S1x512x256 .f32 := k1_pay1 (k1_pay2 x0 x1 x2 x3 x2 x4) xo

/-! ## The branch conditions -/

theorem cond_first : ∀ t : Fin grid1.N, k1_cond1 (grid1.coords t) = 1#1 ↔ t.val % 16 = 0 := by decide +kernel
theorem cond_later : ∀ t : Fin grid1.N, k1_cond2 (grid1.coords t) = 1#1 ↔ ¬ t.val % 16 = 0 := by decide +kernel

/-! ## The body at a point -/

/-- A load of the whole shape reads what the buffer reads; -/
theorem readAt_full {κ : Kind} {sp : Space} {s : Shape} {e : EltTy} (v : View sig κ sp s e) {off : Fin s.rank → ℕ}
    (inb : ∀ a, off a + s.size a ≤ s.size a) (f : v.ty.Contents (Elt F)) :
    v.readAt (Elt F) (Rect.unit off s.size inb).toLoadRect f = v.read (Elt F) f :=
  funext fun j => congrArg (v.read (Elt F) f) (Rect.emb_unit_full inb j)

/-- a store of the whole shape leaves what it stores. -/
theorem read_store_full {κ : Kind} {sp : Space} {s : Shape} {e : EltTy} (v : View sig κ sp s e) {off : Fin s.rank → ℕ}
    (inb : ∀ a, off a + s.size a ≤ s.size a) (f : v.ty.Contents (Elt F)) (w : s.Idx → Elt F e) :
    v.read (Elt F) (v.writes (Elt F) f [⟨Rect.unit off s.size inb, w⟩]) = w :=
  funext fun j => (congrArg _ (Rect.emb_unit_full inb j).symm).trans (View.read_writes_cons_emb (v := v) (f := f) (Rect.unit off s.size inb) w [] j)

set_option maxHeartbeats 1000000 in
/-- A point of neighbour 0: the output block ends at that point's two layers. -/
theorem run_first (c : Dev nD) (i : grid1.Coords) (arg2 : Memref sig .tc .vmem S1x1x512x256 .f32) (harg2 : arg2.IsWhole) (arg3 : Memref sig .tc .vmem S1x512x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x512x256 .f32) (harg7 : arg7.IsWhole) (hc0 : k1_cond1 i = 1#1) (hc1 : ¬ k1_cond2 i = 1#1)
    (x0 : Vec F S1x1x512x256 .f32) (x1 : Vec F S1x512x256 .f32) (x2 : Vec F S256x256 .bf16) (x3 : Vec F S256x256 .bf16) (x4 : Vec F S1x256 .f32) (E : Set ℕ) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (layers x0 x1 x2 x3 x4)) -∗ Q ⟨⟩))
      ⊢ wp frame (wpE (defs₀ (F := F)) Variants.none c none) E (cc1__mlp_kernel i arg2 harg2 arg3 harg3 arg4 harg4 arg5 harg5 arg6 harg6 arg7 harg7) Q := by
  simp only [cc1__mlp_kernel_eq_skeleton]; unfold cc1__mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  refine (read_store_full arg7.view _ _ _).trans ?_
  unfold layers
  exact congr (congr (congr (congr (congr (congrArg k1_pay3 ((readAt_full _ _ _).trans hf0)) ((readAt_full _ _ _).trans hf1)) ((readAt_full _ _ _).trans hf2)) ((readAt_full _ _ _).trans hf3)) ((readAt_full _ _ _).trans hf2)) ((readAt_full _ _ _).trans hf4)

set_option maxHeartbeats 1000000 in
/-- A point of a later neighbour: the output block is raised to that point's two layers. -/
theorem run_later (c : Dev nD) (i : grid1.Coords) (arg2 : Memref sig .tc .vmem S1x1x512x256 .f32) (harg2 : arg2.IsWhole) (arg3 : Memref sig .tc .vmem S1x512x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x512x256 .f32) (harg7 : arg7.IsWhole) (hc0 : ¬ k1_cond1 i = 1#1) (hc1 : k1_cond2 i = 1#1)
    (x0 : Vec F S1x1x512x256 .f32) (x1 : Vec F S1x512x256 .f32) (x2 : Vec F S256x256 .bf16) (x3 : Vec F S256x256 .bf16) (x4 : Vec F S1x256 .f32) (xo : Vec F S1x512x256 .f32) (E : Set ℕ) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (layersOver x0 x1 x2 x3 x4 xo)) -∗ Q ⟨⟩))
      ⊢ wp frame (wpE (defs₀ (F := F)) Variants.none c none) E (cc1__mlp_kernel i arg2 harg2 arg3 harg3 arg4 harg4 arg5 harg5 arg6 harg6 arg7 harg7) Q := by
  simp only [cc1__mlp_kernel_eq_skeleton]; unfold cc1__mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  refine (read_store_full arg7.view _ _ _).trans ?_
  unfold layersOver
  refine congrArg₂ k1_pay1 ?_ ((readAt_full arg7.view _ _).trans hf5)
  show k1_pay2 _ _ _ _ _ _ = _
  exact congr (congr (congr (congr (congr (congrArg k1_pay2 ((readAt_full _ _ _).trans hf0)) ((readAt_full _ _ _).trans hf1)) ((readAt_full _ _ _).trans hf2)) ((readAt_full _ _ _).trans hf3)) ((readAt_full _ _ _).trans hf2)) ((readAt_full _ _ _).trans hf4)

end Cert.Rows

end
-- ==== Proof.Region.lean ====
/-
  The two-layer kernel as a region of @main: what its output block holds after each grid point, the region's proof data,
  the body at every point, and the region as a step of the TensorCore's thread.
-/
module

public import proofs.«01_k».proof.Proof.Mlp
public import Idealize.ShloMosaic.Lib.Pipeline.Regions
public import Idealize.ShloMosaic.Lib.Pipeline.RegionArrays
public import Idealize.ShloMosaic.Lib.Pipeline.Kit

@[expose] public section

set_option maxRecDepth 16384

noncomputable section

namespace Cert.Rows

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat Cfg Window BodyObligation)

variable {F : FTy → Type} [FloatOps F]

local notation "𝕄" => MT nD τ sig (HIx 1) (Elt F) ℕ UU ℕ

variable (V : (c : Dev nD) → (b : Ref sig .tc) → Buf (Elt F) ((c : Thread nD τ).loc b))
variable (O : Dev nD → CellTallies nD τ sig (HIx 1)) (lvl : ℕ)

/-- Window `w`'s block at point `t`, off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's two layers, -/
def layersAt (c : Dev nD) (t : Fin cfg1.N) : Vec F S1x512x256 .f32 :=
  layers (iblk V c 0 t) (iblk V c 1 t) (iblk V c 2 t) (iblk V c 3 t) (iblk V c 4 t)
/-- raising what the block held. -/
def layersOverAt (c : Dev nD) (t : Fin cfg1.N) (xo : Vec F S1x512x256 .f32) : Vec F S1x512x256 .f32 :=
  layersOver (iblk V c 0 t) (iblk V c 1 t) (iblk V c 2 t) (iblk V c 3 t) (iblk V c 4 t) xo

/-- What the output block holds after point `n`: neighbour 0 starts it, each later neighbour raises it. -/
def acc (c : Dev nD) : (n : ℕ) → n < cfg1.N → Vec F S1x512x256 .f32
  | 0, h => layersAt V c ⟨0, h⟩
  | n + 1, h => if (n + 1) % 16 = 0 then layersAt V c ⟨n + 1, h⟩ else layersOverAt V c ⟨n + 1, h⟩ (acc c n (Nat.lt_of_succ_lt h))

theorem acc_first (c : Dev nD) (t : Fin cfg1.N) (h : t.val % 16 = 0) : acc V c t.val t.isLt = layersAt V c t := by
  obtain ⟨n, hn⟩ := t
  cases n with
  | zero => rfl
  | succ n => exact if_pos h

theorem acc_later (c : Dev nD) (t : Fin cfg1.N) (h : ¬ t.val % 16 = 0) :
    acc V c t.val t.isLt = layersOverAt V c t (acc V c (t.val - 1) (Nat.lt_of_le_of_lt (Nat.sub_le _ _) t.isLt)) := by
  obtain ⟨n, hn⟩ := t
  cases n with
  | zero => exact absurd (Nat.zero_mod _) h
  | succ n => exact if_neg h

/-- The proof data on core `c`: the arrays as the region finds them; each input's buffer at its block, the output's at
    `acc`; the core's debts and its recorded waits untouched. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => acc V c t.val t.isLt
  Φ _ := iprop(emp)
  q _ := fullShare
  owed _ := O c
  recorded _ := {p | (K (F := F)).lev ((SparseCore.T c : Thread nD τ), p.1) p.2 ≤ lvl}

local notation "dat" => dats V O lvl 0

theorem A_eq (c : Dev nD) (w : Fin cfg1.W) : (dat c).A w = V c (Pipeline.arrRef spec1 w) := by dsimp only [dats]

theorem after_0 (c : Dev nD) (t : Fin cfg1.N) : (dat c).after 0 t = iblk V c 0 t := by dsimp only [dats]
theorem after_1 (c : Dev nD) (t : Fin cfg1.N) : (dat c).after 1 t = iblk V c 1 t := by dsimp only [dats]
theorem after_2 (c : Dev nD) (t : Fin cfg1.N) : (dat c).after 2 t = iblk V c 2 t := by dsimp only [dats]
theorem after_3 (c : Dev nD) (t : Fin cfg1.N) : (dat c).after 3 t = iblk V c 3 t := by dsimp only [dats]
theorem after_4 (c : Dev nD) (t : Fin cfg1.N) : (dat c).after 4 t = iblk V c 4 t := by dsimp only [dats]
theorem after_5 (c : Dev nD) (t : Fin cfg1.N) : (dat c).after 5 t = acc V c t.val t.isLt := by dsimp only [dats]

/-- An input's buffer holds its block when the body runs, whether or not it was fetched at this point. -/
theorem before_0 (c : Dev nD) (t : Fin cfg1.N) (d) : (dat c).before 0 t d = iblk V c 0 t :=
  ((dat c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat c).before 1 t d = iblk V c 1 t :=
  ((dat c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat c).before 2 t d = iblk V c 2 t :=
  ((dat c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat c).before 3 t d = iblk V c 3 t :=
  ((dat c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat c).before 4 t d = iblk V c 4 t :=
  ((dat c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem live (w : Fin cfg1.W) : ∀ t : Fin cfg1.N, cfg1.idle w (grid1.coords t) = false := by
  revert w; decide +kernel

/-- Whether nothing has been stored into the output's buffer since it was last written back. -/
def freshTab : ℕ → Bool
  | 0 => true
  | n + 1 => (0x8000800080008000 : ℕ).testBit n
theorem freshTab_step : ∀ t : Fin cfg1.N,
    freshTab (t.val + 1) = ((cfg1.win 5).flush t || (cfg1.idle 5 (cfg1.grid.coords t) && freshTab t.val)) := by decide +kernel
theorem fresh_later : ∀ t : Fin cfg1.N, ¬ t.val % 16 = 0 → cfg1.fresh 5 t.val = false := by
  intro t
  rw [Pipeline.Cfg.fresh_tab cfg1 5 freshTab rfl freshTab_step t.val (Nat.le_of_lt t.isLt)]
  revert t; decide +kernel

/-- At a later neighbour's point the output's buffer holds what the point before left. -/
theorem before_5 (c : Dev nD) (t : Fin cfg1.N) (h : ¬ t.val % 16 = 0) (d) :
    (dat c).before 5 t d = acc V c (t.val - 1) (Nat.lt_of_le_of_lt (Nat.sub_le _ _) t.isLt) := by
  rw [Dat.before_out_traj _ 5 rfl (fun _ _ => rfl) (fun t _ hi _ => absurd ((live 5 t).symm.trans hi) Bool.false_ne_true) t.val t rfl d,
    if_neg (by rw [fresh_later t h]; exact Bool.false_ne_true)]
  dsimp only [dats]

theorem leaves (c : Dev nD) (w : Fin cfg1.W) (t : Fin cfg1.N) :
    (dat c).leavesExact w t = owns (c : Thread nD τ) ((cfg1.win w).stage (cfg1.slots t w)) fullShare ((dat c).after w t) := by
  unfold Dat.leavesExact; rw [live w t]

set_option maxHeartbeats 800000 in
/-- The body at any point. -/
theorem body_runs (c : Dev nD) (t : Fin cfg1.N) :
    iprop((dat c).Φ t.castSucc ∗ (dat c).owesAt none t.castSucc
      ∗ (∃ d, owns (c : Thread nD τ) (st1_0 t) fullShare ((dat c).before 0 t d))
      ∗ (∃ d, owns (c : Thread nD τ) (st1_1 t) fullShare ((dat c).before 1 t d))
      ∗ (∃ d, owns (c : Thread nD τ) (st1_2 t) fullShare ((dat c).before 2 t d))
      ∗ (∃ d, owns (c : Thread nD τ) (st1_3 t) fullShare ((dat c).before 3 t d))
      ∗ (∃ d, owns (c : Thread nD τ) (st1_4 t) fullShare ((dat c).before 4 t d))
      ∗ (∃ d, owns (c : Thread nD τ) (st1_5 t) fullShare ((dat c).before 5 t d)))
    ⊢ wp frame (wpE (defs₀ (F := F)) Variants.none c none) Set.univ (bodyAt1 t) fun _ =>
      iprop((dat c).Φ t.succ ∗ (dat c).owesAt none t.succ
      ∗ (dat c).leavesExact 0 t ∗ (dat c).leavesExact 1 t ∗ (dat c).leavesExact 2 t ∗ (dat c).leavesExact 3 t ∗ (dat c).leavesExact 4 t
      ∗ (dat c).leavesExact 5 t) := by
  simp only [before_0, before_1, before_2, before_3, before_4]
  rw [show (dat c).Φ t.succ = (dat c).Φ t.castSucc from rfl, show (dat c).owesAt none t.succ = (dat c).owesAt none t.castSucc from rfl,
    leaves, leaves, leaves, leaves, leaves, leaves, after_0, after_1, after_2, after_3, after_4, after_5]
  by_cases h : t.val % 16 = 0
  · rw [acc_first V c t h]
    iintro ⟨HΦ, Ho, ⟨%d0, H0⟩, ⟨%d1, H1⟩, ⟨%d2, H2⟩, ⟨%d3, H3⟩, ⟨%d4, H4⟩, ⟨%d5, H5⟩⟩
    iapply (run_first c (grid1.coords t) _ _ _ _ _ _ _ _ _ _ _ _ ((cond_first t).mpr h) (fun h' => (cond_later t).mp h' h)
      (iblk V c 0 t) (iblk V c 1 t) (iblk V c 2 t) (iblk V c 3 t) (iblk V c 4 t) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc_later V c t h]
    simp only [before_5 V O lvl c t h]
    iintro ⟨HΦ, Ho, ⟨%d0, H0⟩, ⟨%d1, H1⟩, ⟨%d2, H2⟩, ⟨%d3, H3⟩, ⟨%d4, H4⟩, ⟨%d5, H5⟩⟩
    iapply (run_later c (grid1.coords t) _ _ _ _ _ _ _ _ _ _ _ _ (fun h' => h ((cond_first t).mp h')) ((cond_later t).mpr h)
      (iblk V c 0 t) (iblk V c 1 t) (iblk V c 2 t) (iblk V c 3 t) (iblk V c 4 t) _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_at (t : Fin cfg1.N) :
    defs₀ (F := F) .tc cfg1.body (cfg1.bodyArgs t (cfg1.slots t)) = bodyAt1 t := by
  rfl

theorem body_obligation (c : Dev nD) : BodyObligation (dat c) (defs₀ (F := F)) Variants.none none Set.univ := fun t => by
  rw [bigSep_W1, bigSep_W1, defs₀_at]
  exact triple_restated (body_runs V O lvl c t) rfl .rfl fun _ => .rfl

/-! ## The region -/

abbrev adm : (p : Fin 1) → (pcfgs (F := F) p).Adm := fun p => (cfgs p).toPCfg_adm

/-- What core `c` owes and how far its recorded waits reach. -/
def ow (c : Dev nD) : sProp 𝕄 :=
  iprop(∃ W, ⌜(K (F := F)).WBelow (SparseCore.T c) W lvl⌝ ∗ owes (SparseCore.T c : Thread nD τ) (O c) W)

set_option backward.isDefEq.respectTransparency.types false in
/-- The region: entered from the TensorCore's buffers at `V`, left with the windows' arrays at what the run leaves and
    the other buffers as they were. -/
def reg (hO : ∀ c g, O c g none = 0) :
    Pipeline.RegionSeg (pcfgs (F := F)) adm (dats V O lvl) none defs₀ Variants.none (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation V O lvl c).loose
  hwaits c := Pipeline.cellsWaits_intro _ _ _ _ c fun w s t => (K (F := F)).mayWait_none _ (hO c)
  pre c := iprop(unscopedBufs c (V c) ∗ ow O lvl c)
  post c := iprop((dat c).arrays ((dat c).arrAt · cfg1.N) ∗ Pipeline.unscopedRest spec1 c (V c) ∗ ow O lvl c)
  X c := iprop(emp)
  Y c := iprop(emp)
  Z c := Pipeline.unscopedRest spec1 c (V c)
  hentry c := by
    have hsplit := (Pipeline.arrays_of_unscopedBufs (pcfgs (F := F)) adm (dats V O lvl) launch1.win launch1.arr_whole c
      ((dat c).share_full fun _ => rfl) (V c) (A_eq V O lvl c))
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin ow
      icases HO with ⟨%W, %hW, HO⟩; iexists W; isplitr; · ipureintro; exact fun p hp => Or.inl (hW p hp)
      iexact HO
    isplitr; · iempintro
    iexact Hr
  hin c := by
    rw [show (dat c).Φ 0 = iprop(emp) from rfl]
    iintro ⟨-, -, -⟩
    iempintro
  hout c := by
    rw [show (Pipeline.scopedRest (pcfgs (F := F) 0).spec c : sProp 𝕄) = BI.emp from scopedRest1_eq c, Pipeline.ownSems0_none]
    iintro -
    isplitr; · iempintro
    isplitr; · iempintro
    iempintro
  hexit c := by
    iintro ⟨Ha, HO, -, HZ⟩
    imodintro
    isplitl [Ha]; · iexact Ha
    isplitl [HZ]; · iexact HZ
    unfold Pipeline.Dat.owesAt Pipeline.owesWithin ow
    icases HO with ⟨%W, %hW, HO⟩; iexists W
    isplitr
    · ipureintro
      intro p hp
      rcases hW hp with h | h
      · exact h
      · obtain ⟨w, s, rfl⟩ := h
        exact Nat.zero_le _
    iexact HO

end Cert.Rows

end
-- ==== Proof.Main.lean ====
/-
  The whole program: the host operations, the SparseCore gather, the pipelined layers, from the launch memory to the exit
  memory, over any float values.
-/
module

public import proofs.«01_k».proof.Proof.Split
public import proofs.«01_k».proof.Proof.Region
public import Idealize.ShloMosaic.Lib.SparseCore.Quiescent

@[expose] public section

noncomputable section

namespace Cert.Rows

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The pipeline's cells live in the left half of the certificate's second component. -/
abbrev EP : Emb (URounds (GSem nD τ sig) Unit) (MT nD τ sig (HIx 1) (Elt F) ℕ UU ℕ) :=
  (Emb.inl : Emb (URounds (GSem nD τ sig) Unit) (URounds (GSem nD τ sig) Unit × Counters)).trans embR

instance EP_landsIn : (EP (F := F)).LandsIn (upEmb : UEmb _ 𝕄) := by
  infer_instance

variable (m : (ℓ : Loc nD τ sig) → Buf (Elt F) ℓ) (ρ : Dev nD → PrngReg)

/-! ## @main and its valuations -/

/-- The host operations before the gather -/
abbrev ops1 : List (HloOp τ sig (Elt F)) :=
  [StableHlo.reshape main_arg4 main_v0 (rfl : (.f32 : EltTy) = .f32) shapeCasts_S256_S1x256,
   StableHlo.reshape main_arg0 main_v1 (rfl : (.f32 : EltTy) = .f32) shapeCasts_S4x2048x256_S8192x2x128,
   StableHlo.reshape main_arg1 main_v2 (rfl : (.i32 : EltTy) = .i32) shapeCasts_S4x16x512x1_S32768]
/-- and after it. -/
abbrev ops2 : List (HloOp τ sig (Elt F)) :=
  [StableHlo.reshape main_v3 main_v4 (rfl : (.f32 : EltTy) = .f32) shapeCasts_S32768x2x128_S4x16x512x256,
   StableHlo.unary main_arg3 main_v5 ((truncf .bf16 · bitsLt_bf16_f32) : (⟨S256x256, .f32⟩ : BufTy).Contents (Elt F) → (⟨S256x256, .bf16⟩ : BufTy).Contents (Elt F)),
   StableHlo.unary main_v5 main_v6 ((extf .f32 · bitsLt_bf16_f32) : (⟨S256x256, .bf16⟩ : BufTy).Contents (Elt F) → (⟨S256x256, .f32⟩ : BufTy).Contents (Elt F)),
   StableHlo.binary main_arg3 main_v6 main_v7 (subf : (⟨S256x256, .f32⟩ : BufTy).Contents (Elt F) → (⟨S256x256, .f32⟩ : BufTy).Contents (Elt F) → (⟨S256x256, .f32⟩ : BufTy).Contents (Elt F)),
   StableHlo.unary main_v7 main_v8 ((truncf .bf16 · bitsLt_bf16_f32) : (⟨S256x256, .f32⟩ : BufTy).Contents (Elt F) → (⟨S256x256, .bf16⟩ : BufTy).Contents (Elt F))]

theorem main_eq (d : Dev nD) : main (F := F) d
    = (StableHlo.seq ops1 >>= fun _ => sc.run d 0 >>= fun _ => StableHlo.seq ops2 >>= fun _ =>
        SparseCore.liftProg (Prog.lift (.customCall (Pipeline.entry 0) ()))) := by
  rfl

theorem ops1_sub : (ops1 : List (HloOp τ sig (Elt F))).Forall fun op => op.bufs ⊆ StableHlo.tcRefs τ sig :=
  ⟨StableHlo.reshape_bufs_sub .., StableHlo.reshape_bufs_sub .., StableHlo.reshape_bufs_sub ..⟩
theorem ops2_sub : (ops2 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.unary_bufs_sub ..⟩
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h

/-- The buffers at launch, -/
abbrev V0 (d : Dev nD) : Valuation τ sig (Elt F) := fun b => m (d, b)
/-- before the gather, -/
def V1 (d : Dev nD) : Valuation τ sig (Elt F) := StableHlo.after ops1 (V0 m d)

def tbl (d : Dev nD) : Buf (Elt F) (tLoc d) := V1 m d main_v1
def lst (d : Dev nD) : Buf (Elt F) (iLoc d) := V1 m d main_v2
def was (d : Dev nD) : Buf (Elt F) (oLoc d) := V1 m d main_v3

/-- after it -/
def V2 (d : Dev nD) : Valuation τ sig (Elt F) := Function.update (V1 m d) (main_v3 : DevRef τ sig) (gat (tbl m d) (lst m d))
/-- and before the layers. -/
def V3 (d : Dev nD) : Valuation τ sig (Elt F) := StableHlo.after ops2 (V2 m d)
abbrev V3' (d : Dev nD) (b : Ref sig .tc) : Buf (Elt F) ((d : Thread nD τ).loc b) := V3 m d b

/-- The gather's three arrays. -/
def scRefs : Finset (DevRef τ sig) := {(main_v1 : DevRef τ sig), (main_v2 : DevRef τ sig), (main_v3 : DevRef τ sig)}

theorem scRefs_sub : scRefs ⊆ Pipeline.ucRefs τ sig := by decide

theorem held_scRefs (d : Dev nD) (W : Valuation τ sig (Elt F)) :
    (StableHlo.held (d : Thread nD τ) scRefs W : sProp 𝕄)
      = iprop((tLoc d ↦{fullShare} W main_v1) ∗ (iLoc d ↦{fullShare} W main_v2) ∗ (oLoc d ↦{fullShare} W main_v3)) := by
  unfold StableHlo.held scRefs
  rw [SparseCore.bigSep_insert' (by decide), SparseCore.bigSep_insert' (by decide), bigSep_singleton]

theorem V2_v1 (d : Dev nD) : V2 m d main_v1 = tbl m d := Function.update_of_ne (by decide) _ _
theorem V2_v2 (d : Dev nD) : V2 m d main_v2 = lst m d := Function.update_of_ne (by decide) _ _
theorem V2_v3 (d : Dev nD) : V2 m d main_v3 = (gat (tbl m d) (lst m d) : Buf (Elt F) (oLoc d)) := Function.update_self _ _ _

/-- The buffers before the gather are its arrays and the others; -/
theorem held_V1 (d : Dev nD) :
    (StableHlo.held (d : Thread nD τ) (Pipeline.ucRefs τ sig) (V1 m d) : sProp 𝕄)
      = iprop(((tLoc d ↦{fullShare} tbl m d) ∗ (iLoc d ↦{fullShare} lst m d) ∗ (oLoc d ↦{fullShare} was m d))
        ∗ StableHlo.held (d : Thread nD τ) (Pipeline.ucRefs τ sig \ scRefs) (V1 m d)) := by
  rw [StableHlo.held_sub_split _ scRefs_sub, held_scRefs]; rfl

/-- the buffers after it are its arrays, the result gathered, and the others as before. -/
theorem held_V2 (d : Dev nD) :
    (StableHlo.held (d : Thread nD τ) (Pipeline.ucRefs τ sig) (V2 m d) : sProp 𝕄)
      = iprop(((tLoc d ↦{fullShare} tbl m d) ∗ (iLoc d ↦{fullShare} lst m d) ∗ (oLoc d ↦{fullShare} (gat (tbl m d) (lst m d) : Buf (Elt F) (oLoc d))))
        ∗ StableHlo.held (d : Thread nD τ) (Pipeline.ucRefs τ sig \ scRefs) (V1 m d)) := by
  rw [StableHlo.held_sub_split _ scRefs_sub, held_scRefs, V2_v1, V2_v2, V2_v3,
    StableHlo.held_congr (V := V2 m d) (V' := V1 m d) _ fun b hb => Function.update_of_ne (fun h => (Finset.mem_sdiff.mp hb).2 (by rw [h]; decide)) _ _]

/-! ## The launch -/

abbrev PP : (K (F := F)).Pay (nD := nD) (Val := Elt F) (Name := ℕ) (U := UU) := P (tbl m) (lst m) (was m)

abbrev owing : Dev nD → CellTallies nD τ sig (HIx 1) := fun c => (K (F := F)).Otc c 1
theorem owing_eq (c : Dev nD) : owing (F := F) c = 0 := (K (F := F)).Otc_end c le_rfl

abbrev lvl1 : ℕ := 8 * (inferInstance : SparseCore.Cfg.Blocks 1 1).fst 1

abbrev dats1 := dats (V3' m) (owing (F := F)) lvl1
abbrev reg1 := reg (V3' m) (owing (F := F)) lvl1 (fun c g => by rw [owing_eq]; rfl)

/-- The pipeline's ghost state on core `d`. -/
def Gh (d : Dev nD) : sProp 𝕄 := iprop(Pipeline.cellsGhost cfgs EP 0 d ∗ Pipeline.toksInit cfgs EP 0 d)

/-- The launch element. -/
def u₀ : UU := (initOf (K (F := F)).hsCells (K (F := F)).hsToks,
  (initOf (Pipeline.cells (nD := nD) cfgs cellOf_inj) (Pipeline.launchToks (nD := nD) cfgs cellOf_inj), 1))

theorem bigSep_emp' {ι : Type} (s : Finset ι) : (bigSep s fun _ => iprop(emp) : sProp 𝕄) = iprop(emp) := BI.bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb (embR : Emb (URounds (GSem nD τ sig) Unit × Counters) 𝕄) _ _) $$ HR
  icases H with ⟨HP, -⟩
  ihave H := (Pipeline.fund_ghost cfgs (EP (F := F)) cellOf_inj) $$ HP
  imod H with ⟨HG, HT⟩
  imodintro
  isplitl [HH]; · iexact HH
  isplitl [HG HT]
  · unfold Gh
    rw [bigSep_sep']
    isplitl [HG]
    · rw [show (bigSep Finset.univ fun d : Dev nD => Pipeline.cellsGhost cfgs (EP (F := F)) 0 d)
        = bigSep Finset.univ fun d : Dev nD => bigSep Finset.univ fun p => Pipeline.cellsGhost cfgs (EP (F := F)) p d from
          bigSep_congr fun d _ => (bigSep_univ_of_subsingleton (Φ := fun p => Pipeline.cellsGhost cfgs (EP (F := F)) p d) (0 : Fin 1)).symm]
      iexact HG
    · rw [show (bigSep Finset.univ fun d : Dev nD => (Pipeline.toksInit cfgs (EP (F := F)) 0 d : sProp 𝕄))
        = bigSep Finset.univ fun d : Dev nD => bigSep Finset.univ fun p => Pipeline.toksInit cfgs (EP (F := F)) p d from
          bigSep_congr fun d _ => (bigSep_univ_of_subsingleton (Φ := fun p => Pipeline.toksInit cfgs (EP (F := F)) p d) (0 : Fin 1)).symm]
      iexact HT
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-- What the program ends with: the layers' arrays and the buffers they do not name. -/
abbrev FIN (d : Dev nD) : sProp 𝕄 :=
  iprop((dats1 m 0 d).arrays ((dats1 m 0 d).arrAt · cfg1.N) ∗ Pipeline.unscopedRest spec1 d (V3' m d))

set_option backward.isDefEq.respectTransparency.types false in
set_option maxHeartbeats 800000 in
/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d : Thread nD τ).loc b)) : sProp 𝕄) = StableHlo.held (d : Thread nD τ) (Pipeline.ucRefs τ sig) (V0 m d) from
    Pipeline.unscopedBufs_held d (V0 m d)]
  have hpre : (reg1 m).pre d = iprop(unscopedBufs d (V3' m d) ∗ ow (owing (F := F)) lvl1 d) := rfl
  have hpost : (reg1 m).post d = iprop((dats1 m 0 d).arrays ((dats1 m 0 d).arrAt · cfg1.N) ∗ Pipeline.unscopedRest spec1 d (V3' m d) ∗ ow (owing (F := F)) lvl1 d) := rfl
  iintro ⟨#Hctx, Hst, ⟨Hb, Hh, Hts, -⟩, HG⟩
  iapply (StableHlo.wp_seq 𝒱 none Set.univ d (Pipeline.ucRefs τ sig) _ ops1
    (fun op h => Pipeline.sub_ucRefs op ((List.forall_iff_forall_mem.mp ops1_sub) op h)) ops1_fresh (V0 m d)) $$ [Hb Hh]
  · isplitl [Hb] <;> iassumption
  iintro ⟨Hb, Hh⟩
  ihave Hh' := (Entails.of_eq (show (StableHlo.held (d : Thread nD τ) (Pipeline.ucRefs τ sig) (StableHlo.after ops1 (V0 m d)) : sProp 𝕄) = _ from
    (held_V1 m d).trans (congrArg (fun A => iprop(A ∗ _)) (deal d (tbl m d) (lst m d) (was m d))))) $$ Hh
  icases Hh' with ⟨⟨Hrest, Hdeal⟩, Hoth⟩
  rw [wp_bind]
  iapply ((K (F := F)).wp_run (D (F := F)) 𝒱 (EH := EH) (P := PP m) κ d 0) $$ [Hst Hrest Hdeal Hoth Hb Hts HG]
  isplitr; · iexact Hctx
  isplitl [Hst]; · iexact Hst
  isplitl [Hdeal]; · iexact Hdeal
  iintro ⟨Hst, Hdn⟩
  ihave Hh := (Entails.of_eq (((held_V2 m d).trans (congrArg (fun A => iprop(A ∗ _)) (deal d (tbl m d) (lst m d) (gat (tbl m d) (lst m d))))).symm)) $$ [Hrest Hdn Hoth]
  · isplitl [Hrest Hdn]
    · isplitl [Hrest]; · iexact Hrest
      iexact Hdn
    iexact Hoth
  iapply (StableHlo.wp_seq 𝒱 none Set.univ d (Pipeline.ucRefs τ sig) _ ops2
    (fun op h => Pipeline.sub_ucRefs op ((List.forall_iff_forall_mem.mp ops2_sub) op h)) ops2_fresh (V2 m d)) $$ [Hb Hh]
  · isplitl [Hb] <;> iassumption
  iintro ⟨Hb, Hh⟩
  iapply ((K (F := F)).wp_liftProg (D (F := F)) 𝒱 (SparseCore.T d) Set.univ none (Prog.lift (.customCall (Pipeline.entry 0) ())) _)
  ihave Hlev := ((K (F := F)).ctx_levAts κ) $$ Hctx
  unfold SparseCore.Cfg.tcSt Gh
  icases Hst with ⟨How, Hst⟩
  icases HG with ⟨HG, HT⟩
  iapply ((reg1 m).wp (pcfgs (F := F)) adm (dats1 m) none cellOf_inj EP defs₀ Variants.none (K (F := F)).L (K (F := F)).lev d none (fun u hu => nomatch hu) _ _) $$ [Hb Hh How HG HT Hlev Hst Hts]
  rw [hpre, hpost]
  isplitl [Hst Hts]
  · iintro ⟨Hb, Ha, Hr, How⟩
    rw [wp_ret]; imodintro
    isplitl [How Hst]
    · isplitl [How]; · unfold ow; iexact How
      iexact Hst
    isplitl [Ha Hr]
    · isplitl [Ha] <;> iassumption
    isplitl [Hb] <;> iassumption
  isplitl [Hb]; · iexact Hb
  isplitl [Hh How]
  · isplitl [Hh]
    · rw [show (unscopedBufs d (V3' m d) : sProp 𝕄) = StableHlo.held (d : Thread nD τ) (Pipeline.ucRefs τ sig) (V3 m d) from
        Pipeline.unscopedBufs_held d (V3 m d)]
      iexact Hh
    unfold ow; iexact How
  isplitl [Hlev]; · iexact Hlev
  isplitl [HG]; · iexact HG
  iexact HT

/-! ## The exit memory -/

/-- No host operation writes an argument. -/
theorem V3_arg (d : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V3 m d b = m ((d : Thread nD τ).loc b) := by
  obtain ⟨h0, h1, h2, h3, h4, h5, h6, h7, h8⟩ := hb
  refine (StableHlo.after_of_forall_not_mem (b := Proc.devRef .tc b) ops2 (V2 m d) ?_).trans
    ((Function.update_of_ne (StableHlo.devRef_ne_of_ne h3) _ _).trans
      (StableHlo.after_of_forall_not_mem (b := Proc.devRef .tc b) ops1 (V0 m d) ?_)) <;>
  · intro op hop
    simp only [List.mem_cons, List.mem_nil_iff, or_false] at hop
    rcases hop with rfl | rfl | rfl | rfl | rfl <;>
      simp only [StableHlo.unary_writes, StableHlo.binary_writes, StableHlo.reshape_writes, Finset.mem_singleton] <;>
      exact StableHlo.devRef_ne_of_ne ‹_›

/-- The result. -/
def outA (d : Dev nD) : Buf (Elt F) ((d : Thread nD τ).loc main_v9) := (dats1 m 0 d).arrAt 5 cfg1.N

def fq (d : Dev nD) (s' : Phys nD τ sig (Elt F)) : Prop :=
  s'.mem.mem ((d : Thread nD τ).loc main_v9) = outA m d
  ∧ s'.mem.mem ((d : Thread nD τ).loc main_arg0) = m ((d : Thread nD τ).loc main_arg0)
  ∧ s'.mem.mem ((d : Thread nD τ).loc main_arg1) = m ((d : Thread nD τ).loc main_arg1)
  ∧ s'.mem.mem ((d : Thread nD τ).loc main_arg2) = m ((d : Thread nD τ).loc main_arg2)
  ∧ s'.mem.mem ((d : Thread nD τ).loc main_arg3) = m ((d : Thread nD τ).loc main_arg3)
  ∧ s'.mem.mem ((d : Thread nD τ).loc main_arg4) = m ((d : Thread nD τ).loc main_arg4)

theorem hfin (d : Dev nD) (s' : Phys nD τ sig (Elt F)) : iprop(FIN m d ∗ SI s') ⊢ (⌜fq m d s'⌝ : sProp 𝕄) := by
  have key (b : Ref sig .tc) (f : Buf (Elt F) ((d : Thread nD τ).loc b)) :
      iprop(SI s' ∗ (((d : Thread nD τ).loc b) ↦{fullShare} f)) ⊢ (iprop(⌜s'.mem.mem ((d : Thread nD τ).loc b) = f⌝ ∗ SI s') : sProp 𝕄) := by
    iintro ⟨HSI, H⟩
    ihave H := (persistent_entails_right (SI_pointsTo_agree (st := s') (ℓ := (d : Thread nD τ).loc b) (I := Finset.univ) (q := fullShare) (f := f))) $$ [HSI H]
    · isplitl [HSI] <;> iassumption
    icases H with ⟨%h, HSI, -⟩
    isplitr; · ipureintro; exact Buf.eq_of_forall_mem_univ h
    iexact HSI
  unfold FIN
  rw [show (Pipeline.unscopedRest spec1 d (V3' m d) : sProp 𝕄) = _ from unscopedRest1_eq d (V3' m d)]
  iintro ⟨⟨Ha, H0, H1, H3, H4, -⟩, HSI⟩
  ihave H := (key main_arg0 _) $$ [HSI H0]; · isplitl [HSI] <;> iassumption
  icases H with ⟨%h0, HSI⟩
  ihave H := (key main_arg1 _) $$ [HSI H1]; · isplitl [HSI] <;> iassumption
  icases H with ⟨%h1, HSI⟩
  ihave H := (key main_arg3 _) $$ [HSI H3]; · isplitl [HSI] <;> iassumption
  icases H with ⟨%h3, HSI⟩
  ihave H := (key main_arg4 _) $$ [HSI H4]; · isplitl [HSI] <;> iassumption
  icases H with ⟨%h4, HSI⟩
  ihave Hr := (Pipeline.arrays_read (pcfgs (F := F)) adm (dats1 m) launch1.arr_whole d ((dats1 m 0 d).share_full fun _ => rfl) _ s') $$ [Ha HSI]
  · isplitl [Ha] <;> iassumption
  icases Hr with ⟨%ha, -⟩
  ipureintro
  exact ⟨ha 5, h0.trans (V3_arg m d main_arg0 (by decide)), h1.trans (V3_arg m d main_arg1 (by decide)),
    (ha 1).trans (((dats1 m 0 d).arrAt_in 1 rfl _).trans ((A_eq (V3' m) (owing (F := F)) lvl1 d 1).trans (V3_arg m d main_arg2 (by decide)))),
    h3.trans (V3_arg m d main_arg3 (by decide)), h4.trans (V3_arg m d main_arg4 (by decide))⟩

/-- At the end: the result at `outA`, the arguments as launched, every counter zero. -/
def QC : PUnit × MemSt nD τ sig (Elt F) → Prop := fun r => (∀ c : Dev nD,
    r.2.mem ((c : Thread nD τ).loc main_v9) = outA m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0

/-- The list's words are row numbers of the table. -/
def InRange : Prop := ∀ (d : Dev nD) (j : S4x16x512x1.Idx), (m ((d : Thread nD τ).loc main_arg1) j : BitVec 32).toNat < 8192

theorem lst_eq (d : Dev nD) : lst m d = (shapeCast S32768 (m ((d : Thread nD τ).loc main_arg1) : S4x16x512x1.Idx → BitVec 32) shapeCasts_S4x16x512x1_S32768 : S32768.Idx → BitVec 32) := by
  rfl

theorem lst_lt (h : InRange m) (d : Dev nD) (j : S32768.Idx) : (lst m d j : BitVec 32).toNat < 8192 := by
  rw [lst_eq]; exact h d _

theorem run_main [∀ e, Nonempty (Elt F e)] (h : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tbl m) (lst m) (was m) facts (lst_lt m h))
    (fun q _ => match q with | 0 => SparseCore.Cfg.VecSplit.of_plain (vecSplit (tbl m) (lst m) (was m)))
    m ρ main (Gh (F := F)) (FIN m) (u₀ (F := F)) (sep_elim_left.trans (hu₀ m)) (hmain m ρ) (fq m) (hfin m) (QC m) (fun _ h hz => ⟨h, hz⟩)

end Cert.Rows

end
-- ==== Proof.Frames.lean ====
/- The frames of the kernel, of its idealization and of the reference, and what the two preconditions say of the arguments. -/
module

public import proofs.«01_k».proof.Proof.Main
public import proofs.«01_k».proof.Proof.Gen.Kernel
public import proofs.«01_k».proof.Proof.Gen.ReferenceIdeal.Run
public import proofs.«01_k».proof.Proof.Gen.Pre_in_range
public import proofs.«01_k».proof.Proof.Gen.Pre_finite
public import Idealize.ShloMosaic.PureOps.Ideal.Laws

@[expose] public section

noncomputable section

namespace Cert.Rows

open Cert.KernelIdeal Idealize.ShloMosaic Idealize.ShloMosaic.TcCoe Idealize.SL.Sem

theorem andi_ofBool (a b : Bool) : BitVec.ofBool a &&& BitVec.ofBool b = BitVec.ofBool (a && b) := by
  cases a <;> cases b <;> rfl

theorem ofBool_eq_one (a : Bool) : BitVec.ofBool a = 1#1 ↔ a = true := by
  cases a <;> decide

/-- A word at least 0 and below 8192, both signed, is below 8192 unsigned. -/
theorem range_word (w : BitVec 32) (h : IntOp.andi (IntOp.cmpi .sge w 0#32) (IntOp.cmpi .slt w 8192#32) = 1#1) : w.toNat < 8192 := by
  simp only [IntOp.andi, IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

/-- Neither infinity. -/
def IsReal (x : EReal) : Prop := x ≠ ⊥ ∧ x ≠ ⊤

/-- An extended real whose absolute value is below the pattern of +∞ is neither infinity. -/
theorem finite_real (x : EReal) (h : BitVec.ofBool (decide (max x (-x) < Ideal.ofBits .f32 0x7F800000#32)) = 1#1) : IsReal x := by
  rw [ofBool_eq_one, decide_eq_true_eq] at h
  constructor
  · rintro rfl; simp at h
  · rintro rfl; simp at h

/-- The first precondition: the list's words are row numbers. -/
theorem inRange_of_pre {F : FTy → Type} [FloatOps F] (x0 : FVec F S4x2048x256 .f32) (x1 : IVec S4x16x512x1 32) (x2 : FVec F S4x512x256 .f32)
    (x3 : FVec F S256x256 .f32) (x4 : FVec F S256 .f32) (h : Cert.Pre_in_range.fn x0 x1 x2 x3 x4 = fun _ => 1#1) (j : S4x16x512x1.Idx) :
    (x1 j).toNat < 8192 :=
  range_word _ (congrFun h j)

/-- The two body tables agree, processor by processor and label by label. -/
theorem defs0_same : (Cert.Kernel.defs₀ (F := Bits)) = Cert.KernelIdeal.defs₀ (F := Bits) := by
  funext c ℓ a
  cases c <;> fin_cases ℓ <;> rfl

theorem defs_same : (Cert.Kernel.defs (F := Bits)) = Cert.KernelIdeal.defs (F := Bits) :=
  congrArg (fun D => (Cert.KernelIdeal.sc (F := Bits)).defs (Pipeline.defs (Cert.KernelIdeal.pcfgs (F := Bits)) D)) defs0_same

/-- The kernel runs, leaves its arguments as they were and every counter at zero. -/
theorem frame_kernel : Cert.quiescent_Kernel := fun m ρ h => by
  have hr := run_main (F := Bits) m ρ fun d j => inRange_of_pre _ _ _ _ _ (h d) j
  rw [← defs_same] at hr
  exact (θ_run Cert.Kernel.defs Cert.Kernel.threads _).mono (fun _ h => ⟨fun c => (h.1 c).2, h.2⟩) hr

/-- So does its idealization. -/
theorem frame_ideal : Cert.quiescent_KernelIdeal := fun m ρ h =>
  (θ_run Cert.KernelIdeal.defs _ _).mono (fun _ h => ⟨fun c => (h.1 c).2, h.2⟩)
    (run_main (F := Ideal) m ρ fun d j => inRange_of_pre _ _ _ _ _ (h d) j)

theorem frame_ideal_finite : Cert.quiescent_KernelIdeal_pre_finite := fun m ρ h =>
  (θ_run Cert.KernelIdeal.defs _ _).mono (fun _ h => ⟨fun c => (h.1 c).2, h.2⟩)
    (run_main (F := Ideal) m ρ fun d j => range_word _ (congrFun (h d).1 j))

/-- The reference declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_finite : Cert.quiescent_ReferenceIdeal_pre_finite := fun m ρ _ => frame_ref m ρ trivial

/-! ## What the second precondition says of the floats -/

section
variable {m : (ℓ : Loc nD τ sig) → Buf (Elt Ideal) ℓ} (h : Cert.Pre_KernelIdeal_finite m) (d : Dev nD)
include h

theorem fin_table (j : S4x2048x256.Idx) : IsReal (m ((d : Thread nD τ).loc main_arg0) j) :=
  finite_real _ (congrFun (h d).2.1 j)

theorem fin_added (j : S4x512x256.Idx) : IsReal (m ((d : Thread nD τ).loc main_arg2) j) :=
  finite_real _ (congrFun (h d).2.2.1 j)

theorem fin_weight (j : S256x256.Idx) : IsReal (m ((d : Thread nD τ).loc main_arg3) j) :=
  finite_real _ (congrFun (h d).2.2.2 j)

end

end Cert.Rows

end
-- ==== Proof.Layers.lean ====
/- One point's two layers at the extended reals: at finite operands the split into high and low halves changes nothing. -/
module

public import proofs.«01_k».proof.Proof.Frames
public import Idealize.ShloMosaic.Lib.MatmulPlain
public import Idealize.ShloMosaic.Lib.ValueLayout
public import Idealize.ShloMosaic.Lib.KernelVsHost

@[expose] public section

noncomputable section

namespace Cert.Rows

open Cert.KernelIdeal Cert.KernelIdeal.Gen Idealize.ShloMosaic Idealize.ShloMosaic.ValueIdx

namespace IsReal

theorem add {x y : EReal} (hx : IsReal x) (hy : IsReal y) : IsReal (x + y) := by
  obtain ⟨h1, h2⟩ := hx; obtain ⟨h3, h4⟩ := hy
  lift x to ℝ using ⟨h2, h1⟩; lift y to ℝ using ⟨h4, h3⟩
  rw [← EReal.coe_add]; exact ⟨EReal.coe_ne_bot _, EReal.coe_ne_top _⟩

theorem max_zero {x : EReal} (hx : IsReal x) : IsReal (max x 0) := by
  rcases max_choice x 0 with h | h <;> rw [h]
  · exact hx
  · exact ⟨EReal.zero_ne_bot, EReal.zero_ne_top⟩

theorem sub_self {x : EReal} (hx : IsReal x) : x - x = 0 := EReal.sub_self hx.2 hx.1

end IsReal

/-- One entry of the second layer: the first layer's row against the weight's column. -/
def entry (g a : Fin 256 → EReal) (w : Fin 256 → EReal) (b : EReal) : EReal := max (∑ c, max (g c + a c) 0 * w c + b) 0

/-- A product of a block with the weight, started from zero. -/
theorem product_apply (l : FVec Ideal S512x256 .bf16) (r : FVec Ideal S256x256 .bf16) (i : Fin 512) (k : Fin 256) :
    matmul dot_S512x256_S256x256_S512x256_1_0_0_1_n_n none l r (constant S512x256 .f32 0x00000000#32) (ix2 i k)
      = ∑ c : Fin 256, (l (ix2 i c) * r (ix2 c k) : EReal) := by
  refine (Ideal.matmul_plain_apply (M := 512) (K := 256) (N := 256) none l r (constant S512x256 .f32 0x00000000#32) i k).trans ?_
  show Ideal.ofBits .f32 0x00000000#32 + _ = _
  rw [Ideal.ofBits_zero_f32, zero_add]

/-- The first layer of a block. -/
def layer1 (x0 : FVec Ideal S1x1x512x256 .f32) (x1 : FVec Ideal S1x512x256 .f32) : FVec Ideal S512x256 .f32 :=
  maximumf (addf (shapeCast S512x256 x0 shapeCasts_S1x1x512x256_S512x256) (shapeCast S512x256 x1 shapeCasts_S1x512x256_S512x256))
    (broadcast S512x256 (Scalar.ofBits .f32 0x00000000#32))

theorem layer1_apply (x0 : FVec Ideal S1x1x512x256 .f32) (x1 : FVec Ideal S1x512x256 .f32) (i : Fin 512) (c : Fin 256) :
    layer1 x0 x1 (ix2 i c) = max ((x0 (ix4 0 0 i c) : EReal) + x1 (ix3 0 i c)) 0 := by
  have e0 : shapeCast S512x256 x0 shapeCasts_S1x1x512x256_S512x256 (ix2 i c) = x0 (ix4 0 0 i c) :=
    shapeCast_apply x0 _ _ _ (by
      rw [Shape.rowMajor_val_four, Shape.rowMajor_val_two]
      show ((0 * 1 + 0) * 512 + i.val) * 256 + c.val = i.val * 256 + c.val
      omega)
  have e1 : shapeCast S512x256 x1 shapeCasts_S1x512x256_S512x256 (ix2 i c) = x1 (ix3 0 i c) :=
    shapeCast_1ab_ab_apply x1 _ i c
  show max ((shapeCast S512x256 x0 shapeCasts_S1x1x512x256_S512x256 (ix2 i c) : EReal) + shapeCast S512x256 x1 shapeCasts_S1x512x256_S512x256 (ix2 i c))
    (Ideal.ofBits .f32 0x00000000#32) = _
  rw [e0, e1, Ideal.ofBits_zero_f32]

/-- The second layer of a block, entry by entry, for operands whose products with the low halves vanish. -/
theorem pay2_apply (x0 : FVec Ideal S1x1x512x256 .f32) (x1 : FVec Ideal S1x512x256 .f32) (x2 x3 : FVec Ideal S256x256 .bf16) (x4 : FVec Ideal S1x256 .f32)
    (h0 : ∀ j, IsReal (x0 j)) (h1 : ∀ j, IsReal (x1 j)) (h3 : ∀ j, x3 j = (0 : EReal)) (i : Fin 512) (k : Fin 256) :
    k1_pay2 (F := Ideal) x0 x1 x2 x3 x2 x4 (ix2 i k)
      = entry (fun c => x0 (ix4 0 0 i c)) (fun c => x1 (ix3 0 i c)) (fun c => x2 (ix2 c k)) (x4 (ix2 0 k)) := by
  have hreal (c : Fin 256) : IsReal (layer1 x0 x1 (ix2 i c)) := by
    rw [layer1_apply]; exact ((h0 _).add (h1 _)).max_zero
  have ew : shapeCast S256x256 x2 shapeCasts_S256x256_S256x256 = x2 := shapeCast_self x2 _
  have ew' : shapeCast S256x256 x3 shapeCasts_S256x256_S256x256 = x3 := shapeCast_self x3 _
  have eb : shapeCast S1x256 x4 shapeCasts_S1x256_S1x256 = x4 := shapeCast_self x4 _
  have ebk : broadcastTo S512x256 x4 broadcasts_S1x256_S512x256 (ix2 i k) = x4 (ix2 0 k) := by
    refine congrArg x4 (funext fun a => Fin.ext ?_)
    match a with
    | ⟨0, _⟩ => rfl
    | ⟨1, _⟩ => rfl
  show max ((((matmul dot_S512x256_S256x256_S512x256_1_0_0_1_n_n none (layer1 x0 x1 : FVec Ideal S512x256 .bf16) (shapeCast S256x256 x2 shapeCasts_S256x256_S256x256)
        (constant S512x256 .f32 0x00000000#32) (ix2 i k) : EReal)
      + matmul dot_S512x256_S256x256_S512x256_1_0_0_1_n_n none (layer1 x0 x1 : FVec Ideal S512x256 .bf16) (shapeCast S256x256 x3 shapeCasts_S256x256_S256x256)
        (constant S512x256 .f32 0x00000000#32) (ix2 i k))
      + matmul dot_S512x256_S256x256_S512x256_1_0_0_1_n_n none ((fun j => (layer1 x0 x1 j : EReal) - layer1 x0 x1 j) : FVec Ideal S512x256 .bf16)
        (shapeCast S256x256 x2 shapeCasts_S256x256_S256x256) (constant S512x256 .f32 0x00000000#32) (ix2 i k))
      + broadcastTo S512x256 (shapeCast S1x256 x4 shapeCasts_S1x256_S1x256) broadcasts_S1x256_S512x256 (ix2 i k))
    (Ideal.ofBits .f32 0x00000000#32) = _
  rw [ew, ew', eb, ebk, Ideal.ofBits_zero_f32]
  refine (congrArg (fun s : EReal => max (s + x4 (ix2 0 k)) 0) (congrArg₂ (fun a b : EReal => a + b) (congrArg₂ (fun a b : EReal => a + b)
    (product_apply (layer1 x0 x1) x2 i k) (product_apply (layer1 x0 x1) x3 i k))
    (product_apply (fun j => (layer1 x0 x1 j : EReal) - layer1 x0 x1 j) x2 i k))).trans ?_
  have z1 : ∑ c : Fin 256, (layer1 x0 x1 (ix2 i c) * x3 (ix2 c k) : EReal) = 0 :=
    Finset.sum_eq_zero fun c _ => by rw [h3, mul_zero]
  have z2 : ∑ c : Fin 256, (((layer1 x0 x1 (ix2 i c) : EReal) - layer1 x0 x1 (ix2 i c)) * x2 (ix2 c k) : EReal) = 0 :=
    Finset.sum_eq_zero fun c _ => by rw [(hreal c).sub_self, zero_mul]
  rw [z1, z2, add_zero, add_zero]
  unfold entry
  refine congrArg (fun s : EReal => max (s + x4 (ix2 0 k)) 0) (Finset.sum_congr rfl fun c _ => ?_)
  rw [layer1_apply]

/-- The stored first block, entry by entry. -/
theorem layers_apply (x0 : FVec Ideal S1x1x512x256 .f32) (x1 : FVec Ideal S1x512x256 .f32) (x2 x3 : FVec Ideal S256x256 .bf16) (x4 : FVec Ideal S1x256 .f32)
    (h0 : ∀ j, IsReal (x0 j)) (h1 : ∀ j, IsReal (x1 j)) (h3 : ∀ j, x3 j = (0 : EReal)) (i : Fin 512) (k : Fin 256) :
    layers (F := Ideal) x0 x1 x2 x3 x4 (ix3 0 i k)
      = entry (fun c => x0 (ix4 0 0 i c)) (fun c => x1 (ix3 0 i c)) (fun c => x2 (ix2 c k)) (x4 (ix2 0 k)) :=
  (shapeCast_ab_1ab_apply (k1_pay2 (F := Ideal) x0 x1 x2 x3 x2 x4) shapeCasts_S512x256_S1x512x256 0 i k).trans (pay2_apply x0 x1 x2 x3 x4 h0 h1 h3 i k)

/-- A raised block, entry by entry. -/
theorem layersOver_apply (x0 : FVec Ideal S1x1x512x256 .f32) (x1 : FVec Ideal S1x512x256 .f32) (x2 x3 : FVec Ideal S256x256 .bf16) (x4 : FVec Ideal S1x256 .f32)
    (xo : FVec Ideal S1x512x256 .f32)
    (h0 : ∀ j, IsReal (x0 j)) (h1 : ∀ j, IsReal (x1 j)) (h3 : ∀ j, x3 j = (0 : EReal)) (i : Fin 512) (k : Fin 256) :
    layersOver (F := Ideal) x0 x1 x2 x3 x4 xo (ix3 0 i k)
      = max (xo (ix3 0 i k) : EReal)
          (entry (fun c => x0 (ix4 0 0 i c)) (fun c => x1 (ix3 0 i c)) (fun c => x2 (ix2 c k)) (x4 (ix2 0 k))) := by
  refine (shapeCast_ab_1ab_apply (maximumf (shapeCast S512x256 xo shapeCasts_S1x512x256_S512x256) (k1_pay2 (F := Ideal) x0 x1 x2 x3 x2 x4))
    shapeCasts_S512x256_S1x512x256 0 i k).trans ?_
  show max (shapeCast S512x256 xo shapeCasts_S1x512x256_S512x256 (ix2 i k) : EReal) (k1_pay2 (F := Ideal) x0 x1 x2 x3 x2 x4 (ix2 i k)) = _
  rw [shapeCast_1ab_ab_apply xo _ i k, pay2_apply x0 x1 x2 x3 x4 h0 h1 h3 i k]

end Cert.Rows

end
-- ==== Proof.Blocks.lean ====
/- The blocks of the second call's windows at coordinates, and its result array from the blocks. -/
module

public import proofs.«01_k».proof.Proof.Layers
public import Idealize.ShloMosaic.Lib.Pipeline.ValueKit

@[expose] public section

noncomputable section

namespace Cert.Rows

open Cert.KernelIdeal Cert.KernelIdeal.Gen Idealize.ShloMosaic.TcCoe Idealize.ShloMosaic.ValueIdx Idealize.SL.Sem
open Idealize.ShloMosaic hiding ix1 ix2 ix3 ix4

/-- Point `t` works on cloud `t / 16`, -/
def bOf (t : Fin cfg1.N) : Fin 4 := ⟨t.val / 16, by have := t.isLt; simp [Pipeline.Grid.N] at this; omega⟩
/-- at neighbour `t % 16`. -/
def jOf (t : Fin cfg1.N) : Fin 16 := ⟨t.val % 16, Nat.mod_lt _ (by decide)⟩

theorem at_0 : ∀ t : Fin cfg1.N, win1_0.index t = ![t.val / 16, t.val % 16, 0, 0] := by decide +kernel
theorem at_1 : ∀ t : Fin cfg1.N, win1_1.index t = ![t.val / 16, 0, 0] := by decide +kernel
theorem at_2 : ∀ t : Fin cfg1.N, win1_2.index t = ![0, 0] := by decide +kernel
theorem at_3 : ∀ t : Fin cfg1.N, win1_3.index t = ![0, 0] := by decide +kernel
theorem at_4 : ∀ t : Fin cfg1.N, win1_4.index t = ![0, 0] := by decide +kernel
theorem at_5 : ∀ t : Fin cfg1.N, win1_5.index t = ![t.val / 16, 0, 0] := by decide +kernel

section
variable {F : FTy → Type} [FloatOps F] (V : (c : Dev nD) → (b : Ref sig .tc) → Buf (Elt F) ((c : Thread nD τ).loc b)) (c : Dev nD) (t : Fin cfg1.N)

theorem iblk_0 (i : Fin 512) (k : Fin 256) : iblk V c 0 t (ix4 0 0 i k) = V c main_v4 (ix4 (bOf t) (jOf t) i k) := by
  unfold iblk
  refine congrArg (V c main_v4) (funext fun a => Fin.ext ?_)
  fin_cases a <;> blk_simp [at_0] <;> first | rfl | simp [bOf, jOf]

theorem iblk_1 (i : Fin 512) (k : Fin 256) : iblk V c 1 t (ix3 0 i k) = V c main_arg2 (ix3 (bOf t) i k) := by
  unfold iblk
  refine congrArg (V c main_arg2) (funext fun a => Fin.ext ?_)
  fin_cases a <;> blk_simp [at_1] <;> first | rfl | simp [bOf, jOf]

theorem iblk_2 (k l : Fin 256) : iblk V c 2 t (ix2 k l) = V c main_v5 (ix2 k l) := by
  unfold iblk
  refine congrArg (V c main_v5) (funext fun a => Fin.ext ?_)
  fin_cases a <;> blk_simp [at_2] <;> first | rfl | simp [bOf, jOf]

theorem iblk_3 (k l : Fin 256) : iblk V c 3 t (ix2 k l) = V c main_v8 (ix2 k l) := by
  unfold iblk
  refine congrArg (V c main_v8) (funext fun a => Fin.ext ?_)
  fin_cases a <;> blk_simp [at_3] <;> first | rfl | simp [bOf, jOf]

theorem iblk_4 (l : Fin 256) : iblk V c 4 t (ix2 0 l) = V c main_v0 (ix2 0 l) := by
  unfold iblk
  refine congrArg (V c main_v0) (funext fun a => Fin.ext ?_)
  fin_cases a <;> blk_simp [at_4] <;> first | rfl | simp [bOf, jOf]

end

/-! ## The call's result at the extended reals -/

section
variable (V : (c : Dev nD) → (b : Ref sig .tc) → Buf (Elt Ideal) ((c : Thread nD τ).loc b)) (O : Dev nD → CellTallies nD τ sig (SparseCore.Cfg.HIx 1)) (lvl : ℕ)
  (h4 : ∀ c j, IsReal (V c main_v4 j)) (h2 : ∀ c j, IsReal (V c main_arg2 j)) (h8 : ∀ c j, V c main_v8 j = (0 : EReal))
include h4 h2 h8

/-- Entry (i, k) of cloud `b`'s second layer at neighbour `j`. -/
def cell (c : Dev nD) (b : Fin 4) (j : Fin 16) (i : Fin 512) (k : Fin 256) : EReal :=
  entry (fun l => V c main_v4 (ix4 b j i l)) (fun l => V c main_arg2 (ix3 b i l)) (fun l => V c main_v5 (ix2 l k)) (V c main_v0 (ix2 0 k))

theorem layersAt_apply (c : Dev nD) (t : Fin cfg1.N) (i : Fin 512) (k : Fin 256) :
    layersAt V c t (ix3 0 i k) = cell V c (bOf t) (jOf t) i k := by
  refine (layers_apply (iblk V c 0 t) (iblk V c 1 t) (iblk V c 2 t) (iblk V c 3 t) (iblk V c 4 t)
    (fun j => h4 c _) (fun j => h2 c _) (fun j => h8 c _) i k).trans ?_
  unfold cell
  simp only [iblk_0, iblk_1, iblk_2, iblk_4]

theorem layersOverAt_apply (c : Dev nD) (t : Fin cfg1.N) (xo : Vec Ideal S1x512x256 .f32) (i : Fin 512) (k : Fin 256) :
    layersOverAt V c t xo (ix3 0 i k) = max (xo (ix3 0 i k) : EReal) (cell V c (bOf t) (jOf t) i k) := by
  refine (layersOver_apply (iblk V c 0 t) (iblk V c 1 t) (iblk V c 2 t) (iblk V c 3 t) (iblk V c 4 t) xo
    (fun j => h4 c _) (fun j => h2 c _) (fun j => h8 c _) i k).trans ?_
  unfold cell
  simp only [iblk_0, iblk_1, iblk_2, iblk_4]

omit h4 h2 h8 in
theorem upTo_zero (f : Fin 16 → EReal) : ((Finset.univ.filter fun j : Fin 16 => j.val ≤ 0).sup f) = f 0 := by
  rw [show (Finset.univ.filter fun j : Fin 16 => j.val ≤ 0) = {0} from by decide]
  exact Finset.sup_singleton

omit h4 h2 h8 in
theorem upTo_succ (f : Fin 16 → EReal) (n : ℕ) (hn : n + 1 < 16) :
    ((Finset.univ.filter fun j : Fin 16 => j.val ≤ n + 1).sup f) = max ((Finset.univ.filter fun j : Fin 16 => j.val ≤ n).sup f) (f ⟨n + 1, hn⟩) := by
  rw [show (Finset.univ.filter fun j : Fin 16 => j.val ≤ n + 1) = insert ⟨n + 1, hn⟩ (Finset.univ.filter fun j : Fin 16 => j.val ≤ n) from by
    ext j; simp only [Finset.mem_filter, Finset.mem_univ, true_and, Finset.mem_insert, Fin.ext_iff]; omega, Finset.sup_insert]
  exact max_comm _ _

/-- After point `n` the output block holds, entry by entry, the largest over the neighbours so far. -/
theorem acc_apply (c : Dev nD) (i : Fin 512) (k : Fin 256) : ∀ (n : ℕ) (hn : n < cfg1.N),
    acc V c n hn (ix3 0 i k) = (Finset.univ.filter fun j : Fin 16 => j.val ≤ n % 16).sup fun j => cell V c (bOf ⟨n, hn⟩) j i k := by
  intro n
  induction n with
  | zero =>
    intro hn
    rw [show acc V c 0 hn = layersAt V c ⟨0, hn⟩ from rfl, layersAt_apply V h4 h2 h8]
    exact (upTo_zero fun j => cell V c (bOf ⟨0, hn⟩) j i k).symm
  | succ n ih =>
    intro hn
    by_cases h : (n + 1) % 16 = 0
    · rw [acc_first V c ⟨n + 1, hn⟩ h, layersAt_apply V h4 h2 h8, h, upTo_zero]
      exact congrArg (fun j => cell V c (bOf ⟨n + 1, hn⟩) j i k) (Fin.ext h)
    · rw [acc_later V c ⟨n + 1, hn⟩ h, layersOverAt_apply V h4 h2 h8]
      have e : (n + 1) % 16 = n % 16 + 1 := by omega
      have hl : n % 16 + 1 < 16 := by omega
      have eb : bOf ⟨n + 1, hn⟩ = bOf ⟨n, Nat.lt_of_succ_lt hn⟩ := Fin.ext (by show (n + 1) / 16 = n / 16; omega)
      have ej : jOf ⟨n + 1, hn⟩ = ⟨n % 16 + 1, hl⟩ := Fin.ext e
      rw [e, upTo_succ _ _ hl, eb, ej]
      exact congrArg (fun x => max x _) (ih (Nat.lt_of_succ_lt hn))

/-- The call's result. -/
theorem result_apply (c : Dev nD) (A : S4x512x256.Idx → EReal)
    (hA : ∀ (b : Fin 4) (i : Fin 512) (k : Fin 256), Finset.univ.sup (fun j => cell V c b j i k) = A (ix3 b i k)) :
    (dats V O lvl 0 c).arrAt 5 cfg1.N = A := by
  refine (dats V O lvl 0 c).arrAt_eq_of_covers 5 _ (by decide +kernel) fun t hf y => ?_
  have hl : t.val % 16 = 15 := (flush1_5 t).mp hf
  obtain ⟨u, i, k, rfl⟩ : ∃ (u : Fin 1) (i : Fin 512) (k : Fin 256), y = ix3 u i k :=
    ⟨⟨(y 0).val, (y 0).isLt⟩, ⟨(y 1).val, (y 1).isLt⟩, ⟨(y 2).val, (y 2).isLt⟩, funext fun a => Fin.ext (by fin_cases a <;> rfl)⟩
  obtain rfl : u = 0 := Subsingleton.elim _ _
  blk_simp
  rw [after_5]
  have hi : ((cfg1.win 5).blk t).view.emb (ix3 (0 : Fin 1) i k) = ix3 (bOf t) i k := by
    refine funext fun a => Fin.ext ?_
    fin_cases a <;> blk_simp [at_5] <;> first | rfl | simp [bOf]
  refine (acc_apply V h4 h2 h8 c i k t.val t.isLt).trans (Eq.trans ?_ ((hA (bOf t) i k).trans (congrArg A hi.symm)))
  rw [hl]
  refine congrArg (fun s : Finset (Fin 16) => s.sup _) ?_
  exact Finset.filter_true_of_mem fun j _ => by have := j.isLt; omega

end

end Cert.Rows

end
-- ==== Proof.Reference.lean ====
/- The reference's result at an index. -/
module

public import proofs.«01_k».proof.Proof.Layers

@[expose] public section

noncomputable section

namespace Cert.Rows.Ref

open Cert.ReferenceIdeal Cert.ReferenceIdeal.Gen Idealize.ShloMosaic.ValueIdx
open Idealize.ShloMosaic

/-- The gather of the rows, read at an index: the row named by the start index, where that is a row number. -/
theorem gather_apply {α : Type} (x : S8192x256.Idx → α) (ix : IVec S4x16x512x1 32) (b : Fin 4) (j : Fin 16) (i : Fin 512) (l : Fin 256)
    (n : Fin 8192) (hn : (ix (ix4 b j i 0)).toInt = n.val) :
    Host.gather gather_S8192x256_S4x16x512x1_S4x16x512x256_3_0_n_n_0_3_1256 x ix (ix4 b j i l) = x (ix2 n l) := by
  unfold Host.gather
  refine congrArg x (funext fun a => Fin.ext ?_)
  show (gather_S8192x256_S4x16x512x1_S4x16x512x256_3_0_n_n_0_3_1256).start (ix4 b j i l) ix a
    + (gather_S8192x256_S4x16x512x1_S4x16x512x256_3_0_n_n_0_3_1256).batchCoord (ix4 b j i l) a
    + (gather_S8192x256_S4x16x512x1_S4x16x512x256_3_0_n_n_0_3_1256).offCoord (ix4 b j i l) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (gather_S8192x256_S4x16x512x1_S4x16x512x256_3_0_n_n_0_3_1256).startIndexMap from List.mem_singleton.mpr rfl)]
    have hsi : (gather_S8192x256_S4x16x512x1_S4x16x512x256_3_0_n_n_0_3_1256).siIdx (ix4 b j i l)
        ⟨List.idxOf (0 : Fin 2) (gather_S8192x256_S4x16x512x1_S4x16x512x256_3_0_n_n_0_3_1256).startIndexMap,
          List.idxOf_lt_length_iff.2 (List.mem_singleton.mpr rfl)⟩ = ix4 b j i 0 := by
      funext e; refine Fin.ext ?_
      match e with
      | ⟨0, _⟩ => rfl
      | ⟨1, _⟩ => rfl
      | ⟨2, _⟩ => rfl
      | ⟨3, _⟩ => rfl
    rw [hsi, hn]
    show min ((n.val : ℤ)).toNat (8192 - 1) = n.val
    have := n.isLt
    rw [Int.toNat_natCast]; omega
  · have h0 : (gather_S8192x256_S4x16x512x1_S4x16x512x256_3_0_n_n_0_3_1256).start (ix4 b j i l) ix 1 = 0 := by
      unfold GatherDims.start
      exact dif_neg (by decide)
    rw [h0, Nat.zero_add]
    rfl

/-- The start index of a row number is itself: it is not below zero. -/
theorem start_apply (x1 : IVec S4x16x512x1 32) (b : Fin 4) (j : Fin 16) (i : Fin 512) (h : (x1 (ix4 b j i 0)).toNat < 8192) :
    broadcastInDim S4x16x512x1 ![0, 1, 2] bcast_S4x16x512_S4x16x512x1_0_1_2
      (select (cmpi .slt (shapeCast S4x16x512 x1 shapeCasts_S4x16x512x1_S4x16x512) (broadcastInDim S4x16x512 ![] bcast_S_S4x16x512 (constantI S_ 32 0#32)))
        (addi (shapeCast S4x16x512 x1 shapeCasts_S4x16x512x1_S4x16x512) (broadcastInDim S4x16x512 ![] bcast_S_S4x16x512 (constantI S_ 32 8192#32)))
        (shapeCast S4x16x512 x1 shapeCasts_S4x16x512x1_S4x16x512)) (ix4 b j i 0) = x1 (ix4 b j i 0) := by
  have e : shapeCast S4x16x512 x1 shapeCasts_S4x16x512x1_S4x16x512 (ix3 b j i) = x1 (ix4 b j i 0) :=
    shapeCast_apply x1 _ _ _ (by
      rw [Shape.rowMajor_val_four, Shape.rowMajor_val_three]
      show ((b.val * 16 + j.val) * 512 + i.val) * 1 + 0 = (b.val * 16 + j.val) * 512 + i.val
      omega)
  have hp : ∀ z : S4x16x512.Idx → BitVec 32, broadcastInDim S4x16x512x1 ![0, 1, 2] bcast_S4x16x512_S4x16x512x1_0_1_2 z (ix4 b j i 0) = z (ix3 b j i) := fun z =>
    congrArg z (funext fun a => Fin.ext (by fin_cases a <;> rfl))
  rw [hp]
  show (if IntOp.cmpi .slt (shapeCast S4x16x512 x1 shapeCasts_S4x16x512x1_S4x16x512 (ix3 b j i)) 0#32 = 1#1 then _ else _) = _
  rw [e, if_neg]
  simp only [IntOp.cmpi, ofBool_eq_one, BitVec.slt_eq_decide, decide_eq_true_eq, BitVec.toInt_eq_toNat_cond, BitVec.toNat_ofNat,
    Nat.reducePow, Nat.reduceMod]
  omega

/-- The reference's result, from its arguments. -/
def out (x0 : FVec Ideal S4x2048x256 .f32) (x1 : IVec S4x16x512x1 32) (x2 : FVec Ideal S4x512x256 .f32) (x3 : FVec Ideal S256x256 .f32) (x4 : FVec Ideal S256 .f32) :
    FVec Ideal S4x512x256 .f32 :=
  Host.reduce FloatOps.maximumf (maximumf (addf (Host.dotGeneral dot_S4x16x512x256_S256x256_S4x16x512x256_3_0_012_1_n_n none (maximumf (addf (Host.gather gather_S8192x256_S4x16x512x1_S4x16x512x256_3_0_n_n_0_3_1256 (shapeCast _ x0 shapeCasts_S4x2048x256_S8192x256) (broadcastInDim S4x16x512x1 ![0, 1, 2] bcast_S4x16x512_S4x16x512x1_0_1_2 (select (cmpi .slt (shapeCast _ x1 shapeCasts_S4x16x512x1_S4x16x512) (broadcastInDim S4x16x512 ![] bcast_S_S4x16x512 (constantI S_ 32 0#32))) (addi (shapeCast _ x1 shapeCasts_S4x16x512x1_S4x16x512) (broadcastInDim S4x16x512 ![] bcast_S_S4x16x512 (constantI S_ 32 8192#32))) (shapeCast _ x1 shapeCasts_S4x16x512x1_S4x16x512)))) (broadcastInDim S4x16x512x256 ![0, 1, 2, 3] bcast_S4x1x512x256_S4x16x512x256_0_1_2_3 (broadcastInDim S4x1x512x256 ![0, 2, 3] bcast_S4x512x256_S4x1x512x256_0_2_3 x2))) (broadcastInDim S4x16x512x256 ![] bcast_S_S4x16x512x256 (constant S_ .f32 0x00000000#32))) x3) (broadcastInDim S4x16x512x256 ![0, 1, 2, 3] bcast_S1x1x1x256_S4x16x512x256_0_1_2_3 (broadcastInDim S1x1x1x256 ![3] bcast_S256_S1x1x1x256_3 x4))) (broadcastInDim S4x16x512x256 ![] bcast_S_S4x16x512x256 (constant S_ .f32 0x00000000#32))) (constant S_ .f32 0xFF800000#32) reducesTo_S4x16x512x256_S4x512x256_d1 h_S_

/-- The product with the weight, at an index. -/
theorem product_apply (l : FVec Ideal S4x16x512x256 .f32) (r : FVec Ideal S256x256 .f32) (b : Fin 4) (j : Fin 16) (i : Fin 512) (k : Fin 256) :
    Host.dotGeneral dot_S4x16x512x256_S256x256_S4x16x512x256_3_0_012_1_n_n none l r (ix4 b j i k)
      = ∑ c : Fin 256, (l (ix4 b j i c) * r (ix2 c k) : EReal) := by
  have hr : (dot_S4x16x512x256_S256x256_S4x16x512x256_3_0_012_1_n_n).contr.rank = 1 := rfl
  have hs : (dot_S4x16x512x256_S256x256_S4x16x512x256_3_0_012_1_n_n).contr.size ⟨0, by rw [hr]; exact Nat.one_pos⟩ = 256 := rfl
  simp only [Host.dotGeneral]
  rw [Ideal.dotGeneral_apply, ← Equiv.sum_comp (contrEquiv1 _ 256 hr hs).symm]
  refine Finset.sum_congr rfl fun c _ => ?_
  have hk := contrEquiv1_symm_val _ 256 hr hs c
  have el : (dot_S4x16x512x256_S256x256_S4x16x512x256_3_0_012_1_n_n).lhsIdx (ix4 b j i k) ((contrEquiv1 _ 256 hr hs).symm c) = ix4 b j i c := by
    funext a; apply Fin.ext
    match a with
    | ⟨0, _⟩ => rfl
    | ⟨1, _⟩ => rfl
    | ⟨2, _⟩ => rfl
    | ⟨3, _⟩ => exact hk
  have er : (dot_S4x16x512x256_S256x256_S4x16x512x256_3_0_012_1_n_n).rhsIdx (ix4 b j i k) ((contrEquiv1 _ 256 hr hs).symm c) = ix2 c k := by
    funext a; apply Fin.ext
    match a with
    | ⟨0, _⟩ => exact hk
    | ⟨1, _⟩ => rfl
  rw [el, er]

/-- The reference's result at an index: the largest over the neighbours of the second layer's entry. -/
theorem out_apply (x0 : FVec Ideal S4x2048x256 .f32) (x1 : IVec S4x16x512x1 32) (x2 : FVec Ideal S4x512x256 .f32) (x3 : FVec Ideal S256x256 .f32) (x4 : FVec Ideal S256 .f32)
    (h : ∀ q, (x1 q).toNat < 8192) (b : Fin 4) (i : Fin 512) (k : Fin 256) :
    out x0 x1 x2 x3 x4 (ix3 b i k)
      = Finset.univ.sup fun j : Fin 16 => entry
          (fun l => shapeCast S8192x256 x0 shapeCasts_S4x2048x256_S8192x256 (ix2 ⟨(x1 (ix4 b j i 0)).toNat, h _⟩ l))
          (fun l => x2 (ix3 b i l)) (fun l => x3 (ix2 l k)) (x4 (ix1 k)) := by
  unfold out
  have hR : S4x16x512x256.Reduces [(1 : Fin 4)] S4x512x256 := by decide
  rw [Host.reduce_eq_fold_single _ _ _ _ hR]
  have hinit : (constant S_ .f32 0xFF800000#32 : FVec Ideal S_ .f32) (Shape.Idx.first h_S_) = (⊥ : EReal) := by
    show Ideal.ofBits .f32 0xFF800000#32 = ⊥
    simp [Ideal.ofBits, Ideal.ieee]
  rw [hinit]
  refine (show _ = Finset.univ.sup _ from rfl).trans (Finset.sup_congr rfl fun j _ => ?_)
  have hl : hR.lift (ix3 b i k) j = ix4 b j i k := by
    funext a; apply Fin.ext
    match a with
    | ⟨0, _⟩ => rfl
    | ⟨1, _⟩ => rfl
    | ⟨2, _⟩ => rfl
    | ⟨3, _⟩ => rfl
  rw [Function.comp_apply, hl]
  have h2 (l : Fin 256) : broadcastInDim S4x16x512x256 ![0, 1, 2, 3] bcast_S4x1x512x256_S4x16x512x256_0_1_2_3
      (broadcastInDim S4x1x512x256 ![0, 2, 3] bcast_S4x512x256_S4x1x512x256_0_2_3 x2) (ix4 b j i l) = x2 (ix3 b i l) := by
    refine congrArg x2 (funext fun a => Fin.ext ?_)
    fin_cases a <;> rfl
  have h4 : broadcastInDim S4x16x512x256 ![0, 1, 2, 3] bcast_S1x1x1x256_S4x16x512x256_0_1_2_3
      (broadcastInDim S1x1x1x256 ![3] bcast_S256_S1x1x1x256_3 x4) (ix4 b j i k) = x4 (ix1 k) := by
    refine congrArg x4 (funext fun a => Fin.ext ?_)
    fin_cases a; rfl
  have hn : (broadcastInDim S4x16x512x1 ![0, 1, 2] bcast_S4x16x512_S4x16x512x1_0_1_2
      (select (cmpi .slt (shapeCast S4x16x512 x1 shapeCasts_S4x16x512x1_S4x16x512) (broadcastInDim S4x16x512 ![] bcast_S_S4x16x512 (constantI S_ 32 0#32)))
        (addi (shapeCast S4x16x512 x1 shapeCasts_S4x16x512x1_S4x16x512) (broadcastInDim S4x16x512 ![] bcast_S_S4x16x512 (constantI S_ 32 8192#32)))
        (shapeCast S4x16x512 x1 shapeCasts_S4x16x512x1_S4x16x512)) (ix4 b j i 0)).toInt = (x1 (ix4 b j i 0)).toNat := by
    rw [start_apply x1 b j i (h _), BitVec.toInt_eq_toNat_cond, if_pos]
    have := h (ix4 b j i 0); omega
  unfold entry
  refine congrArg₂ (fun s z : EReal => max (s + z) (Ideal.ofBits .f32 0x00000000#32)) ((product_apply _ x3 b j i k).trans
    (Finset.sum_congr rfl fun l _ => ?_)) h4 |>.trans (by rw [Ideal.ofBits_zero_f32])
  refine congrArg (fun z : EReal => z * x3 (ix2 l k)) ?_
  refine congrArg₂ (fun s z : EReal => max (s + z) (Ideal.ofBits .f32 0x00000000#32))
    (gather_apply _ _ b j i l ⟨(x1 (ix4 b j i 0)).toNat, h _⟩ hn) (h2 l) |>.trans (by rw [Ideal.ofBits_zero_f32])

end Cert.Rows.Ref

end
-- ==== Proof.Equation.lean ====
/- The kernel's result is the reference's, at the extended reals and finite arguments: the value claim. -/
module

public import proofs.«01_k».proof.Proof.Blocks
public import proofs.«01_k».proof.Proof.Frames
public import proofs.«01_k».proof.Proof.Reference

@[expose] public section

noncomputable section

namespace Cert.Rows

open Cert.KernelIdeal Cert.KernelIdeal.Gen Idealize.ShloMosaic.TcCoe Idealize.ShloMosaic.ValueIdx Idealize.SL.Sem
open Idealize.ShloMosaic hiding ix1 ix2 ix3 ix4

variable (m : (ℓ : Loc nD τ sig) → Buf (Elt Ideal) ℓ) (d : Dev nD)

/-! ## What the second call finds -/

theorem found_v4 : V3' m d main_v4 = shapeCast S4x16x512x256 (gat (tbl m d) (lst m d)) shapeCasts_S32768x2x128_S4x16x512x256 := by
  rw [← V2_v3 m d]; rfl

theorem found_v5 (j : S256x256.Idx) : V3' m d main_v5 j = m ((d : Thread nD τ).loc main_arg3) j := rfl

theorem found_v8 (j : S256x256.Idx) (h : IsReal (m ((d : Thread nD τ).loc main_arg3) j)) : V3' m d main_v8 j = (0 : EReal) :=
  h.sub_self

theorem found_v0 (k : Fin 256) : V3' m d main_v0 (ix2 0 k) = m ((d : Thread nD τ).loc main_arg4) (ix1 k) :=
  shapeCast_a_1a_apply (m ((d : Thread nD τ).loc main_arg4) : S256.Idx → EReal) shapeCasts_S256_S1x256 0 k

theorem found_arg2 : V3' m d main_arg2 = m ((d : Thread nD τ).loc main_arg2) := V3_arg m d main_arg2 (by decide)

theorem tbl_eq : tbl m d = (shapeCast S8192x2x128 (m ((d : Thread nD τ).loc main_arg0) : S4x2048x256.Idx → EReal) shapeCasts_S4x2048x256_S8192x2x128 :
    S8192x2x128.Idx → EReal) := rfl

/-- A gathered row, entry by entry, is the row of the table that the list names. -/
theorem gathered_row (x0 : S4x2048x256.Idx → EReal) (x1 : S4x16x512x1.Idx → BitVec 32) (b : Fin 4) (j : Fin 16) (i : Fin 512) (l : Fin 256)
    (h : (x1 (ix4 b j i 0)).toNat < 8192) :
    shapeCast S4x16x512x256 (gat (shapeCast S8192x2x128 x0 shapeCasts_S4x2048x256_S8192x2x128) (shapeCast S32768 x1 shapeCasts_S4x16x512x1_S32768))
        shapeCasts_S32768x2x128_S4x16x512x256 (ix4 b j i l)
      = shapeCast Cert.ReferenceIdeal.S8192x256 x0 Cert.ReferenceIdeal.Gen.shapeCasts_S4x2048x256_S8192x256 (ix2 ⟨(x1 (ix4 b j i 0)).toNat, h⟩ l) := by
  have hb := b.isLt; have hj := j.isLt; have hi := i.isLt; have hl := l.isLt
  let r : Fin 32768 := ⟨(b.val * 16 + j.val) * 512 + i.val, by omega⟩
  let p : Fin 2 := ⟨l.val / 128, by omega⟩
  let q : Fin 128 := ⟨l.val % 128, by omega⟩
  have e1 := shapeCast_apply (gat (shapeCast S8192x2x128 x0 shapeCasts_S4x2048x256_S8192x2x128) (shapeCast S32768 x1 shapeCasts_S4x16x512x1_S32768))
    shapeCasts_S32768x2x128_S4x16x512x256 (ix4 b j i l) (ix3 r p q) (by
      rw [Shape.rowMajor_val_four, Shape.rowMajor_val_three]
      show (((b.val * 16 + j.val) * 512 + i.val) * 2 + l.val / 128) * 128 + l.val % 128 = ((b.val * 16 + j.val) * 512 + i.val) * 256 + l.val
      omega)
  have e2 : shapeCast S32768 x1 shapeCasts_S4x16x512x1_S32768 (lix (ix3 r p q)) = x1 (ix4 b j i 0) :=
    shapeCast_apply x1 _ _ _ (by
      rw [Shape.rowMajor_val_four, Shape.rowMajor_val_one]
      show ((b.val * 16 + j.val) * 512 + i.val) * 1 + 0 = (b.val * 16 + j.val) * 512 + i.val
      omega)
  rw [e1]
  unfold gat
  rw [e2]
  generalize x1 (ix4 b j i 0) = w at h
  let t : Fin 4 := ⟨w.toNat / 2048, by omega⟩
  let u : Fin 2048 := ⟨w.toNat % 2048, by omega⟩
  refine (shapeCast_apply x0 _ _ (ix3 t u l) ?_).trans (shapeCast_apply x0 _ _ (ix3 t u l) ?_).symm
  · rw [Shape.rowMajor_val_three, Shape.rowMajor_val_three]
    show ((w.toNat / 2048) * 2048 + w.toNat % 2048) * 256 + l.val = ((w.toNat % 8192) * 2 + l.val / 128) * 128 + l.val % 128
    omega
  · rw [Shape.rowMajor_val_three, Shape.rowMajor_val_two]
    show ((w.toNat / 2048) * 2048 + w.toNat % 2048) * 256 + l.val = w.toNat * 256 + l.val
    omega

/-! ## The claim -/

/-- The kernel's result is the reference's. -/
theorem out_eq (h : Cert.Pre_KernelIdeal_finite m) :
    outA m d = Ref.out (m ((d : Thread nD τ).loc main_arg0)) (m ((d : Thread nD τ).loc main_arg1)) (m ((d : Thread nD τ).loc main_arg2))
      (m ((d : Thread nD τ).loc main_arg3)) (m ((d : Thread nD τ).loc main_arg4)) := by
  have hr : ∀ c : Dev nD, ∀ q, (m ((c : Thread nD τ).loc main_arg1) q : BitVec 32).toNat < 8192 := fun c j => range_word _ (congrFun (h c).1 j)
  refine result_apply (V3' m) _ _ (fun c j => ?_) (fun c j => ?_) (fun c j => ?_) d _ (fun b i k => ?_)
  · rw [found_v4]; exact fin_table h c _
  · rw [found_arg2]; exact fin_added h c j
  · exact found_v8 m c j (fin_weight h c j)
  · rw [Ref.out_apply _ _ _ _ _ (hr d)]
    refine Finset.sup_congr rfl fun j _ => ?_
    unfold cell
    rw [found_v4, found_v0, found_arg2]
    rw [show (fun l => V3' m d main_v5 (ix2 l k)) = fun l => m ((d : Thread nD τ).loc main_arg3) (ix2 l k) from funext fun l => found_v5 m d (ix2 l k)]
    refine congrArg (fun g => entry g _ _ _) (funext fun l => ?_)
    exact gathered_row _ _ b j i l (hr d _)

/-- At the extended reals the kernel and the reference run to the same result, and both leave their arguments. -/
theorem equal : Cert.algebraic_KernelIdeal_ReferenceIdeal_pre_finite := by
  intro m g m' g' h ha
  refine ⟨fun c => outA m c, ?_, ?_⟩
  · exact (θ_run Cert.KernelIdeal.defs _ _).mono (fun _ h => h.1) (run_main (F := Ideal) m g fun c j => range_word _ (congrFun (h c).1 j))
  · refine (θ_run Cert.ReferenceIdeal.defs _ _).mono (fun r hr c => ⟨?_, (hr c).2⟩) (Cert.ReferenceIdeal.Value.run (F := Ideal) m' g')
    obtain ⟨h0, h1, h2, h3, h4⟩ := ha c
    refine (hr c).1.trans (Eq.trans ?_ (out_eq m c h).symm)
    rw [← h0, ← h1, ← h2, ← h3, ← h4]
    rfl

end Cert.Rows

end
-- ==== Proof.Rounds.lean ====
/- Repeated selection of the least value of a row, and its agreement with a stable sort of the row. -/
module

public import Idealize.ShloMosaic.Lib.SortPrefix
public import Idealize.ShloMosaic.PureOps.Ideal.Laws

@[expose] public section

noncomputable section

namespace Cert.Rounds

open Idealize.ShloMosaic

variable {n : ℕ} [NeZero n] (d : Fin n → EReal)

theorem exists_least : (Finset.univ.filter fun i : Fin n => ∀ j, d i ≤ d j).Nonempty := by
  obtain ⟨i, hi⟩ := Finite.exists_min d
  exact ⟨i, Finset.mem_filter.mpr ⟨Finset.mem_univ _, hi⟩⟩

/-- The first position at which the row is least. -/
def least : Fin n := (Finset.univ.filter fun i : Fin n => ∀ j, d i ≤ d j).min' (exists_least d)

theorem least_le (j : Fin n) : d (least d) ≤ d j :=
  (Finset.mem_filter.mp ((Finset.univ.filter fun i : Fin n => ∀ j, d i ≤ d j).min'_mem (exists_least d))).2 j

theorem least_first (i : Fin n) (h : d i = d (least d)) : least d ≤ i :=
  Finset.min'_le _ _ (Finset.mem_filter.mpr ⟨Finset.mem_univ _, fun j => h ▸ least_le d j⟩)

/-- The row with its least value put out of reach. -/
def next : Fin n → EReal := fun i => if i = least d then ⊤ else d i

/-- The row after `r` selections, -/
def row (r : ℕ) : Fin n → EReal := (next (n := n))^[r] d
/-- and what selection `r` picks. -/
def pick (r : ℕ) : Fin n := least (row d r)

theorem row_succ (r : ℕ) : row d (r + 1) = next (row d r) := Function.iterate_succ_apply' _ _ _

theorem row_apply (r : ℕ) (i : Fin n) : row d r i = if ∃ s < r, pick d s = i then ⊤ else d i := by
  induction r with
  | zero => rw [if_neg (by rintro ⟨s, h, -⟩; exact absurd h (Nat.not_lt_zero s))]; rfl
  | succ r ih =>
    rw [row_succ]
    unfold next
    by_cases h : i = least (row d r)
    · rw [if_pos h, if_pos ⟨r, Nat.lt_succ_self r, h.symm⟩]
    · rw [if_neg h, ih]
      refine if_congr ⟨fun ⟨s, hs, e⟩ => ⟨s, hs.trans (Nat.lt_succ_self r), e⟩, fun ⟨s, hs, e⟩ => ?_⟩ rfl rfl
      rcases Nat.lt_succ_iff_lt_or_eq.mp hs with hl | rfl
      · exact ⟨s, hl, e⟩
      · exact absurd e.symm h

variable (hd : ∀ i, d i ≠ ⊤)
include hd

/-- A selection picks a position that none before it picked, as long as one is left. -/
theorem pick_new (r : ℕ) (hr : r < n) (s : ℕ) (hs : s < r) : pick d s ≠ pick d r := by
  intro e
  have hc : ((Finset.range r).image (pick d)).card < Fintype.card (Fin n) :=
    lt_of_le_of_lt Finset.card_image_le (by rw [Finset.card_range, Fintype.card_fin]; exact hr)
  obtain ⟨i, hi⟩ : ∃ i, i ∉ (Finset.range r).image (pick d) := by
    by_contra hne
    exact absurd (Finset.card_lt_univ_of_notMem (s := (Finset.range r).image (pick d)) (x := pick d s)
      (fun _ => hne ⟨pick d s, fun _ => by rw [show (Finset.range r).image (pick d) = Finset.univ from
        Finset.eq_univ_iff_forall.mpr fun x => by by_contra hx; exact hne ⟨x, hx⟩] at hc; exact absurd hc (by simp)⟩))
      (by rw [show (Finset.range r).image (pick d) = Finset.univ from
        Finset.eq_univ_iff_forall.mpr fun x => by by_contra hx; exact hne ⟨x, hx⟩]; simp)
  have h1 : row d r i = d i := by
    rw [row_apply, if_neg]
    rintro ⟨t, ht, rfl⟩
    exact hi (Finset.mem_image.mpr ⟨t, Finset.mem_range.mpr ht, rfl⟩)
  have h2 : row d r (pick d r) = ⊤ := by rw [row_apply, if_pos ⟨s, hs, e⟩]
  have h3 : row d r (pick d r) ≤ row d r i := least_le (row d r) i
  rw [h1, h2] at h3
  exact hd i (top_le_iff.mp h3)

/-- The order of the selections: the lesser value first, and of equal values the earlier position. -/
def before (i j : Fin n) : Bool := decide (d i < d j) || (decide (d i = d j) && decide (i < j))

omit hd in
theorem before_total : StrictTotalBefore (before d) :=
  StrictTotalBefore.of_key_then_position (fun a b : EReal => decide (a < b)) d (fun a => by simp)
    (fun a b c h h' => by simp only [decide_eq_true_eq] at *; exact h.trans h')
    (fun a b => by simpa using lt_trichotomy a b)

/-- What is still unpicked is not before what is picked next. -/
theorem not_before (r : ℕ) (hr : r < n) (p : Fin n) (hp : ∀ s < r, pick d s ≠ p) : before d p (pick d r) = false := by
  have h1 : row d r p = d p := by rw [row_apply, if_neg]; rintro ⟨s, hs, e⟩; exact hp s hs e
  have h2 : row d r (pick d r) = d (pick d r) := by
    rw [row_apply, if_neg]; rintro ⟨s, hs, e⟩; exact pick_new d hd r hr s hs e
  have h3 : d (pick d r) ≤ d p := by rw [← h1, ← h2]; exact least_le (row d r) p
  unfold before
  simp only [Bool.or_eq_false_iff, decide_eq_false_iff_not, not_lt, h3, true_and, Bool.and_eq_false_iff]
  by_cases e : d p = d (pick d r)
  · refine Or.inr ?_
    have := least_first (row d r) p (by rw [h1, show row d r (least (row d r)) = d (pick d r) from h2, e])
    exact this
  · exact Or.inl e

omit hd in
/-- Of a list in increasing order of positions the stable sort by value is the sort by value, then position. -/
theorem stableSort_eq (l : List (Fin n)) (hl : l.Pairwise (· < ·)) :
    stableSort (fun i j => decide (d i < d j)) l = stableSort (before d) l := by
  induction l with
  | nil => rfl
  | cons a l ih =>
    rw [List.pairwise_cons] at hl
    unfold stableSort
    rw [ih hl.2]
    refine insertBefore_congr _ _ a _ fun b hb => ?_
    have hab : a < b := hl.1 b ((perm_stableSort (before d) l).mem_iff.mp hb)
    unfold before
    rw [decide_eq_false (not_lt.mpr hab.le), Bool.and_false, Bool.or_false]

/-- The position that the stable sort by value, least first, puts at `r` is what selection `r` picks. -/
theorem sortedFrom_eq_pick (k : ℕ) (hk : k ≤ n) (r : Fin k) :
    sortedFrom (fun i j => decide (d i < d j)) (r.castLE hk) = pick d r.val := by
  have e : sortedFrom (fun i j : Fin n => decide (d i < d j)) = sortedFrom (before d) := by
    funext q
    unfold sortedFrom sortPositions
    exact List.get_of_eq (stableSort_eq d _ (List.pairwise_lt_finRange n)) _
  rw [e]
  exact (before_total d).sortedFrom_eq_of_prefix hk (fun s : Fin k => pick d s.val)
    (fun s t h => by
      rcases lt_trichotomy s t with hl | he | hl
      · exact absurd h (pick_new d hd t.val (lt_of_lt_of_le t.isLt hk) s.val hl)
      · exact he
      · exact absurd h.symm (pick_new d hd s.val (lt_of_lt_of_le s.isLt hk) t.val hl))
    (fun s t hst => not_before d hd s.val (lt_of_lt_of_le s.isLt hk) _
      fun q hq => pick_new d hd t.val (lt_of_lt_of_le t.isLt hk) q (hq.trans hst))
    (fun s p hp => not_before d hd s.val (lt_of_lt_of_le s.isLt hk) p
      fun q hq => hp ⟨q, hq.trans s.isLt⟩) r

omit hd

/-! ## One selection as the kernel computes it -/

/-- The fold of the minimum from above is the least value. -/
theorem fold_min_eq : (Finset.univ : Finset (Fin n)).fold (FloatOps.minimumf (F := Ideal) (φ := .f32)) (FloatOps.ofBits (F := Ideal) .f32 0x7F800000#32) d = d (least d) := by
  have ht : (FloatOps.ofBits (F := Ideal) .f32 0x7F800000#32) = (⊤ : EReal) := by
    show Ideal.ofBits .f32 0x7F800000#32 = ⊤
    simp [Ideal.ofBits, Ideal.ieee]
  rw [ht]
  show (Finset.univ : Finset (Fin n)).fold min (⊤ : EReal) d = _
  refine le_antisymm ((Finset.fold_min_le _).mpr (Or.inr ⟨least d, Finset.mem_univ _, le_rfl⟩)) ?_
  exact (Finset.le_fold_min _).mpr ⟨le_top, fun i _ => least_le d i⟩

/-- The fold of the signed minimum of small words is the word of the minimum. -/
theorem fold_minsi_eq (g : Fin n → ℕ) (hg : ∀ i, g i < 2 ^ 31) (v : ℕ) (hv : ∃ i, g i = v) (hle : ∀ i, v ≤ g i) :
    (Finset.univ : Finset (Fin n)).fold (IntOp.minsi (w := 32)) 2147483647#32 (fun i => BitVec.ofNat 32 (g i)) = BitVec.ofNat 32 v := by
  have key : ∀ s : Finset (Fin n), ∃ u, u < 2 ^ 31 ∧ s.fold (IntOp.minsi (w := 32)) 2147483647#32 (fun i => BitVec.ofNat 32 (g i)) = BitVec.ofNat 32 u
      ∧ s.fold min 2147483647 g = u := by
    intro s
    induction s using Finset.induction_on with
    | empty => exact ⟨2147483647, by norm_num, rfl, rfl⟩
    | insert a s ha ih =>
      obtain ⟨u, hu, e1, e2⟩ := ih
      have h1 := hg a
      refine ⟨min (g a) u, lt_of_le_of_lt (min_le_left _ _) h1, ?_, by rw [Finset.fold_insert ha, e2]⟩
      rw [Finset.fold_insert ha, e1]
      unfold IntOp.minsi
      have hs : (BitVec.ofNat 32 (g a)).slt (BitVec.ofNat 32 u) = decide (g a < u) := by
        rw [BitVec.slt_eq_decide]
        refine decide_eq_decide.mpr ?_
        simp only [BitVec.toInt_eq_toNat_cond, BitVec.toNat_ofNat, Nat.reducePow] at *
        rw [Nat.mod_eq_of_lt (by omega), Nat.mod_eq_of_lt (by omega), if_pos (by omega), if_pos (by omega), Nat.cast_lt]
      rw [hs]
      by_cases h : g a < u
      · rw [if_pos (decide_eq_true h), min_eq_left h.le]
      · rw [if_neg (by simpa using h), min_eq_right (not_lt.mp h)]
  obtain ⟨u, hu, e1, e2⟩ := key Finset.univ
  rw [e1, ← e2]
  congr 1
  obtain ⟨i, rfl⟩ := hv
  refine le_antisymm ((Finset.fold_min_le _).mpr (Or.inr ⟨i, Finset.mem_univ _, le_rfl⟩)) ?_
  exact (Finset.le_fold_min _).mpr ⟨by have := hg i; omega, fun j _ => hle j⟩

end Cert.Rounds

end
-- ==== Proof.Picks.lean ====
/- The nearest-neighbour call's sixteen selections: the stores it makes, as one function of the distances, and that
   function's entries at the extended reals. -/
module

public import proofs.«01_k».proof.Proof.Rounds
public import proofs.«01_k».proof.Proof.Gen.FrontIdeal.Frame
public import Idealize.ShloMosaic.Lib.ValueLayout

@[expose] public section

noncomputable section

namespace Cert.Cloud

open Cert.FrontIdeal Cert.FrontIdeal.Gen Idealize.ShloMosaic Idealize.ShloMosaic.ValueIdx

section
variable {F : FTy → Type} [FloatOps F]

/-- Every column's number, in every row. -/
def cols : IVec S512x2048 32 := iota .tc S512x2048 32 [1] iota_S512x2048_d1_w32

/-- Each row's least distance. -/
def nearest (D : FVec F S512x2048 .f32) : FVec F S512x2048 .f32 :=
  broadcastTo S512x2048 (shapeCast S512x1 (multiReduction .minimumf [1] S512 D 0x7F800000#32 reduces_S512x2048_S512 (.inl rfl) rfl)
    shapeCasts_S512_S512x1) broadcasts_S512x1_S512x2048

/-- The numbers of the columns that hold it, 2048 elsewhere. -/
def held (D : FVec F S512x2048 .f32) : IVec S512x2048 32 := select (cmpf .oeq D (nearest D)) cols (broadcast S512x2048 2048#32)

/-- The first such column of each row. -/
def pickV (D : FVec F S512x2048 .f32) : IVec S512x1 32 :=
  shapeCast S512x1 (multiReductionI .minsi [1] S512 (held D) 2147483647#32 reduces_S512x2048_S512 rfl) shapeCasts_S512_S512x1

/-- The picked columns in every column of their row. -/
def pickB (D : FVec F S512x2048 .f32) : IVec S512x2048 32 := broadcastTo S512x2048 (pickV D) broadcasts_S512x1_S512x2048

/-- The distances with the picked ones put out of reach. -/
def nextV (D : FVec F S512x2048 .f32) : FVec F S512x2048 .f32 :=
  select (cmpi .eq cols (pickB D)) (broadcast S512x2048 (Scalar.ofBits .f32 0x7F800000#32)) D

/-- The distances after `r` selections. -/
def rowsV (D : FVec F S512x2048 .f32) : ℕ → FVec F S512x2048 .f32
  | 0 => D
  | r + 1 => nextV (rowsV D r)

/-- Picked columns as rows of all clouds' points in one list: cloud `a` begins at row `2048 a`. -/
def listed (a : BitVec 32) (w : IVec S512x1 32) : IVec S1x1x512x1 32 :=
  shapeCast S1x1x512x1 (addi w (broadcast S512x1 (Scalar.muli a 2048#32))) shapeCasts_S512x1_S1x1x512x1

variable (a : BitVec 32) (A : FVec F S512x2048 .f32)

theorem pay20 (v1 v3 v5 : FVec F S1x2048 .f32) (v48 v54 v60 : FVec F S512x1 .f32) :
    k1_pay20 a v1 v3 v5 cols v48 v54 v60 = listed a (pickV (k1_pay18 v1 v3 v5 v48 v54 v60)) := rfl
theorem pay21 (v1 v3 v5 : FVec F S1x2048 .f32) (v48 v54 v60 : FVec F S512x1 .f32) :
    k1_pay21 v1 v3 v5 cols v48 v54 v60 = nextV (k1_pay18 v1 v3 v5 v48 v54 v60) := rfl
theorem pay22 (v1 v3 v5 : FVec F S1x2048 .f32) (v48 v54 v60 : FVec F S512x1 .f32) :
    k1_pay22 v1 v3 v5 cols v48 v54 v60 = held (nextV (k1_pay18 v1 v3 v5 v48 v54 v60)) := rfl
theorem pay24 : k1_pay24 a (held A) = listed a (pickV A) := rfl
theorem pay27 : k1_pay27 a cols A (held A) = listed a (pickV (nextV A)) := rfl
theorem pay28 : k1_pay28 cols A (held A) = nextV (nextV A) := rfl
theorem pay29 : k1_pay29 cols A (held A) = pickV (nextV (nextV A)) := rfl
theorem pay30 : k1_pay30 a (pickV A) 2048#32 = listed a (pickV A) := rfl
theorem pay33 : k1_pay33 a cols A (pickV A) = listed a (pickV (nextV A)) := rfl
theorem pay34 : k1_pay34 cols A (pickV A) = nextV (nextV A) := rfl
theorem pay35 : k1_pay35 cols A (pickV A) = pickV (nextV (nextV A)) := rfl
theorem pay37 : k1_pay37 (k1_pay36 a cols A (pickV A)) = listed a (pickV (nextV (nextV A))) := rfl
theorem pay40 : k1_pay40 a cols A (pickV A) = listed a (pickV (nextV A)) := rfl
theorem pay41 : k1_pay41 cols A (pickV A) = nextV (nextV A) := rfl
theorem pay42 : k1_pay42 cols A (pickV A) = pickV (nextV (nextV A)) := rfl
theorem pay44 : k1_pay44 (k1_pay43 a cols A (pickV A)) = listed a (pickV (nextV (nextV A))) := rfl
theorem pay47 : k1_pay47 a cols A (pickV A) = listed a (pickV (nextV A)) := rfl
theorem pay48 : k1_pay48 cols A (pickV A) = nextV (nextV A) := rfl
theorem pay50 : k1_pay50 a cols A (pickV A) = listed a (pickV (nextV (nextV A))) := rfl
theorem pay51 : k1_pay51 cols A (pickV A) = pickB (nextV (nextV A)) := rfl
theorem pay54 : k1_pay54 a cols A (pickB A) = listed a (pickV (nextV A)) := rfl
theorem pay57 : k1_pay57 a cols A (pickB A) = listed a (pickV (nextV (nextV A))) := rfl
theorem pay58 : k1_pay58 cols A (pickB A) = nextV (nextV (nextV A)) := rfl
theorem pay60 : k1_pay60 a cols A = listed a (pickV A) := rfl
theorem pay63 : k1_pay63 a cols A = listed a (pickV (nextV A)) := rfl
theorem pay64 : k1_pay64 cols A = nextV (nextV A) := rfl
theorem pay65 : k1_pay65 cols A = nearest (nextV (nextV A)) := rfl
theorem pay67 : k1_pay67 a cols A (nearest A) = listed a (pickV A) := rfl
theorem pay68 : k1_pay68 a cols A (nearest A) = listed a (pickV (nextV A)) := rfl

end

/-! ## Entries at the extended reals -/

section
variable (D : FVec Ideal S512x2048 .f32) (q : Fin 512)

theorem cols_apply (j : Fin 2048) : cols (ix2 q j) = BitVec.ofNat 32 j.val := by
  show BitVec.ofNat 32 (0 * 2048 + j.val) = _
  rw [Nat.zero_mul, Nat.zero_add]

/-- A column of one value a row, in every column. -/
theorem spread_apply {α : Type} (w : S512x1.Idx → α) (j : Fin 2048) :
    broadcastTo S512x2048 w broadcasts_S512x1_S512x2048 (ix2 q j) = w (ix2 q 0) :=
  broadcastTo_apply w _ _ _ fun b => by fin_cases b <;> rfl

theorem column_apply {α : Type} (w : S512.Idx → α) : shapeCast S512x1 w shapeCasts_S512_S512x1 (ix2 q 0) = w (ix1 q) :=
  shapeCast_apply w _ _ _ (by
    rw [Shape.rowMajor_val_one, Shape.rowMajor_val_two]
    show q.val = q.val * 1 + 0
    omega)

theorem lift_eq (j : Fin 2048) : (reduces_S512x2048_S512).lift (ix1 q) j = ix2 q j := by
  funext b; apply Fin.ext
  match b with
  | ⟨0, _⟩ => rfl
  | ⟨1, _⟩ => rfl

theorem nearest_apply (j : Fin 2048) : nearest D (ix2 q j) = D (ix2 q (Rounds.least fun l => D (ix2 q l))) := by
  unfold nearest
  rw [spread_apply, column_apply]
  refine (multiReduction_minimumf_eq_fold D _ reduces_S512x2048_S512 (.inl rfl) rfl (ix1 q)).trans ?_
  rw [Shape.Reduces.fold_filter_drop_single]
  refine Eq.trans ?_ (Rounds.fold_min_eq fun l => D (ix2 q l))
  refine congrArg (Finset.fold _ _ · _) (funext fun l => ?_)
  exact congrArg D (lift_eq q l)

theorem held_apply (j : Fin 2048) : held D (ix2 q j)
    = BitVec.ofNat 32 (if D (ix2 q j) = D (ix2 q (Rounds.least fun l => D (ix2 q l))) then j.val else 2048) := by
  unfold held
  rw [select_apply, cols_apply]
  show (if Ideal.cmp .oeq (D (ix2 q j)) (nearest D (ix2 q j)) = 1#1 then _ else _) = _
  rw [nearest_apply]
  by_cases h : D (ix2 q j) = D (ix2 q (Rounds.least fun l => D (ix2 q l)))
  · rw [if_pos h, if_pos (by simp [Ideal.cmp, h])]
  · rw [if_neg h, if_neg (by simp [Ideal.cmp, h])]; rfl

/-- Each row's pick is the first position of the row's least value. -/
theorem pickV_apply : pickV D (ix2 q 0) = BitVec.ofNat 32 (Rounds.least fun l => D (ix2 q l)).val := by
  unfold pickV
  rw [column_apply]
  refine (multiReductionI_eq_fold .minsi (held D) _ reduces_S512x2048_S512 rfl (ix1 q)).trans ?_
  rw [Shape.Reduces.fold_filter_drop_single]
  refine Eq.trans ?_ (Rounds.fold_minsi_eq
    (fun j : Fin 2048 => if D (ix2 q j) = D (ix2 q (Rounds.least fun l => D (ix2 q l))) then j.val else 2048)
    (fun j => by have := j.isLt; split <;> omega) _ ⟨Rounds.least fun l => D (ix2 q l), if_pos rfl⟩ fun j => ?_)
  · refine congrArg (Finset.fold _ _ · _) (funext fun l => ?_)
    exact (congrArg (held D) (lift_eq q l)).trans (held_apply D q l)
  · by_cases h : D (ix2 q j) = D (ix2 q (Rounds.least fun l => D (ix2 q l)))
    · rw [if_pos h]; exact Fin.le_def.mp (Rounds.least_first (fun l => D (ix2 q l)) j h)
    · rw [if_neg h]; exact (Rounds.least fun l => D (ix2 q l)).isLt.le

theorem nextV_apply (j : Fin 2048) : nextV D (ix2 q j) = Rounds.next (fun l => D (ix2 q l)) j := by
  unfold nextV Rounds.next pickB
  rw [select_apply]
  show (if IntOp.cmpi .eq (cols (ix2 q j)) (broadcastTo S512x2048 (pickV D) broadcasts_S512x1_S512x2048 (ix2 q j)) = 1#1 then
    Ideal.ofBits .f32 0x7F800000#32 else D (ix2 q j)) = _
  rw [spread_apply, pickV_apply, cols_apply]
  have hj := j.isLt
  have hl := (Rounds.least fun l => D (ix2 q l)).isLt
  refine if_congr ?_ (by simp [Ideal.ofBits, Ideal.ieee]) rfl
  simp only [IntOp.cmpi, WordCmp.ofBool_eq_one_iff, beq_iff_eq, Fin.ext_iff]
  constructor
  · intro h
    have h := congrArg BitVec.toNat h
    simp only [BitVec.toNat_ofNat] at h
    omega
  · intro h; rw [h]

theorem rowsV_apply (r : ℕ) (j : Fin 2048) : rowsV D r (ix2 q j) = Rounds.row (fun l => D (ix2 q l)) r j := by
  induction r generalizing j with
  | zero => rfl
  | succ r ih =>
    rw [Rounds.row_succ]
    show nextV (rowsV D r) (ix2 q j) = _
    rw [nextV_apply]
    exact congrArg (fun d => Rounds.next d j) (funext ih)

/-- Selection `r` of row `q`, listed. -/
theorem listed_apply (a : BitVec 32) (r : ℕ) : listed a (pickV (rowsV D r)) (ix4 0 0 q 0)
    = BitVec.ofNat 32 (Rounds.pick (fun l => D (ix2 q l)) r).val + a * 2048#32 := by
  unfold listed
  rw [shapeCast_apply _ _ _ (ix2 q 0) (by
    rw [Shape.rowMajor_val_four, Shape.rowMajor_val_two]
    show q.val * 1 + 0 = ((0 * 1 + 0) * 512 + q.val) * 1 + 0
    omega)]
  show pickV (rowsV D r) (ix2 q 0) + _ = _
  rw [pickV_apply]
  unfold Rounds.pick
  rw [show (fun l => rowsV D r (ix2 q l)) = Rounds.row (fun l => D (ix2 q l)) r from funext fun l => rowsV_apply D q r l]
  rfl

end

/-! ## The stores -/

section
variable {F : FTy → Type} [FloatOps F] (i : grid1.Coords) (x0 : Vec F S1x3x2048 .f32) (x1 : Vec F S1x2048x3 .f32) (x2 : Vec F S1x2048x128 .f32)
  (x3 : Vec F S1x512x1 .i32) (x4 : Vec F S128x256 .f32) (x5 : Vec F S8x256 .f32) (x6 : Vec F S1x256 .f32)

/-- The distances of one grid point's centres from its cloud's points. -/
def dist : FVec F S512x2048 .f32 :=
  k1_pay18 (k1_pay73 i x0 x1 x2 x3 x4 x5 x6) (k1_pay74 i x0 x1 x2 x3 x4 x5 x6) (k1_pay75 i x0 x1 x2 x3 x4 x5 x6)
    (k1_pay81 i x0 x1 x2 x3 x4 x5 x6) (k1_pay82 i x0 x1 x2 x3 x4 x5 x6) (k1_pay83 i x0 x1 x2 x3 x4 x5 x6)

theorem rowsV_zero (D : FVec F S512x2048 .f32) : rowsV D 0 = D := rfl
theorem rowsV_one (D : FVec F S512x2048 .f32) : nextV D = rowsV D 1 := rfl
theorem rowsV_succ (D : FVec F S512x2048 .f32) (r : ℕ) : nextV (rowsV D r) = rowsV D (r + 1) := rfl

attribute [local irreducible] rowsV nextV pickV

theorem v80 : k1_pay80 i x0 x1 x2 x3 x4 x5 x6 = cols := rfl
theorem v84 : k1_pay84 i x0 x1 x2 x3 x4 x5 x6 = rowsV (dist i x0 x1 x2 x3 x4 x5 x6) 1 := (pay21 _ _ _ _ _ _).trans (rowsV_one _)
theorem v85 : k1_pay85 i x0 x1 x2 x3 x4 x5 x6 = held (rowsV (dist i x0 x1 x2 x3 x4 x5 x6) 1) := (pay22 _ _ _ _ _ _).trans (congrArg held (rowsV_one _))
theorem v86 : k1_pay86 i x0 x1 x2 x3 x4 x5 x6 = rowsV (dist i x0 x1 x2 x3 x4 x5 x6) 3 := by
  show k1_pay28 cols (k1_pay84 i x0 x1 x2 x3 x4 x5 x6) (k1_pay85 i x0 x1 x2 x3 x4 x5 x6) = _
  rw [v84, v85, pay28]; simp only [rowsV_succ, Nat.reduceAdd]
theorem v87 : k1_pay87 i x0 x1 x2 x3 x4 x5 x6 = pickV (rowsV (dist i x0 x1 x2 x3 x4 x5 x6) 3) := by
  show k1_pay29 cols (k1_pay84 i x0 x1 x2 x3 x4 x5 x6) (k1_pay85 i x0 x1 x2 x3 x4 x5 x6) = _
  rw [v84, v85, pay29]; simp only [rowsV_succ, Nat.reduceAdd]
theorem v88 : k1_pay88 i x0 x1 x2 x3 x4 x5 x6 = rowsV (dist i x0 x1 x2 x3 x4 x5 x6) 5 := by
  show k1_pay34 cols (k1_pay86 i x0 x1 x2 x3 x4 x5 x6) (k1_pay87 i x0 x1 x2 x3 x4 x5 x6) = _
  rw [v86, v87, pay34]; simp only [rowsV_succ, Nat.reduceAdd]
theorem v89 : k1_pay89 i x0 x1 x2 x3 x4 x5 x6 = pickV (rowsV (dist i x0 x1 x2 x3 x4 x5 x6) 5) := by
  show k1_pay35 cols (k1_pay86 i x0 x1 x2 x3 x4 x5 x6) (k1_pay87 i x0 x1 x2 x3 x4 x5 x6) = _
  rw [v86, v87, pay35]; simp only [rowsV_succ, Nat.reduceAdd]
theorem v90 : k1_pay90 i x0 x1 x2 x3 x4 x5 x6 = rowsV (dist i x0 x1 x2 x3 x4 x5 x6) 7 := by
  show k1_pay41 cols (k1_pay88 i x0 x1 x2 x3 x4 x5 x6) (k1_pay89 i x0 x1 x2 x3 x4 x5 x6) = _
  rw [v88, v89, pay41]; simp only [rowsV_succ, Nat.reduceAdd]
theorem v91 : k1_pay91 i x0 x1 x2 x3 x4 x5 x6 = pickV (rowsV (dist i x0 x1 x2 x3 x4 x5 x6) 7) := by
  show k1_pay42 cols (k1_pay88 i x0 x1 x2 x3 x4 x5 x6) (k1_pay89 i x0 x1 x2 x3 x4 x5 x6) = _
  rw [v88, v89, pay42]; simp only [rowsV_succ, Nat.reduceAdd]
theorem v92 : k1_pay92 i x0 x1 x2 x3 x4 x5 x6 = rowsV (dist i x0 x1 x2 x3 x4 x5 x6) 9 := by
  show k1_pay48 cols (k1_pay90 i x0 x1 x2 x3 x4 x5 x6) (k1_pay91 i x0 x1 x2 x3 x4 x5 x6) = _
  rw [v90, v91, pay48]; simp only [rowsV_succ, Nat.reduceAdd]
theorem v93 : k1_pay93 i x0 x1 x2 x3 x4 x5 x6 = pickB (rowsV (dist i x0 x1 x2 x3 x4 x5 x6) 9) := by
  show k1_pay51 cols (k1_pay90 i x0 x1 x2 x3 x4 x5 x6) (k1_pay91 i x0 x1 x2 x3 x4 x5 x6) = _
  rw [v90, v91, pay51]; simp only [rowsV_succ, Nat.reduceAdd]
theorem v94 : k1_pay94 i x0 x1 x2 x3 x4 x5 x6 = rowsV (dist i x0 x1 x2 x3 x4 x5 x6) 12 := by
  show k1_pay58 cols (k1_pay92 i x0 x1 x2 x3 x4 x5 x6) (k1_pay93 i x0 x1 x2 x3 x4 x5 x6) = _
  rw [v92, v93, pay58]; simp only [rowsV_succ, Nat.reduceAdd]
theorem v95 : k1_pay95 i x0 x1 x2 x3 x4 x5 x6 = rowsV (dist i x0 x1 x2 x3 x4 x5 x6) 14 := by
  show k1_pay64 cols (k1_pay94 i x0 x1 x2 x3 x4 x5 x6) = _
  rw [v94, pay64]; simp only [rowsV_succ, Nat.reduceAdd]
theorem v96 : k1_pay96 i x0 x1 x2 x3 x4 x5 x6 = nearest (rowsV (dist i x0 x1 x2 x3 x4 x5 x6) 14) := by
  show k1_pay65 cols (k1_pay94 i x0 x1 x2 x3 x4 x5 x6) = _
  rw [v94, pay65]; simp only [rowsV_succ, Nat.reduceAdd]

/-- One store's payload is its tile of the function that all sixteen agree with. -/
theorem piece {α : Type} (G : ℕ → S1x1x512x1.Idx → α) (o : ℕ) (inb : ∀ a, ![0, o, 0, 0] a + S1x1x512x1.size a ≤ S1x16x512x1.size a)
    (x : S1x1x512x1.Idx) : G o x = G (((Rect.unit (s := S1x16x512x1) ![0, o, 0, 0] S1x1x512x1.size inb).emb x) 1).val
      (ix4 0 0 (((Rect.unit (s := S1x16x512x1) ![0, o, 0, 0] S1x1x512x1.size inb).emb x) 2) 0) := by
  have h1 : (((Rect.unit (s := S1x16x512x1) ![0, o, 0, 0] S1x1x512x1.size inb).emb x) 1).val = o := by
    show o + 1 * (x 1).val = o
    have : (x 1).val < 1 := (x 1).isLt
    omega
  rw [h1]
  refine congrArg (G o) (funext fun b => Fin.ext ?_)
  match b with
  | ⟨0, _⟩ => exact Nat.lt_one_iff.mp (x 0).isLt
  | ⟨1, _⟩ => exact Nat.lt_one_iff.mp (x 1).isLt
  | ⟨2, _⟩ => show (x 2).val = 0 + 1 * (x 2).val; omega
  | ⟨3, _⟩ => exact Nat.lt_one_iff.mp (x 3).isLt

/-- What the sixteen stores leave at selection `r` of centre `q`. -/
theorem stored (r : Fin 16) (q : Fin 512) : out1_10 i x0 x1 x2 x3 x4 x5 x6 (ix4 0 r q 0)
    = listed (BitVec.ofNat 32 (i 0).val) (pickV (rowsV (dist i x0 x1 x2 x3 x4 x5 x6) r.val)) (ix4 0 0 q 0) := by
  unfold out1_10
  rw [v80, v84, v85, v86, v87, v88, v89, v90, v91, v92, v93, v94, v95, v96, pay68, pay67, pay63, pay60, pay57, pay54, pay50, pay47,
    pay44, pay40, pay37, pay33, pay30, pay27, pay24, pay20]
  rw [show k1_pay18 (k1_pay73 i x0 x1 x2 x3 x4 x5 x6) (k1_pay74 i x0 x1 x2 x3 x4 x5 x6) (k1_pay75 i x0 x1 x2 x3 x4 x5 x6) (k1_pay81 i x0 x1 x2 x3 x4 x5 x6)
    (k1_pay82 i x0 x1 x2 x3 x4 x5 x6) (k1_pay83 i x0 x1 x2 x3 x4 x5 x6) = rowsV (dist i x0 x1 x2 x3 x4 x5 x6) 0 from (rowsV_zero _).symm]
  simp only [rowsV_succ, Nat.reduceAdd]
  generalize BitVec.ofNat 32 (i 0).val = a
  generalize dist i x0 x1 x2 x3 x4 x5 x6 = D
  let G : S1x16x512x1.Idx → Elt F .i32 := fun y => listed a (pickV (rowsV D (y 1).val)) (ix4 0 0 (y 2) 0)
  let P : ℕ → IVec S1x1x512x1 32 := fun o => listed a (pickV (rowsV D o))
  show _ = G (ix4 0 r q 0)
  refine View.canon_apply_of_pieces G _ ?_ _ ?h
  case h => exact cover1_10 (F := F) (P 15) (P 14) (P 13) (P 12) (P 11) (P 10) (P 9) (P 8) (P 7) (P 6) (P 5) (P 4) (P 3) (P 2) (P 1) (P 0) _
  intro p hp x
  simp only [List.mem_cons, List.not_mem_nil, or_false] at hp
  rcases hp with rfl | rfl | rfl | rfl | rfl | rfl | rfl | rfl | rfl | rfl | rfl | rfl | rfl | rfl | rfl | rfl <;>
    exact piece (fun o => listed a (pickV (rowsV D o))) _ (by decide) x

end

end Cert.Cloud

end
-- ==== Proof.Clouds.lean ====
/- The nearest-neighbour call's stored blocks, entry by entry at the extended reals. -/
module

public import proofs.«01_k».proof.Proof.Picks
public import proofs.«01_k».proof.Proof.Layers

@[expose] public section

noncomputable section

namespace Cert.Cloud

open Cert.FrontIdeal Cert.FrontIdeal.Gen Idealize.ShloMosaic Idealize.ShloMosaic.ValueIdx
open Cert.Rows (IsReal)

variable (i : grid1.Coords) (x0 : Vec Ideal S1x3x2048 .f32) (x1 : Vec Ideal S1x2048x3 .f32) (x2 : Vec Ideal S1x2048x128 .f32)
  (x3 : Vec Ideal S1x512x1 .i32) (x4 : Vec Ideal S128x256 .f32) (x5 : Vec Ideal S8x256 .f32) (x6 : Vec Ideal S1x256 .f32)

/-- The product of two reals is real. -/
theorem _root_.Cert.Rows.IsReal.mul {x y : EReal} (hx : IsReal x) (hy : IsReal y) : IsReal (x * y) := by
  obtain ⟨h1, h2⟩ := hx; obtain ⟨h3, h4⟩ := hy
  lift x to ℝ using ⟨h2, h1⟩; lift y to ℝ using ⟨h4, h3⟩
  rw [← EReal.coe_mul]; exact ⟨EReal.coe_ne_bot _, EReal.coe_ne_top _⟩

theorem _root_.Cert.Rows.IsReal.sub {x y : EReal} (hx : IsReal x) (hy : IsReal y) : IsReal (x - y) := by
  obtain ⟨h1, h2⟩ := hx; obtain ⟨h3, h4⟩ := hy
  lift x to ℝ using ⟨h2, h1⟩; lift y to ℝ using ⟨h4, h3⟩
  rw [← EReal.coe_sub]; exact ⟨EReal.coe_ne_bot _, EReal.coe_ne_top _⟩

/-! ## Coordinates -/

theorem xrow_apply (j : Fin 2048) : k1_pay73 i x0 x1 x2 x3 x4 x5 x6 (ix2 0 j) = x0 (ix3 0 0 j) :=
  (shapeCast_1ab_ab_apply (View.ld (Val := Elt Ideal) (e' := .f32) x0 r1_0) shapeCasts_S1x1x2048_S1x2048 (0 : Fin 1) j).trans
    (congrArg x0 (funext fun a => Fin.ext (by
      match a with
      | ⟨0, _⟩ => rfl
      | ⟨1, _⟩ => rfl
      | ⟨2, _⟩ => show 0 + 1 * j.val = j.val; omega)))

theorem yrow_apply (j : Fin 2048) : k1_pay74 i x0 x1 x2 x3 x4 x5 x6 (ix2 0 j) = x0 (ix3 0 1 j) :=
  (shapeCast_1ab_ab_apply (View.ld (Val := Elt Ideal) (e' := .f32) x0 r1_1) shapeCasts_S1x1x2048_S1x2048 (0 : Fin 1) j).trans
    (congrArg x0 (funext fun a => Fin.ext (by
      match a with
      | ⟨0, _⟩ => rfl
      | ⟨1, _⟩ => rfl
      | ⟨2, _⟩ => show 0 + 1 * j.val = j.val; omega)))

theorem zrow_apply (j : Fin 2048) : k1_pay75 i x0 x1 x2 x3 x4 x5 x6 (ix2 0 j) = x0 (ix3 0 2 j) :=
  (shapeCast_1ab_ab_apply (View.ld (Val := Elt Ideal) (e' := .f32) x0 r1_2) shapeCasts_S1x1x2048_S1x2048 (0 : Fin 1) j).trans
    (congrArg x0 (funext fun a => Fin.ext (by
      match a with
      | ⟨0, _⟩ => rfl
      | ⟨1, _⟩ => rfl
      | ⟨2, _⟩ => show 0 + 1 * j.val = j.val; omega)))

theorem zeros3 : (![0, 0, 0] : Fin 3 → ℕ) = fun _ => 0 := by funext a; fin_cases a <;> rfl
theorem zeros2 : (![0, 0] : Fin 2 → ℕ) = fun _ => 0 := by funext a; fin_cases a <;> rfl

theorem cent_apply (q : Fin 512) : k1_pay77 i x0 x1 x2 x3 x4 x5 x6 (ix2 q 0) = x3 (ix3 0 q 0) :=
  (shapeCast_1ab_ab_apply (View.ld (Val := Elt Ideal) (e' := .i32) x3 r1_7) shapeCasts_S1x512x1_S512x1 q (0 : Fin 1)).trans
    (congrFun (View.ld_unit_zero (S := S1x512x1) zeros3 _ x3) (ix3 0 q 0))

/-! ## The centres' coordinates -/

/-- The one-hot row of a centre. -/
theorem hot_apply (c : IVec S512x1 32) (p : Fin 2048) (q : Fin 512) (hc : c (ix2 q 0) = BitVec.ofNat 32 p.val) (j : Fin 2048) :
    k1_pay12 c (ix2 q j) = if j = p then 1#1 else 0#1 := by
  show IntOp.cmpi .eq (cols (ix2 q j)) (broadcastTo S512x2048 c broadcasts_S512x1_S512x2048 (ix2 q j)) = _
  rw [spread_apply, cols_apply, hc]
  have hj := j.isLt
  have hp := p.isLt
  by_cases h : j = p
  · rw [if_pos h, h]; simp [IntOp.cmpi]
  · rw [if_neg h]
    have : BitVec.ofNat 32 j.val ≠ BitVec.ofNat 32 p.val := fun e => h (Fin.ext (by
      have e := congrArg BitVec.toNat e
      simp only [BitVec.toNat_ofNat] at e
      omega))
    show BitVec.ofBool (BitVec.ofNat 32 j.val == BitVec.ofNat 32 p.val) = 0#1
    rw [beq_eq_false_iff_ne.mpr this]; rfl

/-- The sum of a row's entries at the one-hot row is the entry at the centre. -/
theorem centre_apply (X : FVec Ideal S1x2048 .f32) (c : IVec S512x1 32) (p : Fin 2048) (q : Fin 512) (hc : c (ix2 q 0) = BitVec.ofNat 32 p.val) :
    k1_pay13 X c (ix2 q 0) = X (ix2 0 p) := by
  unfold k1_pay13
  refine (column_apply q _).trans ?_
  refine (Ideal.multiReduction_add_single _ _ reduces_S512x2048_S512 (.inl rfl) rfl (ix1 q)).trans ?_
  refine (Finset.sum_congr rfl fun k _ => congrArg _ (lift_eq q k)).trans ?_
  simp only [select_apply, hot_apply c p q hc]
  refine (Finset.sum_eq_single p (fun j _ hj => ?_) fun h => absurd (Finset.mem_univ _) h).trans ?_
  · rw [if_neg hj]
    exact Ideal.ofBits_zero_f32
  · rw [if_pos rfl]
    show broadcastTo S512x2048 (shapeCast S1x2048 X shapeCasts_S1x2048_S1x2048) broadcasts_S1x2048_S512x2048 (ix2 q p) = _
    refine (broadcastTo_apply _ _ _ (ix2 0 p) fun b => by fin_cases b <;> rfl).trans ?_
    rw [shapeCast_self]

variable (p : Fin 512 → Fin 2048) (hp : ∀ q, x3 (ix3 0 q 0) = BitVec.ofNat 32 (p q).val)
include hp

theorem centre_x (q : Fin 512) : k1_pay81 i x0 x1 x2 x3 x4 x5 x6 (ix2 q 0) = x0 (ix3 0 0 (p q)) :=
  (centre_apply _ _ (p q) q ((cent_apply i x0 x1 x2 x3 x4 x5 x6 q).trans (hp q))).trans (xrow_apply i x0 x1 x2 x3 x4 x5 x6 _)
theorem centre_y (q : Fin 512) : k1_pay82 i x0 x1 x2 x3 x4 x5 x6 (ix2 q 0) = x0 (ix3 0 1 (p q)) :=
  (centre_apply _ _ (p q) q ((cent_apply i x0 x1 x2 x3 x4 x5 x6 q).trans (hp q))).trans (yrow_apply i x0 x1 x2 x3 x4 x5 x6 _)
theorem centre_z (q : Fin 512) : k1_pay83 i x0 x1 x2 x3 x4 x5 x6 (ix2 q 0) = x0 (ix3 0 2 (p q)) :=
  (centre_apply _ _ (p q) q ((cent_apply i x0 x1 x2 x3 x4 x5 x6 q).trans (hp q))).trans (zrow_apply i x0 x1 x2 x3 x4 x5 x6 _)

/-- The squared distance of point `j` from centre `q`. -/
def apart (y : Fin 3 → Fin 2048 → EReal) (q j : Fin 2048) : EReal :=
  (y 0 q - y 0 j) * (y 0 q - y 0 j) + (y 1 q - y 1 j) * (y 1 q - y 1 j) + (y 2 q - y 2 j) * (y 2 q - y 2 j)

theorem dist_apply (q : Fin 512) (j : Fin 2048) : dist i x0 x1 x2 x3 x4 x5 x6 (ix2 q j)
    = apart (fun a l => (x0 (ix3 0 a l) : EReal)) (p q) j := by
  have row (w : FVec Ideal S1x2048 .f32) : broadcastTo S512x2048 w broadcasts_S1x2048_S512x2048 (ix2 q j) = w (ix2 0 j) :=
    broadcastTo_apply w _ _ _ fun b => by fin_cases b <;> rfl
  have hx := (spread_apply q (k1_pay81 i x0 x1 x2 x3 x4 x5 x6) j).trans (centre_x i x0 x1 x2 x3 x4 x5 x6 p hp q)
  have hy := (spread_apply q (k1_pay82 i x0 x1 x2 x3 x4 x5 x6) j).trans (centre_y i x0 x1 x2 x3 x4 x5 x6 p hp q)
  have hz := (spread_apply q (k1_pay83 i x0 x1 x2 x3 x4 x5 x6) j).trans (centre_z i x0 x1 x2 x3 x4 x5 x6 p hp q)
  have ex := (row (k1_pay73 i x0 x1 x2 x3 x4 x5 x6)).trans (xrow_apply i x0 x1 x2 x3 x4 x5 x6 j)
  have ey := (row (k1_pay74 i x0 x1 x2 x3 x4 x5 x6)).trans (yrow_apply i x0 x1 x2 x3 x4 x5 x6 j)
  have ez := (row (k1_pay75 i x0 x1 x2 x3 x4 x5 x6)).trans (zrow_apply i x0 x1 x2 x3 x4 x5 x6 j)
  unfold dist k1_pay18 apart
  simp only [addf_apply, mulf_apply, subf_apply, hx, hy, hz, ex, ey, ez]

/-- Block 10: selection `r` of centre `q`. -/
theorem block10_apply (r : Fin 16) (q : Fin 512) : out1_10 (F := Ideal) i x0 x1 x2 x3 x4 x5 x6 (ix4 0 r q 0)
    = BitVec.ofNat 32 (Rounds.pick (apart (fun a l => (x0 (ix3 0 a l) : EReal)) (p q)) r.val).val + BitVec.ofNat 32 (i 0).val * 2048#32 := by
  rw [stored, listed_apply, show (fun l => dist i x0 x1 x2 x3 x4 x5 x6 (ix2 q l)) = apart (fun a l => (x0 (ix3 0 a l) : EReal)) (p q) from
    funext fun l => dist_apply i x0 x1 x2 x3 x4 x5 x6 p hp q l]

/-- Block 7: the centre's coordinates in the first three lanes, zero in the rest. -/
theorem block7_apply (q : Fin 512) (l : Fin 128) : out1_7 (F := Ideal) i x0 x1 x2 x3 x4 x5 x6 (ix3 0 q l)
    = if h : l.val < 3 then (x0 (ix3 0 ⟨l.val, h⟩ (p q)) : EReal) else 0 := by
  have col (w : FVec Ideal S512x1 .f32) : broadcastTo S512x128 (shapeCast S512x1 w shapeCasts_S512x1_S512x1) broadcasts_S512x1_S512x128 (ix2 q l)
      = w (ix2 q 0) := by
    rw [shapeCast_self]; exact broadcastTo_apply w _ _ _ fun b => by fin_cases b <;> rfl
  have lane (n : ℕ) (hn : n < 2 ^ 32) : (IntOp.cmpi .eq (iota .tc S512x128 32 [1] iota_S512x128_d1_w32 (ix2 q l)) (BitVec.ofNat 32 n) = 1#1) ↔ l.val = n := by
    have hl := l.isLt
    rw [show iota .tc S512x128 32 [1] iota_S512x128_d1_w32 (ix2 q l) = BitVec.ofNat 32 l.val from by
      show BitVec.ofNat 32 (0 * 128 + l.val) = _
      rw [Nat.zero_mul, Nat.zero_add]]
    simp only [IntOp.cmpi, WordCmp.ofBool_eq_one_iff, beq_iff_eq]
    constructor
    · intro h
      have h := congrArg BitVec.toNat h
      simp only [BitVec.toNat_ofNat] at h
      omega
    · intro h; rw [h]
  unfold out1_7
  refine (congrFun (View.canon_unit_zero (S := S1x512x128) zeros3 _ _) (ix3 0 q l)).trans ?_
  unfold k1_pay1
  refine (shapeCast_ab_1ab_apply _ shapeCasts_S512x128_S1x512x128 0 q l).trans ?_
  unfold k1_pay72
  simp only [select_apply, col]
  rw [centre_x i x0 x1 x2 x3 x4 x5 x6 p hp q, centre_y i x0 x1 x2 x3 x4 x5 x6 p hp q, centre_z i x0 x1 x2 x3 x4 x5 x6 p hp q]
  refine (if_congr (lane 0 (by norm_num)) rfl (if_congr (lane 1 (by norm_num)) rfl (if_congr (lane 2 (by norm_num)) rfl rfl))).trans ?_
  by_cases h : l.val < 3
  · rw [dif_pos h]
    obtain h | h | h : l.val = 0 ∨ l.val = 1 ∨ l.val = 2 := by omega
    · rw [if_pos h]; exact congrArg (fun a : Fin 3 => x0 (ix3 0 a (p q))) (Fin.ext h.symm)
    · rw [if_neg (by omega), if_pos h]; exact congrArg (fun a : Fin 3 => x0 (ix3 0 a (p q))) (Fin.ext h.symm)
    · rw [if_neg (by omega), if_neg (by omega), if_pos h]; exact congrArg (fun a : Fin 3 => x0 (ix3 0 a (p q))) (Fin.ext h.symm)
  · rw [dif_neg h, if_neg (by omega), if_neg (by omega), if_neg (by omega)]
    exact Ideal.ofBits_zero_f32

/-! ## The rows of the first layer's products -/

section
omit hp

/-- A column of the points' coordinates, in every column. -/
theorem along_apply (w : FVec Ideal S2048x1 .f32) (j : Fin 2048) (c : Fin 256) :
    broadcastTo S2048x256 w broadcasts_S2048x1_S2048x256 (ix2 j c) = w (ix2 j 0) :=
  broadcastTo_apply w _ _ _ fun b => by fin_cases b <;> rfl

/-- A row of the weight, in every row. -/
theorem down_apply (w : FVec Ideal S1x256 .f32) (j : Fin 2048) (c : Fin 256) :
    broadcastTo S2048x256 w broadcasts_S1x256_S2048x256 (ix2 j c) = w (ix2 0 c) :=
  broadcastTo_apply w _ _ _ fun b => by fin_cases b <;> rfl

/-- A point's position against the weight's rows of the position. -/
def posTerm (x1 : Vec Ideal S1x2048x3 .f32) (x5 : Vec Ideal S8x256 .f32) (j : Fin 2048) (c : Fin 256) : EReal :=
  (x1 (ix3 0 j 0) : EReal) * x5 (ix2 0 c) + (x1 (ix3 0 j 1) : EReal) * x5 (ix2 1 c) + (x1 (ix3 0 j 2) : EReal) * x5 (ix2 2 c)

theorem column3_apply (w : Vec Ideal S1x2048x1 .f32) (j : Fin 2048) :
    shapeCast S2048x1 w shapeCasts_S1x2048x1_S2048x1 (ix2 j 0) = w (ix3 0 j 0) := shapeCast_1ab_ab_apply w _ j (0 : Fin 1)

theorem posTerm_apply (j : Fin 2048) (c : Fin 256) :
    k1_pay10 (k1_pay76 i x0 x1 x2 x3 x4 x5 x6) (k1_pay78 i x0 x1 x2 x3 x4 x5 x6) (k1_pay79 i x0 x1 x2 x3 x4 x5 x6) (ix2 j c) = posTerm x1 x5 j c := by
  have px : View.ld (Val := Elt Ideal) (e' := .f32) x1 r1_3 (ix3 0 j 0) = x1 (ix3 0 j 0) := congrArg x1 (funext fun a => Fin.ext (by
    match a with
    | ⟨0, _⟩ => rfl
    | ⟨1, _⟩ => show 0 + 1 * j.val = j.val; omega
    | ⟨2, _⟩ => rfl))
  have py : View.ld (Val := Elt Ideal) (e' := .f32) x1 r1_4 (ix3 0 j 0) = x1 (ix3 0 j 1) := congrArg x1 (funext fun a => Fin.ext (by
    match a with
    | ⟨0, _⟩ => rfl
    | ⟨1, _⟩ => show 0 + 1 * j.val = j.val; omega
    | ⟨2, _⟩ => rfl))
  have pz : View.ld (Val := Elt Ideal) (e' := .f32) x1 r1_5 (ix3 0 j 0) = x1 (ix3 0 j 2) := congrArg x1 (funext fun a => Fin.ext (by
    match a with
    | ⟨0, _⟩ => rfl
    | ⟨1, _⟩ => show 0 + 1 * j.val = j.val; omega
    | ⟨2, _⟩ => rfl))
  have wx : View.ld (Val := Elt Ideal) (e' := .f32) x5 r1_8 (ix2 0 c) = x5 (ix2 0 c) := congrArg x5 (funext fun a => Fin.ext (by
    match a with
    | ⟨0, _⟩ => rfl
    | ⟨1, _⟩ => show 0 + 1 * c.val = c.val; omega))
  have wy : View.ld (Val := Elt Ideal) (e' := .f32) x5 r1_9 (ix2 0 c) = x5 (ix2 1 c) := congrArg x5 (funext fun a => Fin.ext (by
    match a with
    | ⟨0, _⟩ => rfl
    | ⟨1, _⟩ => show 0 + 1 * c.val = c.val; omega))
  have wz : View.ld (Val := Elt Ideal) (e' := .f32) x5 r1_10 (ix2 0 c) = x5 (ix2 2 c) := congrArg x5 (funext fun a => Fin.ext (by
    match a with
    | ⟨0, _⟩ => rfl
    | ⟨1, _⟩ => show 0 + 1 * c.val = c.val; omega))
  unfold k1_pay10 k1_pay76 k1_pay78 k1_pay79 k1_pay5 k1_pay8 k1_pay9
  simp only [shapeCast_self, addf_apply, mulf_apply, along_apply, down_apply, wx, wy, wz]
  exact congrArg₂ (fun a b : EReal => a + b) (congrArg₂ (fun a b : EReal => a + b)
    (congrArg (fun a : EReal => a * x5 (ix2 0 c)) ((column3_apply _ j).trans px))
    (congrArg (fun a : EReal => a * x5 (ix2 1 c)) ((column3_apply _ j).trans py)))
    (congrArg (fun a : EReal => a * x5 (ix2 2 c)) ((column3_apply _ j).trans pz))

/-- Block 8: a point's features and position against the weight. -/
theorem block8_apply (j : Fin 2048) (c : Fin 256) : out1_8 (F := Ideal) i x0 x1 x2 x3 x4 x5 x6 (ix3 0 j c)
    = (∑ k : Fin 128, (x2 (ix3 0 j k) : EReal) * x4 (ix2 k c)) + posTerm x1 x5 j c := by
  unfold out1_8
  refine (congrFun (View.canon_unit_zero (S := S1x2048x256) zeros3 _ _) (ix3 0 j c)).trans ?_
  unfold k1_pay11
  refine (shapeCast_ab_1ab_apply _ shapeCasts_S2048x256_S1x2048x256 0 j c).trans ?_
  rw [addf_apply, posTerm_apply]
  refine congrArg (fun s : EReal => s + posTerm x1 x5 j c) ?_
  refine (Ideal.matmul_plain_apply (M := 2048) (K := 128) (N := 256) none _ _ (constant S2048x256 .f32 0x00000000#32) j c).trans ?_
  show Ideal.ofBits .f32 0x00000000#32 + _ = _
  rw [Ideal.ofBits_zero_f32, zero_add]
  refine Finset.sum_congr rfl fun k _ => ?_
  unfold k1_pay6
  rw [shapeCast_self, View.ld_unit_zero (S := S128x256) zeros2, View.ld_unit_zero (S := S1x2048x128) zeros3]
  exact congrArg (fun s : EReal => s * x4 (ix2 k c)) (shapeCast_1ab_ab_apply x2 shapeCasts_S1x2048x128_S2048x128 j k)

end

omit hp in
/-- A product of the one-hot rows with a table, started from zero, picks the centre's row. -/
theorem onehot_apply (c : IVec S512x1 32) (T : FVec Ideal S2048x256 .bf16) (p : Fin 2048) (q : Fin 512) (l : Fin 256)
    (hc : c (ix2 q 0) = BitVec.ofNat 32 p.val) :
    matmul dot_S512x2048_S2048x256_S512x256_1_0_0_1_n_n none (truncf .bf16 (sitofp .f32 (extui 32 (k1_pay12 c) natLt_1_32)) bitsLt_bf16_f32) T
      (constant S512x256 .f32 0x00000000#32) (ix2 q l) = T (ix2 p l) := by
  refine (Ideal.matmul_plain_apply (M := 512) (K := 2048) (N := 256) none _ _ (constant S512x256 .f32 0x00000000#32) q l).trans ?_
  show Ideal.ofBits .f32 0x00000000#32 + _ = _
  rw [Ideal.ofBits_zero_f32, zero_add]
  have e (j : Fin 2048) : (truncf .bf16 (sitofp .f32 (extui 32 (k1_pay12 c) natLt_1_32) : FVec Ideal S512x2048 .f32) bitsLt_bf16_f32 (ix2 q j) : EReal)
      = if j = p then 1 else 0 := by
    show ((((k1_pay12 c (ix2 q j)).setWidth 32).toInt : ℝ) : EReal) = _
    rw [hot_apply c p q hc]
    by_cases h : j = p
    · rw [if_pos h, if_pos h]; simp
    · rw [if_neg h, if_neg h]; simp
  refine (Finset.sum_eq_single p (fun j _ hj => ?_) fun h => absurd (Finset.mem_univ _) h).trans ?_
  · rw [e, if_neg hj, zero_mul]
  · rw [e, if_pos rfl, one_mul]

/-- Block 9: the bias less the centre's position against the weight. -/
theorem block9_apply (h1 : ∀ y, IsReal (x1 y)) (h5 : ∀ (k : Fin 8) (c : Fin 256), k.val < 3 → IsReal (x5 (ix2 k c))) (q : Fin 512) (c : Fin 256) :
    out1_9 (F := Ideal) i x0 x1 x2 x3 x4 x5 x6 (ix3 0 q c) = (x6 (ix2 0 c) : EReal) - posTerm x1 x5 (p q) c := by
  have hc := (cent_apply i x0 x1 x2 x3 x4 x5 x6 q).trans (hp q)
  have hr : IsReal (posTerm x1 x5 (p q) c) := (((h1 _).mul (h5 0 c (by decide))).add ((h1 _).mul (h5 1 c (by decide)))).add ((h1 _).mul (h5 2 c (by decide)))
  unfold out1_9
  refine (congrFun (View.canon_unit_zero (S := S1x512x256) zeros3 _ _) (ix3 0 q c)).trans ?_
  unfold k1_pay17
  refine (shapeCast_ab_1ab_apply _ shapeCasts_S512x256_S1x512x256 0 q c).trans ?_
  rw [subf_apply, shapeCast_self, View.ld_unit_zero (S := S1x256) zeros2]
  refine congrArg₂ (fun a b : EReal => a - b) (broadcastTo_apply x6 _ _ (ix2 0 c) fun b => by fin_cases b <;> rfl) ?_
  unfold k1_pay16
  rw [addf_apply, onehot_apply _ _ (p q) q c hc, onehot_apply _ _ (p q) q c hc]
  show ((k1_pay10 (F := Ideal) _ _ _ (ix2 (p q) c) : EReal) + ((k1_pay10 (F := Ideal) _ _ _ (ix2 (p q) c) : EReal) - (k1_pay10 (F := Ideal) _ _ _ (ix2 (p q) c) : EReal))) = _
  rw [posTerm_apply, hr.sub_self, add_zero]

end Cert.Cloud

end
-- ==== Proof.FarSteps.lean ====
/- Farthest-point sampling of one cloud, as mathematics, and the two ways of finding the farthest point. -/
module

public import proofs.«01_k».proof.Proof.Rounds

@[expose] public section

noncomputable section

namespace Cert.Farthest

open Idealize.ShloMosaic

/-! ## The first greatest position -/

section
variable {n : ℕ} [NeZero n] (f : Fin n → EReal)

/-- The first position at which a row is greatest. -/
def peak : Fin n := Rounds.least fun i => -f i

theorem le_peak (i : Fin n) : f i ≤ f (peak f) := EReal.neg_le_neg_iff.mp (Rounds.least_le (fun i => -f i) i)

theorem peak_first (i : Fin n) (h : f i = f (peak f)) : peak f ≤ i :=
  Rounds.least_first (fun i => -f i) i (congrArg (fun x : EReal => -x) h)

theorem low_pattern : Ideal.ofBits .f32 0xFF800000#32 = (⊥ : EReal) := by
  simp [Ideal.ofBits, Ideal.ieee]

/-- The fold of the maximum from below is the greatest value. -/
theorem fold_max_eq : (Finset.univ : Finset (Fin n)).fold (FloatOps.maximumf (F := Ideal) (φ := .f32)) (FloatOps.ofBits (F := Ideal) .f32 0xFF800000#32) f
    = f (peak f) := by
  rw [show (FloatOps.ofBits (F := Ideal) .f32 0xFF800000#32) = (⊥ : EReal) from low_pattern]
  show (Finset.univ : Finset (Fin n)).fold max (⊥ : EReal) f = _
  refine le_antisymm ((Finset.fold_max_le _).mpr ⟨bot_le, fun i _ => le_peak f i⟩) ?_
  exact (Finset.le_fold_max _).mpr (Or.inr ⟨peak f, Finset.mem_univ _, le_rfl⟩)

end

attribute [irreducible] peak

/-- A running best over a list, an earlier position before a later one of the same value: it is one of the candidates,
    and none is better. -/
theorem foldl_best {α : Type} (φ : EReal × BitVec 32 → EReal × BitVec 32 → EReal × BitVec 32)
    (hφ : ∀ (v u : EReal) (q p : ℕ), q < 2 ^ 31 → p < 2 ^ 31 →
      φ (v, BitVec.ofNat 32 q) (u, BitVec.ofNat 32 p) = if u < v ∨ (v = u ∧ q < p) then (v, BitVec.ofNat 32 q) else (u, BitVec.ofNat 32 p))
    (v : α → EReal) (w : α → ℕ) (l : List α) (hw : ∀ a ∈ l, w a < 2 ^ 31) (v0 : EReal) (q0 : ℕ) (hq : q0 < 2 ^ 31) :
    ∃ (r : EReal) (q : ℕ), l.foldl (fun r a => φ r (v a, BitVec.ofNat 32 (w a))) (v0, BitVec.ofNat 32 q0) = (r, BitVec.ofNat 32 q)
      ∧ ((r = v0 ∧ q = q0) ∨ ∃ a ∈ l, r = v a ∧ q = w a)
      ∧ (v0 < r ∨ (v0 = r ∧ q ≤ q0)) ∧ ∀ a ∈ l, v a < r ∨ (v a = r ∧ q ≤ w a) := by
  induction l generalizing v0 q0 with
  | nil => exact ⟨v0, q0, rfl, Or.inl ⟨rfl, rfl⟩, Or.inr ⟨rfl, le_rfl⟩, by simp⟩
  | cons a l ih =>
    have ha := hw a List.mem_cons_self
    have hl : ∀ b ∈ l, w b < 2 ^ 31 := fun b hb => hw b (List.mem_cons_of_mem _ hb)
    rw [List.foldl_cons, hφ _ _ _ _ hq ha]
    by_cases h : v a < v0 ∨ (v0 = v a ∧ q0 < w a)
    · rw [if_pos h]
      obtain ⟨r, q, e, hm, h0, hr⟩ := ih hl v0 q0 hq
      refine ⟨r, q, e, hm.imp id fun ⟨b, hb, hh⟩ => ⟨b, List.mem_cons_of_mem _ hb, hh⟩, h0, fun b hb => ?_⟩
      rcases List.mem_cons.mp hb with rfl | hb
      · rcases h with h | ⟨h, hlt⟩ <;> rcases h0 with h0 | ⟨h0, hle⟩
        · exact Or.inl (h.trans h0)
        · exact Or.inl (h0 ▸ h)
        · exact Or.inl (h ▸ h0)
        · exact Or.inr ⟨h.symm.trans h0, by omega⟩
      · exact hr b hb
    · rw [if_neg h]
      obtain ⟨r, q, e, hm, h0, hr⟩ := ih hl (v a) (w a) ha
      refine ⟨r, q, e, Or.inr ?_, ?_, fun b hb => ?_⟩
      · rcases hm with hm | ⟨b, hb, hh⟩
        · exact ⟨a, List.mem_cons_self, hm⟩
        · exact ⟨b, List.mem_cons_of_mem _ hb, hh⟩
      · have h1 : v0 ≤ v a := not_lt.mp fun hh => h (Or.inl hh)
        rcases h1.lt_or_eq with hlt | heq
        · rcases h0 with h0 | ⟨h0, -⟩
          · exact Or.inl (hlt.trans h0)
          · exact Or.inl (h0 ▸ hlt)
        · have h2 : w a ≤ q0 := not_lt.mp fun hh => h (Or.inr ⟨heq, hh⟩)
          rcases h0 with h0 | ⟨h0, hle⟩
          · exact Or.inl (heq ▸ h0)
          · exact Or.inr ⟨heq.trans h0, hle.trans h2⟩
      · rcases List.mem_cons.mp hb with rfl | hb
        · exact h0
        · exact hr b hb

/-! ## The sampling of one cloud -/

/-- The squared distance between two points of a cloud given by its coordinates. -/
def gap (X : Fin 3 → Fin 2048 → EReal) (l p : Fin 2048) : EReal :=
  (X 0 p - X 0 l) * (X 0 p - X 0 l) + (X 1 p - X 1 l) * (X 1 p - X 1 l) + (X 2 p - X 2 l) * (X 2 p - X 2 l)

/-- Each point's squared distance to the nearest chosen one, after one more was chosen. -/
def nearer (X : Fin 3 → Fin 2048 → EReal) (s : (Fin 2048 → EReal) × Fin 2048) : Fin 2048 → EReal :=
  fun p => min (s.1 p) (gap X s.2 p)

/-- Those distances, and the point chosen last, after `k` steps. -/
def state (X : Fin 3 → Fin 2048 → EReal) : ℕ → (Fin 2048 → EReal) × Fin 2048
  | 0 => (fun _ => Ideal.ofBits .f32 0x501502F9#32, 0)
  | k + 1 => (nearer X (state X k), peak (nearer X (state X k)))

/-- The point chosen at step `k`. -/
def chosen (X : Fin 3 → Fin 2048 → EReal) (k : ℕ) : Fin 2048 := (state X k).2

theorem state_succ (X : Fin 3 → Fin 2048 → EReal) (k : ℕ) : (state X (k + 1)).1 = nearer X (state X k) := rfl

theorem chosen_succ (X : Fin 3 → Fin 2048 → EReal) (k : ℕ) : chosen X (k + 1) = peak (state X (k + 1)).1 := by
  unfold chosen
  rw [state]

end Cert.Farthest

end
-- ==== Proof.FarKernel.lean ====
/- The farthest-point call's loop: the entries of one trip's values at the extended reals, and what the trips leave. -/
module

public import proofs.«01_k».proof.Proof.FarSteps
public import proofs.«01_k».proof.Proof.Gen.FrontIdeal.Frame
public import Idealize.ShloMosaic.Lib.ValueLayout
public import Idealize.ShloMosaic.Lib.IdealHost

@[expose] public section

noncomputable section

namespace Cert.Farthest

open Cert.FrontIdeal Cert.FrontIdeal.Gen Idealize.ShloMosaic Idealize.ShloMosaic.ValueIdx

/-- Coordinate `a` of cloud `b` is row `4 a + b`. -/
def line (a : Fin 3) (b : Fin 4) : Fin 12 := ⟨a.val * 4 + b.val, by omega⟩

/-! ## Layouts -/

section
variable (b : Fin 4)

theorem number_apply (j : Fin 2048) : iota .tc S4x2048 32 [1] iota_S4x2048_d1_w32 (ix2 b j) = BitVec.ofNat 32 j.val := by
  show BitVec.ofNat 32 (0 * 2048 + j.val) = _
  rw [Nat.zero_mul, Nat.zero_add]

theorem slot_apply (j : Fin 512) : iota .tc S4x512 32 [1] iota_S4x512_d1_w32 (ix2 b j) = BitVec.ofNat 32 j.val := by
  show BitVec.ofNat 32 (0 * 512 + j.val) = _
  rw [Nat.zero_mul, Nat.zero_add]

theorem row_spread {α : Type} (w : S4x1.Idx → α) (j : Fin 2048) : broadcastTo S4x2048 w broadcasts_S4x1_S4x2048 (ix2 b j) = w (ix2 b 0) :=
  broadcastTo_apply w _ _ _ fun b => by fin_cases b <;> rfl

theorem slot_spread {α : Type} (w : S4x1.Idx → α) (j : Fin 512) : broadcastTo S4x512 w broadcasts_S4x1_S4x512 (ix2 b j) = w (ix2 b 0) :=
  broadcastTo_apply w _ _ _ fun b => by fin_cases b <;> rfl

theorem line_spread {α : Type} (w : S12x1.Idx → α) (r : Fin 12) (j : Fin 2048) :
    broadcastTo S12x2048 w broadcasts_S12x1_S12x2048 (ix2 r j) = w (ix2 r 0) :=
  broadcastTo_apply w _ _ _ fun b => by fin_cases b <;> rfl

theorem row_column {α : Type} (w : S4.Idx → α) : shapeCast S4x1 w shapeCasts_S4_S4x1 (ix2 b 0) = w (ix1 b) :=
  shapeCast_apply w _ _ _ (by
    rw [Shape.rowMajor_val_one, Shape.rowMajor_val_two]
    show b.val = b.val * 1 + 0
    omega)

theorem line_column {α : Type} (w : S12.Idx → α) (r : Fin 12) : shapeCast S12x1 w shapeCasts_S12_S12x1 (ix2 r 0) = w (ix1 r) :=
  shapeCast_apply w _ _ _ (by
    rw [Shape.rowMajor_val_one, Shape.rowMajor_val_two]
    show r.val = r.val * 1 + 0
    omega)

theorem row_lift (j : Fin 2048) : (reduces_S4x2048_S4).lift (ix1 b) j = ix2 b j := by
  funext a; apply Fin.ext
  match a with
  | ⟨0, _⟩ => rfl
  | ⟨1, _⟩ => rfl

theorem line_lift (r : Fin 12) (j : Fin 2048) : (reduces_S12x2048_S12).lift (ix1 r) j = ix2 r j := by
  funext a; apply Fin.ext
  match a with
  | ⟨0, _⟩ => rfl
  | ⟨1, _⟩ => rfl

/-- Three blocks, one under the other. -/
theorem stack_apply (w : Fin 3 → S4x2048.Idx → EReal) (a : Fin 3) (j : Fin 2048) :
    concatenate S12x2048 0 [⟨S4x2048, w 0⟩, ⟨S4x2048, w 1⟩, ⟨S4x2048, w 2⟩] concatenates_S4x2048_S4x2048_S4x2048_S12x2048_d0 (ix2 (line a b) j) = w a (ix2 b j) := by
  have piece (k : ℕ) (hk : k < 3) (pre : ℕ)
      (hpre : ((([⟨S4x2048, w 0⟩, ⟨S4x2048, w 1⟩, ⟨S4x2048, w 2⟩] : List ((s : Shape) × (s.Idx → EReal))).take k |>.map (·.1)).map
        fun s => if h : s.rank = S12x2048.rank then s.size ((0 : Fin S12x2048.rank).cast h.symm) else 0).sum = pre)
      (hx : ([⟨S4x2048, w 0⟩, ⟨S4x2048, w 1⟩, ⟨S4x2048, w 2⟩] : List ((s : Shape) × (s.Idx → EReal)))[k] = ⟨S4x2048, w a⟩) (he : pre = a.val * 4) :
      concatenate S12x2048 0 [⟨S4x2048, w 0⟩, ⟨S4x2048, w 1⟩, ⟨S4x2048, w 2⟩] concatenates_S4x2048_S4x2048_S4x2048_S12x2048_d0 (ix2 (line a b) j) = w a (ix2 b j) :=
    concatenate_apply_piece (t := S12x2048) 0 [⟨S4x2048, w 0⟩, ⟨S4x2048, w 1⟩, ⟨S4x2048, w 2⟩] _ _ k hk S4x2048 (w a) hx rfl pre hpre (ix2 b j)
      (fun e he => by
        match e with
        | ⟨0, _⟩ => exact absurd rfl he
        | ⟨1, _⟩ => rfl)
      (by rw [he]; rfl)
  match a with
  | ⟨0, _⟩ => exact piece 0 (by decide) 0 rfl rfl rfl
  | ⟨1, _⟩ => exact piece 1 (by decide) 4 rfl rfl rfl
  | ⟨2, _⟩ => exact piece 2 (by decide) 8 rfl rfl rfl

/-- Three copies of a block, one under the other. -/
theorem copies_apply (w : S4x2048.Idx → EReal) (a : Fin 3) (j : Fin 2048) :
    concatenate S12x2048 0 [⟨S4x2048, w⟩, ⟨S4x2048, w⟩, ⟨S4x2048, w⟩] concatenates_S4x2048_S4x2048_S4x2048_S12x2048_d0 (ix2 (line a b) j) = w (ix2 b j) :=
  stack_apply b (fun _ => w) a j

end

theorem word_eq (p q : ℕ) (hp : p < 2 ^ 32) (hq : q < 2 ^ 32) : IntOp.cmpi .eq (BitVec.ofNat 32 p) (BitVec.ofNat 32 q) = 1#1 ↔ p = q := by
  simp only [IntOp.cmpi, WordCmp.ofBool_eq_one_iff, beq_iff_eq]
  constructor
  · intro h
    have h := congrArg BitVec.toNat h
    simpa only [BitVec.toNat_ofNat, Nat.mod_eq_of_lt hp, Nat.mod_eq_of_lt hq] using h
  · intro h; rw [h]

/-! ## One trip -/

section
variable (x0 : FVec Ideal S12x2048 .f32)

/-- The coordinates of cloud `b`. -/
def cloud (b : Fin 4) : Fin 3 → Fin 2048 → EReal := fun a p => x0 (ix2 (line a b) p)

variable (d : FVec Ideal S4x2048 .f32) (L : FVec Ideal S12x1 .f32) (b : Fin 4) (s : (Fin 2048 → EReal) × Fin 2048)

theorem pay1_eq : k0_pay1 x0 = x0 := shapeCast_self _ _

/-- The squared differences to the chosen point, at one coordinate. -/
theorem square_apply (a : Fin 3) (off : Fin 2 → ℕ) (hoff : off = ![a.val * 4, 0]) (h : Shape.Slices S12x2048 off S4x2048) (j : Fin 2048) :
    extractStridedSlice S4x2048 off (mulf (subf (k0_pay1 x0) (broadcastTo S12x2048 L broadcasts_S12x1_S12x2048))
      (subf (k0_pay1 x0) (broadcastTo S12x2048 L broadcasts_S12x1_S12x2048)) : FVec Ideal S12x2048 .f32) h (ix2 b j)
      = (x0 (ix2 (line a b) j) - L (ix2 (line a b) 0)) * (x0 (ix2 (line a b) j) - L (ix2 (line a b) 0)) := by
  subst hoff
  refine Eq.trans (congrArg (mulf (subf (k0_pay1 x0) (broadcastTo S12x2048 L broadcasts_S12x1_S12x2048))
      (subf (k0_pay1 x0) (broadcastTo S12x2048 L broadcasts_S12x1_S12x2048)) : FVec Ideal S12x2048 .f32) (?_ : _ = ix2 (line a b) j)) ?_
  · funext e; apply Fin.ext
    match e with
    | ⟨0, _⟩ => rfl
    | ⟨1, _⟩ => exact Nat.zero_add _
  · show (k0_pay1 x0 (ix2 (line a b) j) - broadcastTo S12x2048 L _ (ix2 (line a b) j)) * (k0_pay1 x0 (ix2 (line a b) j) - broadcastTo S12x2048 L _ (ix2 (line a b) j)) = (_ : EReal)
    rw [pay1_eq, line_spread]

/-- The new distances. -/
theorem pay5_apply (hd : ∀ p, d (ix2 b p) = s.1 p) (hL : ∀ a, L (ix2 (line a b) 0) = cloud x0 b a s.2) (j : Fin 2048) :
    k0_pay5 x0 d L (ix2 b j) = nearer (cloud x0 b) s j := by
  have e0 := square_apply x0 L b 0 ![0, 0] rfl slices_S12x2048_o0_0_S4x2048 j
  have e1 := square_apply x0 L b 1 ![4, 0] rfl slices_S12x2048_o4_0_S4x2048 j
  have e2 := square_apply x0 L b 2 ![8, 0] rfl slices_S12x2048_o8_0_S4x2048 j
  rw [hL] at e0 e1 e2
  exact congrArg₂ (fun x y : EReal => min x y) (hd j) (congrArg₂ (fun x y : EReal => x + y) (congrArg₂ (fun x y : EReal => x + y) e0 e1) e2)

/-- The point chosen, for any distances. -/
theorem pay6_apply : k0_pay6 x0 d L (ix2 b 0) = BitVec.ofNat 32 (peak fun p => k0_pay5 x0 d L (ix2 b p)).val := by
  unfold k0_pay6
  generalize k0_pay5 x0 d L = D
  have hm (j : Fin 2048) : broadcastTo S4x2048 (shapeCast S4x1 (multiReduction .maximumf [1] S4 D 0xFF800000#32 reduces_S4x2048_S4 (.inl rfl) rfl)
      shapeCasts_S4_S4x1) broadcasts_S4x1_S4x2048 (ix2 b j) = D (ix2 b (peak fun p => D (ix2 b p))) := by
    rw [row_spread, row_column]
    refine (multiReduction_maximumf_eq_fold D _ reduces_S4x2048_S4 (.inl rfl) rfl (ix1 b)).trans ?_
    rw [Shape.Reduces.fold_filter_drop_single]
    refine Eq.trans ?_ (fold_max_eq fun p => D (ix2 b p))
    refine congrArg (Finset.fold _ _ · _) (funext fun l => ?_)
    exact congrArg D (row_lift b l)
  have hh (j : Fin 2048) : select (cmpf .oeq D (broadcastTo S4x2048 (shapeCast S4x1 (multiReduction .maximumf [1] S4 D 0xFF800000#32 reduces_S4x2048_S4
        (.inl rfl) rfl) shapeCasts_S4_S4x1) broadcasts_S4x1_S4x2048)) (iota .tc S4x2048 32 [1] iota_S4x2048_d1_w32) (broadcast S4x2048 2048#32) (ix2 b j)
      = BitVec.ofNat 32 (if D (ix2 b j) = D (ix2 b (peak fun p => D (ix2 b p))) then j.val else 2048) := by
    rw [select_apply, number_apply]
    show (if Ideal.cmp .oeq (D (ix2 b j)) (broadcastTo S4x2048 _ broadcasts_S4x1_S4x2048 (ix2 b j)) = 1#1 then _ else _) = _
    rw [hm]
    by_cases h : D (ix2 b j) = D (ix2 b (peak fun p => D (ix2 b p)))
    · rw [if_pos h, if_pos (by simp [Ideal.cmp, h])]
    · rw [if_neg h, if_neg (by simp [Ideal.cmp, h])]; rfl
  refine (row_column b _).trans ?_
  refine (multiReductionI_eq_fold .minsi _ _ reduces_S4x2048_S4 rfl (ix1 b)).trans ?_
  rw [Shape.Reduces.fold_filter_drop_single]
  refine Eq.trans ?_ (Rounds.fold_minsi_eq
    (fun j : Fin 2048 => if D (ix2 b j) = D (ix2 b (peak fun p => D (ix2 b p))) then j.val else 2048)
    (fun j => by have := j.isLt; split <;> omega) _ ⟨peak fun p => D (ix2 b p), if_pos rfl⟩ fun j => ?_)
  · refine congrArg (Finset.fold _ _ · _) (funext fun l => ?_)
    exact (congrArg _ (row_lift b l)).trans (hh l)
  · by_cases h : D (ix2 b j) = D (ix2 b (peak fun p => D (ix2 b p)))
    · rw [if_pos h]; exact Fin.le_def.mp (peak_first (fun p => D (ix2 b p)) j h)
    · rw [if_neg h]; exact (peak fun p => D (ix2 b p)).isLt.le

/-- Its coordinates. -/
theorem pay8_apply (a : Fin 3) : k0_pay8 x0 d L (ix2 (line a b) 0) = cloud x0 b a (peak fun p => k0_pay5 x0 d L (ix2 b p)) := by
  unfold k0_pay8
  refine (line_column _ _).trans ?_
  refine (Ideal.multiReduction_add_single _ _ reduces_S12x2048_S12 (.inl rfl) rfl (ix1 (line a b))).trans ?_
  have hv (j : Fin 2048) : select (cmpi .eq (iota .tc S4x2048 32 [1] iota_S4x2048_d1_w32) (broadcastTo S4x2048 (k0_pay6 x0 d L) broadcasts_S4x1_S4x2048))
      (broadcast S4x2048 (Scalar.ofBits (F := Ideal) .f32 0x3F800000#32)) (broadcast S4x2048 (Scalar.ofBits (F := Ideal) .f32 0x00000000#32)) (ix2 b j)
      = if j = (peak fun p => k0_pay5 x0 d L (ix2 b p)) then (1 : EReal) else 0 := by
    rw [select_apply]
    show (if IntOp.cmpi .eq (iota .tc S4x2048 32 [1] iota_S4x2048_d1_w32 (ix2 b j)) (broadcastTo S4x2048 (k0_pay6 x0 d L) broadcasts_S4x1_S4x2048 (ix2 b j)) = 1#1
      then Ideal.ofBits .f32 0x3F800000#32 else Ideal.ofBits .f32 0x00000000#32) = _
    rw [row_spread, pay6_apply, number_apply, Ideal.ofBits_zero_f32, show Ideal.ofBits .f32 0x3F800000#32 = (1 : EReal) from Ideal.ofBits_one_f32]
    refine if_congr ((word_eq _ _ (by have := j.isLt; omega) (by have := (peak fun p => k0_pay5 x0 d L (ix2 b p)).isLt; omega)).trans Fin.ext_iff.symm) rfl rfl
  refine (Finset.sum_congr rfl fun k _ => (congrArg _ (line_lift (line a b) k)).trans
    (congrArg₂ (fun x y : EReal => x * y) (congrFun (pay1_eq x0) _) ((copies_apply b _ a k).trans (hv k)))).trans ?_
  refine (Finset.sum_eq_single (peak fun p => k0_pay5 x0 d L (ix2 b p)) (fun j _ hj => ?_) fun h => absurd (Finset.mem_univ _) h).trans ?_
  · show x0 (ix2 (line a b) j) * (if j = _ then (1 : EReal) else 0) = 0
    rw [if_neg hj, mul_zero]
  · show x0 (ix2 (line a b) _) * (if _ = _ then (1 : EReal) else 0) = _
    rw [if_pos rfl, mul_one]; rfl

/-- The slots, the trip's own filled. -/
theorem pay7_apply (t : Fin k0_t1_loop.trips) (z : IVec S4x512 32) (j : Fin 512) : k0_pay7 x0 t d L z (ix2 b j)
    = if j.val = t.val + 1 then BitVec.ofNat 32 (peak fun p => k0_pay5 x0 d L (ix2 b p)).val else z (ix2 b j) := by
  unfold k0_pay7
  have ht : t.val < 511 := t.isLt
  have hi : Scf.iv 1#32 1#32 t.val = BitVec.ofNat 32 (t.val + 1) := by
    unfold Scf.iv
    apply BitVec.eq_of_toNat_eq
    simp
    omega
  show select _ _ _ (ix2 b j) = _
  rw [select_apply, slot_spread, shapeCast_self, pay6_apply]
  show (if IntOp.cmpi .eq (iota .tc S4x512 32 [1] iota_S4x512_d1_w32 (ix2 b j)) (Scf.iv 1#32 1#32 t.val) = 1#1 then _ else _) = _
  rw [slot_apply, hi]
  exact if_congr (word_eq _ _ (by have := j.isLt; omega) (by omega)) rfl rfl

end

end Cert.Farthest

end
-- ==== Proof.FarBlock.lean ====
/- The farthest-point call's result array from its argument. -/
module

public import proofs.«01_k».proof.Proof.FarKernel
public import Idealize.ShloMosaic.Lib.Pipeline.ValueKit
public import Idealize.ShloMosaic.Lib.VecWindow

@[expose] public section

noncomputable section

namespace Cert.Farthest

open Cert.FrontIdeal Cert.FrontIdeal.Gen Idealize.ShloMosaic.TcCoe Idealize.ShloMosaic.ValueIdx Idealize.SL.Sem
open Idealize.ShloMosaic hiding ix1 ix2 ix3 ix4

/-! ## The trips -/

/-- What holds before the first trip and after each holds after all of them. -/
theorem foldl_keeps {σ : Type} (P : ℕ → σ → Prop) : ∀ (n : ℕ) (g : Fin n → σ → σ) (s : σ), P 0 s → (∀ (k : Fin n) (u : σ), P k.val u → P (k.val + 1) (g k u)) →
    P n ((List.finRange n).foldl (fun u k => g k u) s)
  | 0, _, _, h, _ => h
  | n + 1, g, s, h, hs => by
    rw [List.finRange_succ_last, List.foldl_append, List.foldl_map]
    exact hs (Fin.last n) _ (foldl_keeps P n (fun k => g k.castSucc) s h fun k u hu => hs k.castSucc u hu)

/-- A trip's carried values: the distances, the chosen point's coordinates, the slots. -/
abbrev Carried : Type := FVec Ideal S4x2048 .f32 × FVec Ideal S12x1 .f32 × IVec S4x512 32

/-- One trip. -/
def trip (x0 : FVec Ideal S12x2048 .f32) (t : Fin k0_t1_loop.trips) (u : Carried) : Carried :=
  (k0_pay5 x0 u.1 u.2.1, k0_pay8 x0 u.1 u.2.1, k0_pay7 x0 t u.1 u.2.1 u.2.2)

/-- What is carried after `k` trips. -/
def Carries (x0 : FVec Ideal S12x2048 .f32) (k : ℕ) (u : Carried) : Prop :=
  (∀ b p, u.1 (ix2 b p) = (state (cloud x0 b) k).1 p) ∧ (∀ a b, u.2.1 (ix2 (line a b) 0) = cloud x0 b a (chosen (cloud x0 b) k))
    ∧ ∀ (b : Fin 4) (j : Fin 512), u.2.2 (ix2 b j) = if j.val ≤ k then BitVec.ofNat 32 (chosen (cloud x0 b) j.val).val else 0#32

theorem carries_zero (x0 : FVec Ideal S12x2048 .f32) : Carries x0 0 (k0_pay3, k0_pay2 x0, k0_pay4) := by
  refine ⟨fun b p => rfl, fun a b => ?_, fun b j => ?_⟩
  · show extractStridedSlice S12x1 ![0, 0] (k0_pay1 (F := Ideal) x0) slices_S12x2048_o0_0_S12x1 (ix2 (line a b) 0) = _
    rw [pay1_eq]
    refine congrArg x0 (funext fun e => Fin.ext ?_)
    match e with
    | ⟨0, _⟩ => exact Nat.zero_add _
    | ⟨1, _⟩ => rfl
  · show 0#32 = _
    by_cases h : j.val ≤ 0
    · rw [if_pos h, Nat.le_zero.mp h]; rfl
    · rw [if_neg h]

theorem carries_succ (x0 : FVec Ideal S12x2048 .f32) (k : Fin k0_t1_loop.trips) (u : Carried) (h : Carries x0 k.val u) :
    Carries x0 (k.val + 1) (trip x0 k u) := by
  obtain ⟨hd, hl, hz⟩ := h
  have h5 (b : Fin 4) (p : Fin 2048) : k0_pay5 x0 u.1 u.2.1 (ix2 b p) = (state (cloud x0 b) (k.val + 1)).1 p := by
    rw [state_succ]
    exact pay5_apply x0 u.1 u.2.1 b (state (cloud x0 b) k.val) (hd b) (fun a => hl a b) p
  have hp (b : Fin 4) : (peak fun p => k0_pay5 x0 u.1 u.2.1 (ix2 b p)) = chosen (cloud x0 b) (k.val + 1) := by
    rw [chosen_succ]
    exact congrArg peak (funext (h5 b))
  refine ⟨h5, fun a b => ?_, fun b j => ?_⟩
  · exact (pay8_apply x0 u.1 u.2.1 b a).trans (congrArg (cloud x0 b a) (hp b))
  · refine (pay7_apply x0 u.1 u.2.1 b k u.2.2 j).trans ?_
    rw [hp, hz b j]
    generalize hc : k.val = n
    by_cases e : j.val = n + 1
    · rw [if_pos e, if_pos e.le, e]
    · rw [if_neg e]
      exact if_congr (by omega) rfl rfl

theorem carries (x0 : FVec Ideal S12x2048 .f32) :
    Carries x0 511 (Scf.fold (n := k0_t1_loop.trips) (trip x0) (k0_pay3, k0_pay2 x0, k0_pay4)) := by
  rw [Scf.fold_eq]
  exact foldl_keeps (Carries x0) k0_t1_loop.trips (trip x0) _ (carries_zero x0) (carries_succ x0)

/-! ## The block -/

variable (c : Dev nD) (arg0 : Memref sig .tc .vmem S12x2048 .f32) (harg0 : arg0.IsWhole) (arg1 : Memref sig .tc .vmem S4x512 .i32) (harg1 : arg1.IsWhole)

theorem block_eq (x0 : FVec Ideal S12x2048 .f32) : out0_A_1 (F := Ideal) c arg0 harg0 arg1 harg1 x0
    = (Scf.fold (n := k0_t1_loop.trips) (trip x0) (k0_pay3, k0_pay2 x0, k0_pay4)).2.2 := by
  have e : arg0.view.readAt (Elt Ideal) (Rect.unit (s := S12x2048) ![0, 0] S12x2048.size inb_S12x2048_S12x2048_0_0).toLoadRect (harg0.unread x0) = x0 :=
    (View.readAt_full arg0.view _ inb_S12x2048_S12x2048_0_0).trans (harg0.read_unread _)
  refine (View.read_writes_full VO0_1 VO0_1.junk inb_S4x512_S4x512_0_0 _ []).trans (Eq.trans ?_ (congrArg (fun x => (Scf.fold (n := k0_t1_loop.trips) (trip x) (k0_pay3, k0_pay2 x, k0_pay4)).2.2) e))
  rfl

theorem block_apply (x0 : FVec Ideal S12x2048 .f32) (b : Fin 4) (j : Fin 512) : out0_A_1 (F := Ideal) c arg0 harg0 arg1 harg1 x0 (ix2 b j)
    = BitVec.ofNat 32 (chosen (cloud x0 b) j.val).val := by
  rw [block_eq]
  refine ((carries x0).2.2 b j).trans (if_pos ?_)
  have := j.isLt; omega

end Cert.Farthest

end
-- ==== Proof.FarArray.lean ====
/- The farthest-point call's argument as the kernel finds it, and its result array. -/
module

public import proofs.«01_k».proof.Proof.FarBlock

@[expose] public section

noncomputable section

namespace Cert.Farthest

open Cert.FrontIdeal Cert.FrontIdeal.Gen Idealize.ShloMosaic.TcCoe Idealize.ShloMosaic.ValueIdx Idealize.SL.Sem
open Idealize.ShloMosaic hiding ix1 ix2 ix3 ix4

/-- The coordinates of cloud `b` of the positions. -/
def spread (pos : S4x2048x3.Idx → EReal) (b : Fin 4) : Fin 3 → Fin 2048 → EReal := fun a p => pos (ix3 b p a)

/-- One coordinate of all clouds, cut out of the positions. -/
theorem cut_apply (pos : S4x2048x3.Idx → EReal) (a : Fin 3) (off : Fin 3 → ℕ) (hoff : off = ![0, a.val, 0]) (h : S4x3x2048.Slices off S4x1x2048)
    (b : Fin 4) (p : Fin 2048) :
    shapeCast S4x2048 (extractStridedSlice S4x1x2048 off (transpose S4x3x2048 [0, 2, 1] pos transposes_S4x2048x3_S4x3x2048_0_2_1) h)
      shapeCasts_S4x1x2048_S4x2048 (ix2 b p) = spread pos b a p := by
  subst hoff
  refine (shapeCast_apply _ _ _ (ix3 b 0 p) ?_).trans ?_
  · rw [Shape.rowMajor_val_three, Shape.rowMajor_val_two]
    show (b.val * 1 + 0) * 2048 + p.val = b.val * 2048 + p.val
    omega
  · refine congrArg pos (funext fun e => Fin.ext ?_)
    match e with
    | ⟨0, _⟩ => exact Nat.zero_add _
    | ⟨1, _⟩ => exact Nat.zero_add _
    | ⟨2, _⟩ => rfl

variable (m : (ℓ : Loc nD τ sig) → Buf (Elt Ideal) ℓ) (ρ : Dev nD → PrngReg) (c : Dev nD) (t : Fin cfg0.N)

/-- The argument's values. -/
def positions : S4x2048x3.Idx → EReal := m ((c : Thread nD τ).loc main_arg1)

/-- The kernel finds the coordinates row by row. -/
theorem found_rows (a : Fin 3) (b : Fin 4) (p : Fin 2048) : W1 m ρ c (Proc.devRef .tc main_v7) (ix2 (line a b) p) = spread (positions m c) b a p := by
  have ev : W1 m ρ c (Proc.devRef .tc main_v7) = concatenate S12x2048 0
      [⟨S4x2048, shapeCast S4x2048 (extractStridedSlice S4x1x2048 ![0, 0, 0] (transpose S4x3x2048 [0, 2, 1] (positions m c) transposes_S4x2048x3_S4x3x2048_0_2_1)
          slices_S4x3x2048_S4x1x2048_0_0_0) shapeCasts_S4x1x2048_S4x2048⟩,
        ⟨S4x2048, shapeCast S4x2048 (extractStridedSlice S4x1x2048 ![0, 1, 0] (transpose S4x3x2048 [0, 2, 1] (positions m c) transposes_S4x2048x3_S4x3x2048_0_2_1)
          slices_S4x3x2048_S4x1x2048_0_1_0) shapeCasts_S4x1x2048_S4x2048⟩,
        ⟨S4x2048, shapeCast S4x2048 (extractStridedSlice S4x1x2048 ![0, 2, 0] (transpose S4x3x2048 [0, 2, 1] (positions m c) transposes_S4x2048x3_S4x3x2048_0_2_1)
          slices_S4x3x2048_S4x1x2048_0_2_0) shapeCasts_S4x1x2048_S4x2048⟩]
      concatenates_S4x2048_S4x2048_S4x2048_S12x2048_d0 := by
    simp only [W1, hostOps0]
    after_results_simp <;> rfl
  rw [ev]
  refine (stack_apply b ![_, _, _] a p).trans ?_
  match a with
  | ⟨0, _⟩ => exact cut_apply _ 0 _ rfl slices_S4x3x2048_S4x1x2048_0_0_0 b p
  | ⟨1, _⟩ => exact cut_apply _ 1 _ rfl slices_S4x3x2048_S4x1x2048_0_1_0 b p
  | ⟨2, _⟩ => exact cut_apply _ 2 _ rfl slices_S4x3x2048_S4x1x2048_0_2_0 b p

theorem at_in : ∀ t : Fin cfg0.N, win0_0.index t = ![0, 0] := by decide +kernel
theorem at_out : ∀ t : Fin cfg0.N, win0_1.index t = ![0, 0] := by decide +kernel

theorem iblk_rows (r : Fin 12) (p : Fin 2048) : iblk0 (V1 m ρ) c 0 t (ix2 r p) = W1 m ρ c (Proc.devRef .tc main_v7) (ix2 r p) := by
  unfold iblk0
  refine congrArg (W1 m ρ c (Proc.devRef .tc main_v7)) (funext fun a => Fin.ext ?_)
  fin_cases a <;> blk_simp [at_in] <;> first | rfl | simp

theorem cloud_eq (b : Fin 4) : cloud (iblk0 (V1 m ρ) c 0 t) b = spread (positions m c) b :=
  funext fun a => funext fun p => (iblk_rows m ρ c t (line a b) p).trans (found_rows m ρ c a b p)

/-- The points chosen. -/
def picked (pos : S4x2048x3.Idx → EReal) : S4x512.Idx → BitVec 32 := fun y => BitVec.ofNat 32 (chosen (spread pos (y 0)) (y 1).val).val

/-- The result array holds them. -/
theorem array1 : (dat0 (V1 m ρ) c).arrAt 1 cfg0.N = picked (positions m c) := by
  refine (dat0 (V1 m ρ) c).arrAt_eq_of_covers 1 _ (by decide +kernel) fun t hf y => ?_
  obtain ⟨b, j, rfl⟩ : ∃ (b : Fin 4) (j : Fin 512), y = ix2 b j :=
    ⟨⟨(y 0).val, (y 0).isLt⟩, ⟨(y 1).val, (y 1).isLt⟩, funext fun a => Fin.ext (by fin_cases a <;> rfl)⟩
  blk_simp
  rw [after0_1]
  have hi : ((cfg0.win 1).blk t).view.emb (ix2 b j) = ix2 b j := by
    refine funext fun a => Fin.ext ?_
    fin_cases a <;> blk_simp [at_out] <;> first | rfl | simp
  refine (block_apply c _ _ _ _ (iblk0 (V1 m ρ) c 0 t) b j).trans (Eq.trans ?_ (congrArg (picked (positions m c)) hi.symm))
  rw [cloud_eq]
  rfl

end Cert.Farthest

end
-- ==== Proof.Points.lean ====
/- The nearest-neighbour call's windows at coordinates, and its result arrays from its arguments. -/
module

public import proofs.«01_k».proof.Proof.Clouds
public import proofs.«01_k».proof.Proof.FarArray
public import Idealize.ShloMosaic.Lib.Pipeline.ValueKit
public import Idealize.ShloMosaic.Lib.Routing.OpsSet

@[expose] public section

noncomputable section

namespace Cert.Cloud

open Cert.FrontIdeal Cert.FrontIdeal.Gen Idealize.ShloMosaic.TcCoe Idealize.ShloMosaic.ValueIdx Idealize.SL.Sem
open Idealize.ShloMosaic hiding ix1 ix2 ix3 ix4
open Cert.Rows (IsReal)

/-- Point `t` works on cloud `t`. -/
def bOf (t : Fin cfg1.N) : Fin 4 := ⟨t.val, by have := t.isLt; simp [Pipeline.Grid.N] at this; omega⟩

theorem at_0 : ∀ t : Fin cfg1.N, win1_0.index t = ![t.val, 0, 0] := by decide +kernel
theorem at_1 : ∀ t : Fin cfg1.N, win1_1.index t = ![t.val, 0, 0] := by decide +kernel
theorem at_2 : ∀ t : Fin cfg1.N, win1_2.index t = ![t.val, 0, 0] := by decide +kernel
theorem at_3 : ∀ t : Fin cfg1.N, win1_3.index t = ![t.val, 0, 0] := by decide +kernel
theorem at_4 : ∀ t : Fin cfg1.N, win1_4.index t = ![0, 0] := by decide +kernel
theorem at_5 : ∀ t : Fin cfg1.N, win1_5.index t = ![0, 0] := by decide +kernel
theorem at_6 : ∀ t : Fin cfg1.N, win1_6.index t = ![0, 0] := by decide +kernel
theorem at_7 : ∀ t : Fin cfg1.N, win1_7.index t = ![t.val, 0, 0] := by decide +kernel
theorem at_8 : ∀ t : Fin cfg1.N, win1_8.index t = ![t.val, 0, 0] := by decide +kernel
theorem at_9 : ∀ t : Fin cfg1.N, win1_9.index t = ![t.val, 0, 0] := by decide +kernel
theorem at_10 : ∀ t : Fin cfg1.N, win1_10.index t = ![t.val, 0, 0, 0] := by decide +kernel
theorem coord_0 : ∀ t : Fin cfg1.N, (grid1.coords t 0).val = t.val := by decide +kernel

variable (m : (ℓ : Loc nD τ sig) → Buf (Elt Ideal) ℓ) (ρ : Dev nD → PrngReg) (c : Dev nD) (t : Fin cfg1.N)

/-! ## What the call finds -/

theorem found_arg (a : Ref sig .tc) (ha : a ∈ argRefs) : W3 m ρ c (Proc.devRef .tc a) = m ((c : Thread nD τ).loc a) := W3_args m ρ c a ha

theorem found_v0 (b : Fin 4) (a : Fin 3) (l : Fin 2048) :
    W3 m ρ c (Proc.devRef .tc main_v0) (ix3 b a l) = m ((c : Thread nD τ).loc main_arg1) (ix3 b l a) := by
  have ev : W3 m ρ c (Proc.devRef .tc main_v0)
      = transpose S4x3x2048 [0, 2, 1] (m ((c : Thread nD τ).loc main_arg1) : S4x2048x3.Idx → EReal) transposes_S4x2048x3_S4x3x2048_0_2_1 := by
    rw [W3_of m ρ c main_v0 (by decide), W2_of m ρ c main_v0 (by decide)]
    simp only [W1, hostOps0]
    after_results_simp <;> rfl
  rw [ev]
  refine congrArg (m ((c : Thread nD τ).loc main_arg1)) (funext fun e => Fin.ext ?_)
  match e with
  | ⟨0, _⟩ => rfl
  | ⟨1, _⟩ => rfl
  | ⟨2, _⟩ => rfl

theorem found_v10 (k : Fin 128) (l : Fin 256) :
    W3 m ρ c (Proc.devRef .tc main_v10) (ix2 k l) = m ((c : Thread nD τ).loc main_arg2) (ix2 ⟨k.val, by omega⟩ l) := by
  have ev : W3 m ρ c (Proc.devRef .tc main_v10)
      = extractStridedSlice S128x256 ![0, 0] (W2 m ρ c (Proc.devRef .tc main_arg2) : S131x256.Idx → EReal) slices_S131x256_S128x256_0_0 := by
    simp only [W3, hostOps1]
    after_results_simp <;> rfl
  rw [ev, W2_args m ρ c main_arg2 (by decide)]
  refine congrArg (m ((c : Thread nD τ).loc main_arg2)) (funext fun e => Fin.ext ?_)
  match e with
  | ⟨0, _⟩ => exact Nat.zero_add _
  | ⟨1, _⟩ => exact Nat.zero_add _

theorem found_v15 (l : Fin 256) : W3 m ρ c (Proc.devRef .tc main_v15) (ix2 0 l) = m ((c : Thread nD τ).loc main_arg3) (ix1 l) := by
  have ev : W3 m ρ c (Proc.devRef .tc main_v15) = shapeCast S1x256 (W2 m ρ c (Proc.devRef .tc main_arg3) : S256.Idx → EReal) shapeCasts_S256_S1x256 := by
    simp only [W3, hostOps1]
    after_results_simp <;> rfl
  rw [ev, W2_args m ρ c main_arg3 (by decide)]
  exact shapeCast_a_1a_apply (m ((c : Thread nD τ).loc main_arg3) : S256.Idx → EReal) shapeCasts_S256_S1x256 0 l

/-- The centres the second call finds are the points chosen by the first. -/
theorem found_v9 (b : Fin 4) (q : Fin 512) : W3 m ρ c (Proc.devRef .tc main_v9) (ix3 b q 0) = Farthest.picked (Farthest.positions m c) (ix2 b q) := by
  have ev : W3 m ρ c (Proc.devRef .tc main_v9) = shapeCast S4x512x1 (W2 m ρ c (Proc.devRef .tc main_v8) : S4x512.Idx → BitVec 32) shapeCasts_S4x512_S4x512x1 := by
    simp only [W3, hostOps1]
    after_results_simp <;> rfl
  have e8 : W2 m ρ c (Proc.devRef .tc main_v8) = Farthest.picked (Farthest.positions m c) := (W2_arr m ρ c 1).trans (Farthest.array1 m ρ c)
  rw [ev, e8]
  refine shapeCast_apply _ _ _ _ ?_
  show (S4x512.rowMajor (ix2 b q)).val = _
  rw [Shape.rowMajor_val_two, Shape.rowMajor_val_three]
  show b.val * 512 + q.val = (b.val * 512 + q.val) * 1 + 0
  omega

/-- Update (k, l) of the weight's last rows lands at row `k`, column `l`. -/
theorem lands (idx : IVec S1 32) (h : idx (ix1 0) = 0#32) (k : Fin 3) (l : Fin 256) (y : S8x256.Idx) :
    scatter_S8x256_S1_S3x256_01_n_0_0.resultIdx? (ix2 k l) idx = some y ↔ (y 0).val = k.val ∧ (y 1).val = l.val := by
  rw [Routing.resultIdx?_eq_some]
  have s0 : scatter_S8x256_S1_S3x256_01_n_0_0.start (ix2 k l) idx 0 = 0 := by
    unfold ScatterDims.start
    rw [dif_pos (show (0 : Fin 2) ∈ (scatter_S8x256_S1_S3x256_01_n_0_0).scatterDimsToOperandDims from List.mem_singleton.mpr rfl)]
    refine Eq.trans (congrArg (fun j => (idx j).toInt) (?_ : _ = ix1 0)) (by rw [h]; rfl)
    funext e; refine Fin.ext ?_
    match e with
    | ⟨0, _⟩ => rfl
  have s1 : scatter_S8x256_S1_S3x256_01_n_0_0.start (ix2 k l) idx 1 = 0 := by
    unfold ScatterDims.start
    exact dif_neg (by decide)
  have w0 : scatter_S8x256_S1_S3x256_01_n_0_0.window (ix2 k l) 0 = k.val := rfl
  have w1 : scatter_S8x256_S1_S3x256_01_n_0_0.window (ix2 k l) 1 = l.val := rfl
  constructor
  · intro e
    have e0 := e 0; have e1 := e 1
    rw [s0, w0] at e0; rw [s1, w1] at e1
    omega
  · rintro ⟨e0, e1⟩ a
    match a with
    | ⟨0, _⟩ => show scatter_S8x256_S1_S3x256_01_n_0_0.start (ix2 k l) idx 0 + (scatter_S8x256_S1_S3x256_01_n_0_0.window (ix2 k l) 0 : ℤ) = ((y 0).val : ℤ); rw [s0, w0]; omega
    | ⟨1, _⟩ => show scatter_S8x256_S1_S3x256_01_n_0_0.start (ix2 k l) idx 1 + (scatter_S8x256_S1_S3x256_01_n_0_0.window (ix2 k l) 1 : ℤ) = ((y 1).val : ℤ); rw [s1, w1]; omega

theorem found_v14 (k : Fin 3) (l : Fin 256) : W3 m ρ c (Proc.devRef .tc main_v14) (ix2 ⟨k.val, by omega⟩ l) = m ((c : Thread nD τ).loc main_arg2) (ix2 ⟨128 + k.val, by omega⟩ l) := by
  have ev : W3 m ρ c (Proc.devRef .tc main_v14) = Host.scatter scatter_S8x256_S1_S3x256_01_n_0_0 (fun _ b => b)
      (broadcastInDim S8x256 ![] bcast_S_S8x256 (constant S_ .f32 0x00000000#32 : FVec Ideal S_ .f32)) (broadcastInDim S1 ![] bcast_S_S1 (constantI S_ 32 0#32))
      (extractStridedSlice S3x256 ![128, 0] (W2 m ρ c (Proc.devRef .tc main_arg2) : S131x256.Idx → EReal) slices_S131x256_S3x256_128_0) := by
    simp only [W3, hostOps1]
    after_results_simp <;> rfl
  rw [ev, W2_args m ρ c main_arg2 (by decide)]
  have e (u : S3x256.Idx) : ∃ (k' : Fin 3) (l' : Fin 256), u = ix2 k' l' := ⟨u 0, u 1, by
    funext a; apply Fin.ext
    match a with
    | ⟨0, _⟩ => rfl
    | ⟨1, _⟩ => rfl⟩
  refine Routing.scatter_set_hit _ _ _ _ _ _ (fun u hu => ?_) (ix2 k l) ((lands _ rfl k l _).mpr ⟨rfl, rfl⟩)
  obtain ⟨k', l', rfl⟩ := e u
  obtain ⟨h0, h1⟩ := (lands _ rfl k' l' _).mp hu
  obtain rfl : k' = k := Fin.ext h0.symm
  obtain rfl : l' = l := Fin.ext h1.symm
  refine congrArg (m ((c : Thread nD τ).loc main_arg2)) (funext fun e => Fin.ext ?_)
  match e with
  | ⟨0, _⟩ => rfl
  | ⟨1, _⟩ => exact Nat.zero_add _

/-! ## The windows' blocks -/

theorem iblk_0 (a : Fin 3) (l : Fin 2048) : iblk1 (V3 m ρ) c 0 t (ix3 0 a l) = m ((c : Thread nD τ).loc main_arg1) (ix3 (bOf t) l a) := by
  rw [← found_v0 m ρ c]
  unfold iblk1
  refine congrArg (W3 m ρ c (Proc.devRef .tc main_v0)) (funext fun a => Fin.ext ?_)
  fin_cases a <;> blk_simp [at_0] <;> first | rfl | simp [bOf]

theorem iblk_1 (j : Fin 2048) (a : Fin 3) : iblk1 (V3 m ρ) c 1 t (ix3 0 j a) = m ((c : Thread nD τ).loc main_arg1) (ix3 (bOf t) j a) := by
  rw [← found_arg m ρ c main_arg1 (by decide)]
  unfold iblk1
  refine congrArg (W3 m ρ c (Proc.devRef .tc main_arg1)) (funext fun a => Fin.ext ?_)
  fin_cases a <;> blk_simp [at_1] <;> first | rfl | simp [bOf]

theorem iblk_2 (j : Fin 2048) (k : Fin 128) : iblk1 (V3 m ρ) c 2 t (ix3 0 j k) = m ((c : Thread nD τ).loc main_arg0) (ix3 (bOf t) j k) := by
  rw [← found_arg m ρ c main_arg0 (by decide)]
  unfold iblk1
  refine congrArg (W3 m ρ c (Proc.devRef .tc main_arg0)) (funext fun a => Fin.ext ?_)
  fin_cases a <;> blk_simp [at_2] <;> first | rfl | simp [bOf]

theorem iblk_3 (q : Fin 512) : iblk1 (V3 m ρ) c 3 t (ix3 0 q 0) = Farthest.picked (Farthest.positions m c) (ix2 (bOf t) q) := by
  rw [← found_v9 m ρ c]
  unfold iblk1
  refine congrArg (W3 m ρ c (Proc.devRef .tc main_v9)) (funext fun a => Fin.ext ?_)
  fin_cases a <;> blk_simp [at_3] <;> first | rfl | simp [bOf]

theorem iblk_4 (k : Fin 128) (l : Fin 256) : iblk1 (V3 m ρ) c 4 t (ix2 k l) = m ((c : Thread nD τ).loc main_arg2) (ix2 ⟨k.val, by omega⟩ l) := by
  rw [← found_v10 m ρ c]
  unfold iblk1
  refine congrArg (W3 m ρ c (Proc.devRef .tc main_v10)) (funext fun a => Fin.ext ?_)
  fin_cases a <;> blk_simp [at_4] <;> first | rfl | simp [bOf]

theorem iblk_5 (k : Fin 3) (l : Fin 256) : iblk1 (V3 m ρ) c 5 t (ix2 ⟨k.val, by omega⟩ l) = m ((c : Thread nD τ).loc main_arg2) (ix2 ⟨128 + k.val, by omega⟩ l) := by
  rw [← found_v14 m ρ c]
  unfold iblk1
  refine congrArg (W3 m ρ c (Proc.devRef .tc main_v14)) (funext fun a => Fin.ext ?_)
  fin_cases a <;> blk_simp [at_5] <;> first | rfl | simp [bOf]

theorem iblk_6 (l : Fin 256) : iblk1 (V3 m ρ) c 6 t (ix2 0 l) = m ((c : Thread nD τ).loc main_arg3) (ix1 l) := by
  rw [← found_v15 m ρ c]
  unfold iblk1
  refine congrArg (W3 m ρ c (Proc.devRef .tc main_v15)) (funext fun a => Fin.ext ?_)
  fin_cases a <;> blk_simp [at_6] <;> first | rfl | simp [bOf]

/-! ## The call's results -/

/-- The points' features. -/
abbrev feats : S4x2048x128.Idx → EReal := m ((c : Thread nD τ).loc main_arg0)
/-- The points' positions. -/
abbrev poss : S4x2048x3.Idx → EReal := m ((c : Thread nD τ).loc main_arg1)
/-- The first layer's weight. -/
abbrev wts : S131x256.Idx → EReal := m ((c : Thread nD τ).loc main_arg2)
/-- The first layer's bias. -/
abbrev bias : S256.Idx → EReal := m ((c : Thread nD τ).loc main_arg3)

/-- A point's position against the weight's last three rows. -/
def posRow (x1 : S4x2048x3.Idx → EReal) (x3 : S131x256.Idx → EReal) (b : Fin 4) (j : Fin 2048) (l : Fin 256) : EReal :=
  x1 (ix3 b j 0) * x3 (ix2 128 l) + x1 (ix3 b j 1) * x3 (ix2 129 l) + x1 (ix3 b j 2) * x3 (ix2 130 l)

theorem posTerm_eq (j : Fin 2048) (l : Fin 256) : posTerm (iblk1 (V3 m ρ) c 1 t) (iblk1 (V3 m ρ) c 5 t) j l
    = posRow (poss m c) (wts m c) (bOf t) j l := by
  have h0 := iblk_5 m ρ c t 0 l
  have h1 := iblk_5 m ρ c t 1 l
  have h2 := iblk_5 m ρ c t 2 l
  unfold posTerm posRow
  exact congrArg₂ (fun a b : EReal => a + b) (congrArg₂ (fun a b : EReal => a + b)
    (congrArg₂ (fun a b : EReal => a * b) (iblk_1 m ρ c t j 0) h0) (congrArg₂ (fun a b : EReal => a * b) (iblk_1 m ρ c t j 1) h1))
    (congrArg₂ (fun a b : EReal => a * b) (iblk_1 m ρ c t j 2) h2)

section
/-- The point chosen in slot `q` of cloud `b`. -/
def centre (b : Fin 4) (q : Fin 512) : Fin 2048 := Farthest.chosen (Farthest.spread (poss m c) b) q.val

/-- The centres' numbers. -/
theorem cent_eq (q : Fin 512) : iblk1 (V3 m ρ) c 3 t (ix3 0 q 0) = BitVec.ofNat 32 (centre m c (bOf t) q).val := iblk_3 m ρ c t q

/-- The centres' coordinates. -/
theorem array7 (A : S4x512x128.Idx → EReal) (hA : ∀ (b : Fin 4) (q : Fin 512) (l : Fin 128),
    (if h : l.val < 3 then (poss m c (ix3 b (centre m c b q) ⟨l.val, h⟩) : EReal) else 0) = A (ix3 b q l)) :
    (dat1 (V3 m ρ) c).arrAt 7 cfg1.N = A := by
  refine (dat1 (V3 m ρ) c).arrAt_eq_of_covers 7 _ (by decide +kernel) fun t hf y => ?_
  obtain ⟨u, q, l, rfl⟩ : ∃ (u : Fin 1) (q : Fin 512) (l : Fin 128), y = ix3 u q l :=
    ⟨⟨(y 0).val, (y 0).isLt⟩, ⟨(y 1).val, (y 1).isLt⟩, ⟨(y 2).val, (y 2).isLt⟩, funext fun a => Fin.ext (by fin_cases a <;> rfl)⟩
  obtain rfl : u = 0 := Subsingleton.elim _ _
  blk_simp
  rw [after1_7]
  have hi : ((cfg1.win 7).blk t).view.emb (ix3 (0 : Fin 1) q l) = ix3 (bOf t) q l := by
    refine funext fun a => Fin.ext ?_
    fin_cases a <;> blk_simp [at_7] <;> first | rfl | simp [bOf]
  refine (block7_apply _ _ _ _ _ _ _ _ (centre m c (bOf t)) (cent_eq m ρ c t) q l).trans (Eq.trans ?_ ((hA (bOf t) q l).trans (congrArg A hi.symm)))
  by_cases h : l.val < 3
  · rw [dif_pos h, dif_pos h]; exact iblk_0 m ρ c t _ _
  · rw [dif_neg h, dif_neg h]

/-- The points' first-layer products. -/
theorem array8 (A : S4x2048x256.Idx → EReal) (hA : ∀ (b : Fin 4) (j : Fin 2048) (l : Fin 256),
    (∑ k : Fin 128, (feats m c (ix3 b j k) : EReal) * wts m c (ix2 ⟨k.val, by omega⟩ l))
      + posRow (poss m c) (wts m c) b j l = A (ix3 b j l)) :
    (dat1 (V3 m ρ) c).arrAt 8 cfg1.N = A := by
  refine (dat1 (V3 m ρ) c).arrAt_eq_of_covers 8 _ (by decide +kernel) fun t hf y => ?_
  obtain ⟨u, q, l, rfl⟩ : ∃ (u : Fin 1) (q : Fin 2048) (l : Fin 256), y = ix3 u q l :=
    ⟨⟨(y 0).val, (y 0).isLt⟩, ⟨(y 1).val, (y 1).isLt⟩, ⟨(y 2).val, (y 2).isLt⟩, funext fun a => Fin.ext (by fin_cases a <;> rfl)⟩
  obtain rfl : u = 0 := Subsingleton.elim _ _
  blk_simp
  rw [after1_8]
  have hi : ((cfg1.win 8).blk t).view.emb (ix3 (0 : Fin 1) q l) = ix3 (bOf t) q l := by
    refine funext fun a => Fin.ext ?_
    fin_cases a <;> blk_simp [at_8] <;> first | rfl | simp [bOf]
  refine (block8_apply _ _ _ _ _ _ _ _ q l).trans (Eq.trans ?_ ((hA (bOf t) q l).trans (congrArg A hi.symm)))
  exact congrArg₂ (fun a b : EReal => a + b) (Finset.sum_congr rfl fun k _ => congrArg₂ (fun a b : EReal => a * b) (iblk_2 m ρ c t q k) (iblk_4 m ρ c t k l))
    (posTerm_eq m ρ c t q l)

/-- The bias less the centres' products. -/
theorem array9 (h1 : ∀ y, IsReal (poss m c y))
    (h3 : ∀ (k : Fin 3) (l : Fin 256), IsReal (wts m c (ix2 ⟨128 + k.val, by omega⟩ l)))
    (A : S4x512x256.Idx → EReal) (hA : ∀ (b : Fin 4) (q : Fin 512) (l : Fin 256), (bias m c (ix1 l) : EReal)
      - posRow (poss m c) (wts m c) b (centre m c b q) l = A (ix3 b q l)) :
    (dat1 (V3 m ρ) c).arrAt 9 cfg1.N = A := by
  refine (dat1 (V3 m ρ) c).arrAt_eq_of_covers 9 _ (by decide +kernel) fun t hf y => ?_
  obtain ⟨u, q, l, rfl⟩ : ∃ (u : Fin 1) (q : Fin 512) (l : Fin 256), y = ix3 u q l :=
    ⟨⟨(y 0).val, (y 0).isLt⟩, ⟨(y 1).val, (y 1).isLt⟩, ⟨(y 2).val, (y 2).isLt⟩, funext fun a => Fin.ext (by fin_cases a <;> rfl)⟩
  obtain rfl : u = 0 := Subsingleton.elim _ _
  blk_simp
  rw [after1_9]
  have hi : ((cfg1.win 9).blk t).view.emb (ix3 (0 : Fin 1) q l) = ix3 (bOf t) q l := by
    refine funext fun a => Fin.ext ?_
    fin_cases a <;> blk_simp [at_9] <;> first | rfl | simp [bOf]
  have g1 (y : S1x2048x3.Idx) : IsReal (iblk1 (V3 m ρ) c 1 t y) := by
    obtain ⟨u, j, a, rfl⟩ : ∃ (u : Fin 1) (j : Fin 2048) (a : Fin 3), y = ix3 u j a :=
      ⟨⟨(y 0).val, (y 0).isLt⟩, ⟨(y 1).val, (y 1).isLt⟩, ⟨(y 2).val, (y 2).isLt⟩, funext fun a => Fin.ext (by fin_cases a <;> rfl)⟩
    obtain rfl : u = 0 := Subsingleton.elim _ _
    rw [iblk_1]; exact h1 _
  have g5 (k : Fin 8) (l : Fin 256) (hk : k.val < 3) : IsReal (iblk1 (V3 m ρ) c 5 t (ix2 k l)) := by
    rw [show iblk1 (V3 m ρ) c 5 t (ix2 k l) = _ from iblk_5 m ρ c t ⟨k.val, hk⟩ l]; exact h3 ⟨k.val, hk⟩ l
  refine (block9_apply _ _ _ _ _ _ _ _ (centre m c (bOf t)) (cent_eq m ρ c t) g1 g5 q l).trans (Eq.trans ?_ ((hA (bOf t) q l).trans (congrArg A hi.symm)))
  exact congrArg₂ (fun a b : EReal => a - b) (iblk_6 m ρ c t l) (posTerm_eq m ρ c t _ l)

/-- The neighbours. -/
theorem array10 (A : S4x16x512x1.Idx → BitVec 32) (hA : ∀ (b : Fin 4) (r : Fin 16) (q : Fin 512),
    BitVec.ofNat 32 (Rounds.pick (apart (fun a l => (poss m c (ix3 b l a) : EReal)) (centre m c b q)) r.val).val
      + BitVec.ofNat 32 b.val * 2048#32 = A (ix4 b r q 0)) :
    (dat1 (V3 m ρ) c).arrAt 10 cfg1.N = A := by
  refine (dat1 (V3 m ρ) c).arrAt_eq_of_covers 10 _ (by decide +kernel) fun t hf y => ?_
  obtain ⟨u, r, q, v, rfl⟩ : ∃ (u : Fin 1) (r : Fin 16) (q : Fin 512) (v : Fin 1), y = ix4 u r q v :=
    ⟨⟨(y 0).val, (y 0).isLt⟩, ⟨(y 1).val, (y 1).isLt⟩, ⟨(y 2).val, (y 2).isLt⟩, ⟨(y 3).val, (y 3).isLt⟩, funext fun a => Fin.ext (by fin_cases a <;> rfl)⟩
  obtain rfl : u = 0 := Subsingleton.elim _ _
  obtain rfl : v = 0 := Subsingleton.elim _ _
  blk_simp
  rw [after1_10]
  have hi : ((cfg1.win 10).blk t).view.emb (ix4 (0 : Fin 1) r q (0 : Fin 1)) = ix4 (bOf t) r q 0 := by
    refine funext fun a => Fin.ext ?_
    fin_cases a <;> blk_simp [at_10] <;> first | rfl | simp [bOf]
  refine (block10_apply _ _ _ _ _ _ _ _ (centre m c (bOf t)) (cent_eq m ρ c t) r q).trans (Eq.trans ?_ ((hA (bOf t) r q).trans (congrArg A hi.symm)))
  rw [coord_0, show (fun a l => (iblk1 (V3 m ρ) c 0 t (ix3 0 a l) : EReal)) = fun a l => (poss m c (ix3 (bOf t) l a) : EReal) from
    funext fun a => funext fun l => iblk_0 m ρ c t a l]
  rfl

end

end Cert.Cloud

end
-- ==== Proof.NearPoints.lean ====
/- The nearest-neighbour call alone, from given centres: its windows at coordinates, and its result arrays from its arguments. -/
module

public import proofs.«01_k».proof.Proof.Points
public import proofs.«01_k».proof.Proof.Gen.NearIdeal.Value
public import Idealize.ShloMosaic.Lib.Pipeline.ValueKit
public import Idealize.ShloMosaic.Lib.Routing.OpsSet

@[expose] public section

noncomputable section

namespace Cert.Nearest

open Cert.NearIdeal Cert.NearIdeal.Gen Idealize.ShloMosaic.TcCoe Idealize.ShloMosaic.ValueIdx Idealize.SL.Sem
open Idealize.ShloMosaic hiding ix1 ix2 ix3 ix4
open Cert.Rows (IsReal)
open Cert.Cloud (posRow posTerm apart block7_apply block8_apply block9_apply block10_apply)

/-- Point `t` works on cloud `t`. -/
def bOf (t : Fin cfg0.N) : Fin 4 := ⟨t.val, by have := t.isLt; simp [Pipeline.Grid.N] at this; omega⟩

theorem at_0 : ∀ t : Fin cfg0.N, win0_0.index t = ![t.val, 0, 0] := by decide +kernel
theorem at_1 : ∀ t : Fin cfg0.N, win0_1.index t = ![t.val, 0, 0] := by decide +kernel
theorem at_2 : ∀ t : Fin cfg0.N, win0_2.index t = ![t.val, 0, 0] := by decide +kernel
theorem at_3 : ∀ t : Fin cfg0.N, win0_3.index t = ![t.val, 0, 0] := by decide +kernel
theorem at_4 : ∀ t : Fin cfg0.N, win0_4.index t = ![0, 0] := by decide +kernel
theorem at_5 : ∀ t : Fin cfg0.N, win0_5.index t = ![0, 0] := by decide +kernel
theorem at_6 : ∀ t : Fin cfg0.N, win0_6.index t = ![0, 0] := by decide +kernel
theorem at_7 : ∀ t : Fin cfg0.N, win0_7.index t = ![t.val, 0, 0] := by decide +kernel
theorem at_8 : ∀ t : Fin cfg0.N, win0_8.index t = ![t.val, 0, 0] := by decide +kernel
theorem at_9 : ∀ t : Fin cfg0.N, win0_9.index t = ![t.val, 0, 0] := by decide +kernel
theorem at_10 : ∀ t : Fin cfg0.N, win0_10.index t = ![t.val, 0, 0, 0] := by decide +kernel
theorem coord_0 : ∀ t : Fin cfg0.N, (grid0.coords t 0).val = t.val := by decide +kernel

variable (m : (ℓ : Loc nD τ sig) → Buf (Elt Ideal) ℓ) (c : Dev nD) (t : Fin cfg0.N)

/-! ## What the call finds -/

theorem found_v0 (b : Fin 4) (a : Fin 3) (l : Fin 2048) : V m c main_v0 (ix3 b a l) = m ((c : Thread nD τ).loc main_arg1) (ix3 b l a) := by
  show transpose S4x3x2048 [0, 2, 1] (m ((c : Thread nD τ).loc main_arg1) : S4x2048x3.Idx → EReal) transposes_S4x2048x3_S4x3x2048_0_2_1 (ix3 b a l) = _
  refine congrArg (m ((c : Thread nD τ).loc main_arg1)) (funext fun e => Fin.ext ?_)
  match e with
  | ⟨0, _⟩ => rfl
  | ⟨1, _⟩ => rfl
  | ⟨2, _⟩ => rfl

theorem found_v1 (k : Fin 128) (l : Fin 256) : V m c main_v1 (ix2 k l) = m ((c : Thread nD τ).loc main_arg3) (ix2 ⟨k.val, by omega⟩ l) := by
  show extractStridedSlice S128x256 ![0, 0] (m ((c : Thread nD τ).loc main_arg3) : S131x256.Idx → EReal) slices_S131x256_S128x256_0_0 (ix2 k l) = _
  refine congrArg (m ((c : Thread nD τ).loc main_arg3)) (funext fun e => Fin.ext ?_)
  match e with
  | ⟨0, _⟩ => exact Nat.zero_add _
  | ⟨1, _⟩ => exact Nat.zero_add _

theorem found_v6 (l : Fin 256) : V m c main_v6 (ix2 0 l) = m ((c : Thread nD τ).loc main_arg4) (ix1 l) :=
  shapeCast_a_1a_apply (m ((c : Thread nD τ).loc main_arg4) : S256.Idx → EReal) shapeCasts_S256_S1x256 0 l

theorem found_v5 (k : Fin 3) (l : Fin 256) : V m c main_v5 (ix2 ⟨k.val, by omega⟩ l) = m ((c : Thread nD τ).loc main_arg3) (ix2 ⟨128 + k.val, by omega⟩ l) := by
  have ev : V m c main_v5 = Host.scatter scatter_S8x256_S1_S3x256_01_n_0_0 (fun _ b => b)
      (broadcastInDim S8x256 ![] bcast_S_S8x256 (constant S_ .f32 0x00000000#32 : FVec Ideal S_ .f32)) (broadcastInDim S1 ![] bcast_S_S1 (constantI S_ 32 0#32))
      (extractStridedSlice S3x256 ![128, 0] (m ((c : Thread nD τ).loc main_arg3) : S131x256.Idx → EReal) slices_S131x256_S3x256_128_0) := by
    simp only [V, hostOps0]
    after_results_simp <;> rfl
  rw [ev]
  have e (u : S3x256.Idx) : ∃ (k' : Fin 3) (l' : Fin 256), u = ix2 k' l' := ⟨u 0, u 1, by
    funext a; apply Fin.ext
    match a with
    | ⟨0, _⟩ => rfl
    | ⟨1, _⟩ => rfl⟩
  refine Routing.scatter_set_hit _ _ _ _ _ _ (fun u hu => ?_) (ix2 k l) ((Cert.Cloud.lands _ rfl k l _).mpr ⟨rfl, rfl⟩)
  obtain ⟨k', l', rfl⟩ := e u
  obtain ⟨h0, h1⟩ := (Cert.Cloud.lands _ rfl k' l' _).mp hu
  obtain rfl : k' = k := Fin.ext h0.symm
  obtain rfl : l' = l := Fin.ext h1.symm
  refine congrArg (m ((c : Thread nD τ).loc main_arg3)) (funext fun e => Fin.ext ?_)
  match e with
  | ⟨0, _⟩ => rfl
  | ⟨1, _⟩ => exact Nat.zero_add _

/-! ## The windows' blocks -/

theorem iblk_0 (a : Fin 3) (l : Fin 2048) : iblk m c 0 t (ix3 0 a l) = m ((c : Thread nD τ).loc main_arg1) (ix3 (bOf t) l a) := by
  rw [← found_v0 m c]
  unfold iblk
  refine congrArg (V m c main_v0) (funext fun a => Fin.ext ?_)
  fin_cases a <;> blk_simp [at_0] <;> first | rfl | simp [bOf]

theorem iblk_1 (j : Fin 2048) (a : Fin 3) : iblk m c 1 t (ix3 0 j a) = m ((c : Thread nD τ).loc main_arg1) (ix3 (bOf t) j a) := by
  rw [← V_main_arg1 m c]
  unfold iblk
  refine congrArg (V m c main_arg1) (funext fun a => Fin.ext ?_)
  fin_cases a <;> blk_simp [at_1] <;> first | rfl | simp [bOf]

theorem iblk_2 (j : Fin 2048) (k : Fin 128) : iblk m c 2 t (ix3 0 j k) = m ((c : Thread nD τ).loc main_arg0) (ix3 (bOf t) j k) := by
  rw [← V_main_arg0 m c]
  unfold iblk
  refine congrArg (V m c main_arg0) (funext fun a => Fin.ext ?_)
  fin_cases a <;> blk_simp [at_2] <;> first | rfl | simp [bOf]

theorem iblk_3 (q : Fin 512) : iblk m c 3 t (ix3 0 q 0) = m ((c : Thread nD τ).loc main_arg2) (ix3 (bOf t) q 0) := by
  rw [← V_main_arg2 m c]
  unfold iblk
  refine congrArg (V m c main_arg2) (funext fun a => Fin.ext ?_)
  fin_cases a <;> blk_simp [at_3] <;> first | rfl | simp [bOf]

theorem iblk_4 (k : Fin 128) (l : Fin 256) : iblk m c 4 t (ix2 k l) = m ((c : Thread nD τ).loc main_arg3) (ix2 ⟨k.val, by omega⟩ l) := by
  rw [← found_v1 m c]
  unfold iblk
  refine congrArg (V m c main_v1) (funext fun a => Fin.ext ?_)
  fin_cases a <;> blk_simp [at_4] <;> first | rfl | simp [bOf]

theorem iblk_5 (k : Fin 3) (l : Fin 256) : iblk m c 5 t (ix2 ⟨k.val, by omega⟩ l) = m ((c : Thread nD τ).loc main_arg3) (ix2 ⟨128 + k.val, by omega⟩ l) := by
  rw [← found_v5 m c]
  unfold iblk
  refine congrArg (V m c main_v5) (funext fun a => Fin.ext ?_)
  fin_cases a <;> blk_simp [at_5] <;> first | rfl | simp [bOf]

theorem iblk_6 (l : Fin 256) : iblk m c 6 t (ix2 0 l) = m ((c : Thread nD τ).loc main_arg4) (ix1 l) := by
  rw [← found_v6 m c]
  unfold iblk
  refine congrArg (V m c main_v6) (funext fun a => Fin.ext ?_)
  fin_cases a <;> blk_simp [at_6] <;> first | rfl | simp [bOf]

/-! ## The call's results -/

/-- The call's block 7 is that of the same call after the sampling. -/
theorem out7_eq (i : grid0.Coords) (x0 : Vec Ideal S1x3x2048 .f32) (x1 : Vec Ideal S1x2048x3 .f32) (x2 : Vec Ideal S1x2048x128 .f32)
    (x3 : Vec Ideal S1x512x1 .i32) (x4 : Vec Ideal S128x256 .f32) (x5 : Vec Ideal S8x256 .f32) (x6 : Vec Ideal S1x256 .f32) :
    out0_7 i x0 x1 x2 x3 x4 x5 x6 = FrontIdeal.Gen.out1_7 (F := Ideal) i x0 x1 x2 x3 x4 x5 x6 := rfl

/-- The call's block 8 is that of the same call after the sampling. -/
theorem out8_eq (i : grid0.Coords) (x0 : Vec Ideal S1x3x2048 .f32) (x1 : Vec Ideal S1x2048x3 .f32) (x2 : Vec Ideal S1x2048x128 .f32)
    (x3 : Vec Ideal S1x512x1 .i32) (x4 : Vec Ideal S128x256 .f32) (x5 : Vec Ideal S8x256 .f32) (x6 : Vec Ideal S1x256 .f32) :
    out0_8 i x0 x1 x2 x3 x4 x5 x6 = FrontIdeal.Gen.out1_8 (F := Ideal) i x0 x1 x2 x3 x4 x5 x6 := rfl

/-- The call's block 9 is that of the same call after the sampling. -/
theorem out9_eq (i : grid0.Coords) (x0 : Vec Ideal S1x3x2048 .f32) (x1 : Vec Ideal S1x2048x3 .f32) (x2 : Vec Ideal S1x2048x128 .f32)
    (x3 : Vec Ideal S1x512x1 .i32) (x4 : Vec Ideal S128x256 .f32) (x5 : Vec Ideal S8x256 .f32) (x6 : Vec Ideal S1x256 .f32) :
    out0_9 i x0 x1 x2 x3 x4 x5 x6 = FrontIdeal.Gen.out1_9 (F := Ideal) i x0 x1 x2 x3 x4 x5 x6 := rfl

/-- The call's block 10 is that of the same call after the sampling. -/
theorem out10_eq (i : grid0.Coords) (x0 : Vec Ideal S1x3x2048 .f32) (x1 : Vec Ideal S1x2048x3 .f32) (x2 : Vec Ideal S1x2048x128 .f32)
    (x3 : Vec Ideal S1x512x1 .i32) (x4 : Vec Ideal S128x256 .f32) (x5 : Vec Ideal S8x256 .f32) (x6 : Vec Ideal S1x256 .f32) :
    out0_10 i x0 x1 x2 x3 x4 x5 x6 = FrontIdeal.Gen.out1_10 (F := Ideal) i x0 x1 x2 x3 x4 x5 x6 := rfl

/-- The points' features. -/
abbrev feats : S4x2048x128.Idx → EReal := m ((c : Thread nD τ).loc main_arg0)
/-- The points' positions. -/
abbrev poss : S4x2048x3.Idx → EReal := m ((c : Thread nD τ).loc main_arg1)
/-- The first layer's weight. -/
abbrev wts : S131x256.Idx → EReal := m ((c : Thread nD τ).loc main_arg3)
/-- The first layer's bias. -/
abbrev bias : S256.Idx → EReal := m ((c : Thread nD τ).loc main_arg4)

theorem posTerm_eq (j : Fin 2048) (l : Fin 256) : posTerm (iblk m c 1 t) (iblk m c 5 t) j l
    = posRow (poss m c) (wts m c) (bOf t) j l := by
  have h0 := iblk_5 m c t 0 l
  have h1 := iblk_5 m c t 1 l
  have h2 := iblk_5 m c t 2 l
  unfold posTerm posRow
  exact congrArg₂ (fun a b : EReal => a + b) (congrArg₂ (fun a b : EReal => a + b)
    (congrArg₂ (fun a b : EReal => a * b) (iblk_1 m c t j 0) h0) (congrArg₂ (fun a b : EReal => a * b) (iblk_1 m c t j 1) h1))
    (congrArg₂ (fun a b : EReal => a * b) (iblk_1 m c t j 2) h2)

section
variable (p : Fin 4 → Fin 512 → Fin 2048) (hp : ∀ b q, m ((c : Thread nD τ).loc main_arg2) (ix3 b q 0) = BitVec.ofNat 32 (p b q).val)

include hp in
theorem cent_eq (q : Fin 512) : iblk m c 3 t (ix3 0 q 0) = BitVec.ofNat 32 (p (bOf t) q).val := (iblk_3 m c t q).trans (hp _ q)

include hp in
/-- The centres' coordinates. -/
theorem array7 (A : S4x512x128.Idx → EReal) (hA : ∀ (b : Fin 4) (q : Fin 512) (l : Fin 128),
    (if h : l.val < 3 then (poss m c (ix3 b (p b q) ⟨l.val, h⟩) : EReal) else 0) = A (ix3 b q l)) :
    (dats m 0 c).arrAt 7 cfg0.N = A := by
  refine (dats m 0 c).arrAt_eq_of_covers 7 _ (by decide +kernel) fun t hf y => ?_
  obtain ⟨u, q, l, rfl⟩ : ∃ (u : Fin 1) (q : Fin 512) (l : Fin 128), y = ix3 u q l :=
    ⟨⟨(y 0).val, (y 0).isLt⟩, ⟨(y 1).val, (y 1).isLt⟩, ⟨(y 2).val, (y 2).isLt⟩, funext fun a => Fin.ext (by fin_cases a <;> rfl)⟩
  obtain rfl : u = 0 := Subsingleton.elim _ _
  blk_simp
  rw [after0_7]
  refine Eq.trans (congrFun (out7_eq _ (iblk m c 0 t) (iblk m c 1 t) (iblk m c 2 t) (iblk m c 3 t) (iblk m c 4 t) (iblk m c 5 t) (iblk m c 6 t)) _) ?_
  have hi : ((cfg0.win 7).blk t).view.emb (ix3 (0 : Fin 1) q l) = ix3 (bOf t) q l := by
    refine funext fun a => Fin.ext ?_
    fin_cases a <;> blk_simp [at_7] <;> first | rfl | simp [bOf]
  refine (block7_apply (grid0.coords t) (iblk m c 0 t) (iblk m c 1 t) (iblk m c 2 t) (iblk m c 3 t) (iblk m c 4 t) (iblk m c 5 t) (iblk m c 6 t) (p (bOf t)) (cent_eq m c t p hp) q l).trans (Eq.trans ?_ ((hA (bOf t) q l).trans (congrArg A hi.symm)))
  by_cases h : l.val < 3
  · rw [dif_pos h, dif_pos h]; exact iblk_0 m c t _ _
  · rw [dif_neg h, dif_neg h]

/-- The points' first-layer products. -/
theorem array8 (A : S4x2048x256.Idx → EReal) (hA : ∀ (b : Fin 4) (j : Fin 2048) (l : Fin 256),
    (∑ k : Fin 128, (feats m c (ix3 b j k) : EReal) * wts m c (ix2 ⟨k.val, by omega⟩ l))
      + posRow (poss m c) (wts m c) b j l = A (ix3 b j l)) :
    (dats m 0 c).arrAt 8 cfg0.N = A := by
  refine (dats m 0 c).arrAt_eq_of_covers 8 _ (by decide +kernel) fun t hf y => ?_
  obtain ⟨u, q, l, rfl⟩ : ∃ (u : Fin 1) (q : Fin 2048) (l : Fin 256), y = ix3 u q l :=
    ⟨⟨(y 0).val, (y 0).isLt⟩, ⟨(y 1).val, (y 1).isLt⟩, ⟨(y 2).val, (y 2).isLt⟩, funext fun a => Fin.ext (by fin_cases a <;> rfl)⟩
  obtain rfl : u = 0 := Subsingleton.elim _ _
  blk_simp
  rw [after0_8]
  refine Eq.trans (congrFun (out8_eq _ (iblk m c 0 t) (iblk m c 1 t) (iblk m c 2 t) (iblk m c 3 t) (iblk m c 4 t) (iblk m c 5 t) (iblk m c 6 t)) _) ?_
  have hi : ((cfg0.win 8).blk t).view.emb (ix3 (0 : Fin 1) q l) = ix3 (bOf t) q l := by
    refine funext fun a => Fin.ext ?_
    fin_cases a <;> blk_simp [at_8] <;> first | rfl | simp [bOf]
  refine (block8_apply (grid0.coords t) (iblk m c 0 t) (iblk m c 1 t) (iblk m c 2 t) (iblk m c 3 t) (iblk m c 4 t) (iblk m c 5 t) (iblk m c 6 t) q l).trans (Eq.trans ?_ ((hA (bOf t) q l).trans (congrArg A hi.symm)))
  exact congrArg₂ (fun a b : EReal => a + b) (Finset.sum_congr rfl fun k _ => congrArg₂ (fun a b : EReal => a * b) (iblk_2 m c t q k) (iblk_4 m c t k l))
    (posTerm_eq m c t q l)

include hp in
/-- The bias less the centres' products. -/
theorem array9 (h1 : ∀ y, IsReal (poss m c y))
    (h3 : ∀ (k : Fin 3) (l : Fin 256), IsReal (wts m c (ix2 ⟨128 + k.val, by omega⟩ l)))
    (A : S4x512x256.Idx → EReal) (hA : ∀ (b : Fin 4) (q : Fin 512) (l : Fin 256), (bias m c (ix1 l) : EReal)
      - posRow (poss m c) (wts m c) b (p b q) l = A (ix3 b q l)) :
    (dats m 0 c).arrAt 9 cfg0.N = A := by
  refine (dats m 0 c).arrAt_eq_of_covers 9 _ (by decide +kernel) fun t hf y => ?_
  obtain ⟨u, q, l, rfl⟩ : ∃ (u : Fin 1) (q : Fin 512) (l : Fin 256), y = ix3 u q l :=
    ⟨⟨(y 0).val, (y 0).isLt⟩, ⟨(y 1).val, (y 1).isLt⟩, ⟨(y 2).val, (y 2).isLt⟩, funext fun a => Fin.ext (by fin_cases a <;> rfl)⟩
  obtain rfl : u = 0 := Subsingleton.elim _ _
  blk_simp
  rw [after0_9]
  refine Eq.trans (congrFun (out9_eq _ (iblk m c 0 t) (iblk m c 1 t) (iblk m c 2 t) (iblk m c 3 t) (iblk m c 4 t) (iblk m c 5 t) (iblk m c 6 t)) _) ?_
  have hi : ((cfg0.win 9).blk t).view.emb (ix3 (0 : Fin 1) q l) = ix3 (bOf t) q l := by
    refine funext fun a => Fin.ext ?_
    fin_cases a <;> blk_simp [at_9] <;> first | rfl | simp [bOf]
  have g1 (y : S1x2048x3.Idx) : IsReal (iblk m c 1 t y) := by
    obtain ⟨u, j, a, rfl⟩ : ∃ (u : Fin 1) (j : Fin 2048) (a : Fin 3), y = ix3 u j a :=
      ⟨⟨(y 0).val, (y 0).isLt⟩, ⟨(y 1).val, (y 1).isLt⟩, ⟨(y 2).val, (y 2).isLt⟩, funext fun a => Fin.ext (by fin_cases a <;> rfl)⟩
    obtain rfl : u = 0 := Subsingleton.elim _ _
    rw [iblk_1]; exact h1 _
  have g5 (k : Fin 8) (l : Fin 256) (hk : k.val < 3) : IsReal (iblk m c 5 t (ix2 k l)) := by
    rw [show iblk m c 5 t (ix2 k l) = _ from iblk_5 m c t ⟨k.val, hk⟩ l]; exact h3 ⟨k.val, hk⟩ l
  refine (block9_apply (grid0.coords t) (iblk m c 0 t) (iblk m c 1 t) (iblk m c 2 t) (iblk m c 3 t) (iblk m c 4 t) (iblk m c 5 t) (iblk m c 6 t) (p (bOf t)) (cent_eq m c t p hp) g1 g5 q l).trans (Eq.trans ?_ ((hA (bOf t) q l).trans (congrArg A hi.symm)))
  exact congrArg₂ (fun a b : EReal => a - b) (iblk_6 m c t l) (posTerm_eq m c t _ l)

include hp in
/-- The neighbours. -/
theorem array10 (A : S4x16x512x1.Idx → BitVec 32) (hA : ∀ (b : Fin 4) (r : Fin 16) (q : Fin 512),
    BitVec.ofNat 32 (Rounds.pick (apart (fun a l => (poss m c (ix3 b l a) : EReal)) (p b q)) r.val).val
      + BitVec.ofNat 32 b.val * 2048#32 = A (ix4 b r q 0)) :
    (dats m 0 c).arrAt 10 cfg0.N = A := by
  refine (dats m 0 c).arrAt_eq_of_covers 10 _ (by decide +kernel) fun t hf y => ?_
  obtain ⟨u, r, q, v, rfl⟩ : ∃ (u : Fin 1) (r : Fin 16) (q : Fin 512) (v : Fin 1), y = ix4 u r q v :=
    ⟨⟨(y 0).val, (y 0).isLt⟩, ⟨(y 1).val, (y 1).isLt⟩, ⟨(y 2).val, (y 2).isLt⟩, ⟨(y 3).val, (y 3).isLt⟩, funext fun a => Fin.ext (by fin_cases a <;> rfl)⟩
  obtain rfl : u = 0 := Subsingleton.elim _ _
  obtain rfl : v = 0 := Subsingleton.elim _ _
  blk_simp
  rw [after0_10]
  refine Eq.trans (congrFun (out10_eq _ (iblk m c 0 t) (iblk m c 1 t) (iblk m c 2 t) (iblk m c 3 t) (iblk m c 4 t) (iblk m c 5 t) (iblk m c 6 t)) _) ?_
  have hi : ((cfg0.win 10).blk t).view.emb (ix4 (0 : Fin 1) r q (0 : Fin 1)) = ix4 (bOf t) r q 0 := by
    refine funext fun a => Fin.ext ?_
    fin_cases a <;> blk_simp [at_10] <;> first | rfl | simp [bOf]
  refine (block10_apply (grid0.coords t) (iblk m c 0 t) (iblk m c 1 t) (iblk m c 2 t) (iblk m c 3 t) (iblk m c 4 t) (iblk m c 5 t) (iblk m c 6 t) (p (bOf t)) (cent_eq m c t p hp) r q).trans (Eq.trans ?_ ((hA (bOf t) r q).trans (congrArg A hi.symm)))
  rw [coord_0, show (fun a l => (iblk m c 0 t (ix3 0 a l) : EReal)) = fun a l => (poss m c (ix3 (bOf t) l a) : EReal) from
    funext fun a => funext fun l => iblk_0 m c t a l]
  rfl

end

end Cert.Nearest

end
-- ==== Proof.NearRef.lean ====
/- What the reference of the first two calls makes of the picked points, at an index. -/
module

public import proofs.«01_k».proof.Proof.Clouds
public import proofs.«01_k».proof.Proof.Gen.FrontRefIdeal

@[expose] public section

noncomputable section

namespace Cert.Cloud.Ref

open Cert.FrontRefIdeal Cert.FrontRefIdeal.Gen Idealize.ShloMosaic.ValueIdx
open Idealize.ShloMosaic
open Cert.Rows (IsReal)

/-- The gather of the centres, read at an index: the point named by the start index, where that is a point number. -/
theorem gather_apply {α : Type} (x : S4x2048x3.Idx → α) (ix : IVec S4x512x1 32) (b : Fin 4) (q : Fin 512) (l : Fin 3)
    (n : Fin 2048) (hn : (ix (ix3 b q 0)).toInt = n.val) :
    Host.gather gather_S4x2048x3_S4x512x1_S4x512x3_2_1_0_0_1_2_113 x ix (ix3 b q l) = x (ix3 b n l) := by
  unfold Host.gather
  refine congrArg x (funext fun a => Fin.ext ?_)
  show (gather_S4x2048x3_S4x512x1_S4x512x3_2_1_0_0_1_2_113).start (ix3 b q l) ix a
    + (gather_S4x2048x3_S4x512x1_S4x512x3_2_1_0_0_1_2_113).batchCoord (ix3 b q l) a
    + (gather_S4x2048x3_S4x512x1_S4x512x3_2_1_0_0_1_2_113).offCoord (ix3 b q l) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (gather_S4x2048x3_S4x512x1_S4x512x3_2_1_0_0_1_2_113).operandBatchingDims from List.mem_singleton.mpr rfl)]
    rfl
  · rw [GatherDims.batchCoord_eq_zero _ _ _ (show (1 : Fin 3) ∉ [(0 : Fin 3)] by decide), Nat.add_zero,
      GatherDims.offCoord_eq_zero _ _ _ (fun h => ((GatherDims.mem_sKept _ _).mp h).1 (List.mem_singleton.mpr rfl)), Nat.add_zero]
    unfold GatherDims.start
    rw [dif_pos (show (1 : Fin 3) ∈ (gather_S4x2048x3_S4x512x1_S4x512x3_2_1_0_0_1_2_113).startIndexMap from List.mem_singleton.mpr rfl)]
    have hsi : (gather_S4x2048x3_S4x512x1_S4x512x3_2_1_0_0_1_2_113).siIdx (ix3 b q l)
        ⟨List.idxOf (1 : Fin 3) (gather_S4x2048x3_S4x512x1_S4x512x3_2_1_0_0_1_2_113).startIndexMap,
          List.idxOf_lt_length_iff.2 (List.mem_singleton.mpr rfl)⟩ = ix3 b q 0 := by
      funext e; refine Fin.ext ?_
      match e with
      | ⟨0, _⟩ => rfl
      | ⟨1, _⟩ => rfl
      | ⟨2, _⟩ => rfl
    rw [hsi, hn]
    show min ((n.val : ℤ)).toNat (2048 - 1) = n.val
    have := n.isLt
    rw [Int.toNat_natCast]; omega
  · have h0 : (gather_S4x2048x3_S4x512x1_S4x512x3_2_1_0_0_1_2_113).start (ix3 b q l) ix 2 = 0 := by
      unfold GatherDims.start
      exact dif_neg (by decide)
    rw [h0, Nat.zero_add, GatherDims.batchCoord_eq_zero _ _ _ (show (2 : Fin 3) ∉ [(0 : Fin 3)] by decide), Nat.zero_add]
    rfl

/-- The start indices: the point numbers, wrapped where below zero. -/
abbrev starts (x2 : IVec S4x512 32) : IVec S4x512x1 32 :=
  broadcastInDim S4x512x1 ![0, 1] bcast_S4x512_S4x512x1_0_1
    (select (cmpi .slt x2 (broadcastInDim S4x512 ![] bcast_S_S4x512 (constantI S_ 32 0#32)))
      (addi x2 (broadcastInDim S4x512 ![] bcast_S_S4x512 (constantI S_ 32 2048#32))) x2)

theorem starts_apply (x2 : IVec S4x512 32) (b : Fin 4) (q : Fin 512) (h : (x2 (ix2 b q)).toNat < 2048) :
    starts x2 (ix3 b q 0) = x2 (ix2 b q) := by
  have hp : ∀ z : S4x512.Idx → BitVec 32, broadcastInDim S4x512x1 ![0, 1] bcast_S4x512_S4x512x1_0_1 z (ix3 b q 0) = z (ix2 b q) := fun z =>
    congrArg z (funext fun a => Fin.ext (by fin_cases a <;> rfl))
  unfold starts
  rw [hp]
  show (if IntOp.cmpi .slt (x2 (ix2 b q)) 0#32 = 1#1 then _ else _) = _
  rw [if_neg]
  simp only [IntOp.cmpi, Cert.Rows.ofBool_eq_one, BitVec.slt_eq_decide, decide_eq_true_eq, BitVec.toInt_eq_toNat_cond, BitVec.toNat_ofNat,
    Nat.reducePow, Nat.reduceMod]
  omega

/-- The centres. -/
abbrev centres (x1 : FVec Ideal S4x2048x3 .f32) (x2 : IVec S4x512 32) : FVec Ideal S4x512x3 .f32 :=
  Host.gather gather_S4x2048x3_S4x512x1_S4x512x3_2_1_0_0_1_2_113 x1 (starts x2)

section
variable (x0 : FVec Ideal S4x2048x128 .f32) (x1 : FVec Ideal S4x2048x3 .f32) (x2 : IVec S4x512 32) (x3 : FVec Ideal S131x256 .f32) (x4 : FVec Ideal S256 .f32)
variable (p : Fin 4 → Fin 512 → Fin 2048) (hp : ∀ b q, x2 (ix2 b q) = BitVec.ofNat 32 (p b q).val)

include hp in
theorem centres_apply (b : Fin 4) (q : Fin 512) (l : Fin 3) : centres x1 x2 (ix3 b q l) = x1 (ix3 b (p b q) l) := by
  have h := (p b q).isLt
  have e : (x2 (ix2 b q)).toNat = (p b q).val := by rw [hp, BitVec.toNat_ofNat]; omega
  refine gather_apply x1 _ b q l (p b q) ?_
  rw [starts_apply x2 b q (by omega), BitVec.toInt_eq_toNat_cond, if_pos (by omega), e]

/-! ## The points' products -/

/-- A product over the weight's rows, at an index. -/
theorem product_apply (l : FVec Ideal S4x2048x131 .f32) (r : FVec Ideal S131x256 .f32) (b : Fin 4) (j : Fin 2048) (k : Fin 256) :
    Host.dotGeneral dot_S4x2048x131_S131x256_S4x2048x256_2_0_01_1_n_n none l r (ix3 b j k)
      = ∑ c : Fin 131, (l (ix3 b j c) * r (ix2 c k) : EReal) := by
  have hr : (dot_S4x2048x131_S131x256_S4x2048x256_2_0_01_1_n_n).contr.rank = 1 := rfl
  have hs : (dot_S4x2048x131_S131x256_S4x2048x256_2_0_01_1_n_n).contr.size ⟨0, by rw [hr]; exact Nat.one_pos⟩ = 131 := rfl
  simp only [Host.dotGeneral]
  rw [Ideal.dotGeneral_apply, ← Equiv.sum_comp (contrEquiv1 _ 131 hr hs).symm]
  refine Finset.sum_congr rfl fun c _ => ?_
  have hk := contrEquiv1_symm_val _ 131 hr hs c
  have el : (dot_S4x2048x131_S131x256_S4x2048x256_2_0_01_1_n_n).lhsIdx (ix3 b j k) ((contrEquiv1 _ 131 hr hs).symm c) = ix3 b j c := by
    funext a; apply Fin.ext
    match a with
    | ⟨0, _⟩ => rfl
    | ⟨1, _⟩ => rfl
    | ⟨2, _⟩ => exact hk
  have er : (dot_S4x2048x131_S131x256_S4x2048x256_2_0_01_1_n_n).rhsIdx (ix3 b j k) ((contrEquiv1 _ 131 hr hs).symm c) = ix2 c k := by
    funext a; apply Fin.ext
    match a with
    | ⟨0, _⟩ => exact hk
    | ⟨1, _⟩ => rfl
  rw [el, er]

/-- The second result. -/
abbrev second : FVec Ideal S4x2048x256 .f32 :=
  Host.dotGeneral dot_S4x2048x131_S131x256_S4x2048x256_2_0_01_1_n_n none (concatenate S4x2048x131 2 [⟨S4x2048x128, x0⟩, ⟨S4x2048x3, x1⟩] concatenates_S4x2048x128_S4x2048x3_S4x2048x131_d2) x3

theorem second_apply (b : Fin 4) (j : Fin 2048) (l : Fin 256) : second x0 x1 x3 (ix3 b j l)
    = (∑ k : Fin 128, (x0 (ix3 b j k) : EReal) * x3 (ix2 ⟨k.val, by omega⟩ l))
      + (x1 (ix3 b j 0) * x3 (ix2 128 l) + x1 (ix3 b j 1) * x3 (ix2 129 l) + x1 (ix3 b j 2) * x3 (ix2 130 l) : EReal) := by
  refine (product_apply _ x3 b j l).trans ?_
  refine (Fin.sum_univ_add (a := 128) (b := 3) _).trans ?_
  rw [Fin.sum_univ_three]
  have hl (k : Fin 128) : concatenate S4x2048x131 2 [⟨S4x2048x128, x0⟩, ⟨S4x2048x3, x1⟩] concatenates_S4x2048x128_S4x2048x3_S4x2048x131_d2 (ix3 b j (Fin.castAdd 3 k)) = x0 (ix3 b j k) :=
    concatenate_pair_apply_left (t := S4x2048x131) (s₁ := S4x2048x128) (s₂ := S4x2048x3) 2 x0 x1 _ _ rfl (ix3 b j k) fun a => by
      match a with
      | ⟨0, _⟩ => rfl
      | ⟨1, _⟩ => rfl
      | ⟨2, _⟩ => rfl
  have hr (k : Fin 3) : concatenate S4x2048x131 2 [⟨S4x2048x128, x0⟩, ⟨S4x2048x3, x1⟩] concatenates_S4x2048x128_S4x2048x3_S4x2048x131_d2 (ix3 b j (Fin.natAdd 128 k)) = x1 (ix3 b j k) :=
    concatenate_pair_apply_right (t := S4x2048x131) (s₁ := S4x2048x128) (s₂ := S4x2048x3) 2 x0 x1 _ _ rfl rfl (ix3 b j k) (fun a => by
      match a with
      | ⟨0, _⟩ => exact fun _ => rfl
      | ⟨1, _⟩ => exact fun _ => rfl
      | ⟨2, _⟩ => exact fun h => absurd rfl h) (Nat.add_comm _ _)
  refine congrArg₂ (fun s z : EReal => s + z) (Finset.sum_congr rfl fun k _ => congrArg (fun z : EReal => z * _) (hl k)) ?_
  exact congrArg₂ (fun s z : EReal => s + z) (congrArg₂ (fun s z : EReal => s + z) (congrArg (fun z : EReal => z * _) (hr 0)) (congrArg (fun z : EReal => z * _) (hr 1)))
    (congrArg (fun z : EReal => z * _) (hr 2))

/-! ## The bias less the centres' products -/

/-- A product over the weight's last three rows, at an index. -/
theorem product3_apply (l : FVec Ideal S4x512x3 .f32) (r : FVec Ideal S3x256 .f32) (b : Fin 4) (q : Fin 512) (k : Fin 256) :
    Host.dotGeneral dot_S4x512x3_S3x256_S4x512x256_2_0_01_1_n_n none l r (ix3 b q k)
      = ∑ c : Fin 3, (l (ix3 b q c) * r (ix2 c k) : EReal) := by
  have hr : (dot_S4x512x3_S3x256_S4x512x256_2_0_01_1_n_n).contr.rank = 1 := rfl
  have hs : (dot_S4x512x3_S3x256_S4x512x256_2_0_01_1_n_n).contr.size ⟨0, by rw [hr]; exact Nat.one_pos⟩ = 3 := rfl
  simp only [Host.dotGeneral]
  rw [Ideal.dotGeneral_apply, ← Equiv.sum_comp (contrEquiv1 _ 3 hr hs).symm]
  refine Finset.sum_congr rfl fun c _ => ?_
  have hk := contrEquiv1_symm_val _ 3 hr hs c
  have el : (dot_S4x512x3_S3x256_S4x512x256_2_0_01_1_n_n).lhsIdx (ix3 b q k) ((contrEquiv1 _ 3 hr hs).symm c) = ix3 b q c := by
    funext a; apply Fin.ext
    match a with
    | ⟨0, _⟩ => rfl
    | ⟨1, _⟩ => rfl
    | ⟨2, _⟩ => exact hk
  have er : (dot_S4x512x3_S3x256_S4x512x256_2_0_01_1_n_n).rhsIdx (ix3 b q k) ((contrEquiv1 _ 3 hr hs).symm c) = ix2 c k := by
    funext a; apply Fin.ext
    match a with
    | ⟨0, _⟩ => exact hk
    | ⟨1, _⟩ => rfl
  rw [el, er]

/-- The third result, from the centres. -/
abbrev thirdOf (q : FVec Ideal S4x512x3 .f32) : FVec Ideal S4x512x256 .f32 :=
  subf (broadcastInDim S4x512x256 ![0, 1, 2] bcast_S1x1x256_S4x512x256_0_1_2 (broadcastInDim S1x1x256 ![2] bcast_S256_S1x1x256_2 x4))
    (Host.dotGeneral dot_S4x512x3_S3x256_S4x512x256_2_0_01_1_n_n none q (extractStridedSlice S3x256 ![128, 0] x3 slices_S131x256_S3x256_128_0))

include hp in
theorem third_apply (b : Fin 4) (q : Fin 512) (l : Fin 256) : thirdOf x3 x4 (centres x1 x2) (ix3 b q l)
    = (x4 (ix1 l) : EReal) - (x1 (ix3 b (p b q) 0) * x3 (ix2 128 l) + x1 (ix3 b (p b q) 1) * x3 (ix2 129 l) + x1 (ix3 b (p b q) 2) * x3 (ix2 130 l) : EReal) := by
  have h4 : broadcastInDim S4x512x256 ![0, 1, 2] bcast_S1x1x256_S4x512x256_0_1_2 (broadcastInDim S1x1x256 ![2] bcast_S256_S1x1x256_2 x4) (ix3 b q l) = x4 (ix1 l) := by
    refine congrArg x4 (funext fun a => Fin.ext ?_)
    fin_cases a; rfl
  have hw (k : Fin 3) : extractStridedSlice S3x256 ![128, 0] x3 slices_S131x256_S3x256_128_0 (ix2 k l) = x3 (ix2 ⟨128 + k.val, by omega⟩ l) := by
    refine congrArg x3 (funext fun a => Fin.ext ?_)
    match a with
    | ⟨0, _⟩ => rfl
    | ⟨1, _⟩ => exact Nat.zero_add _
  refine congrArg₂ (fun s z : EReal => s - z) h4 ((product3_apply _ _ b q l).trans ?_)
  rw [Fin.sum_univ_three]
  have hc (k : Fin 3) : (centres x1 x2 (ix3 b q k) : EReal) * extractStridedSlice S3x256 ![128, 0] x3 slices_S131x256_S3x256_128_0 (ix2 k l)
      = x1 (ix3 b (p b q) k) * x3 (ix2 ⟨128 + k.val, by omega⟩ l) := by rw [centres_apply x1 x2 p hp, hw]
  exact congrArg₂ (fun s z : EReal => s + z) (congrArg₂ (fun s z : EReal => s + z) (hc 0) (hc 1)) (hc 2)

/-! ## The neighbours -/

/-- The differences from the centres `q`. -/
abbrev gapsOf (q : FVec Ideal S4x512x3 .f32) : FVec Ideal S4x512x2048x3 .f32 :=
  subf (broadcastInDim S4x512x2048x3 ![0, 1, 2, 3] bcast_S4x512x1x3_S4x512x2048x3_0_1_2_3 (broadcastInDim S4x512x1x3 ![0, 1, 3] bcast_S4x512x3_S4x512x1x3_0_1_3 q))
    (broadcastInDim S4x512x2048x3 ![0, 1, 2, 3] bcast_S4x1x2048x3_S4x512x2048x3_0_1_2_3 (broadcastInDim S4x1x2048x3 ![0, 2, 3] bcast_S4x2048x3_S4x1x2048x3_0_2_3 x1))

/-- The squared distances from them. -/
abbrev distsOf (q : FVec Ideal S4x512x3 .f32) : FVec Ideal S4x512x2048 .f32 :=
  Host.reduceAdd (mulf (gapsOf x1 q) (gapsOf x1 q)) (constant S_ .f32 0x00000000#32) reducesTo_S4x512x2048x3_S4x512x2048_d3 h_S_

/-- The differences. -/
abbrev gaps : FVec Ideal S4x512x2048x3 .f32 := gapsOf x1 (centres x1 x2)

/-- The squared distances. -/
abbrev dists : FVec Ideal S4x512x2048 .f32 := distsOf x1 (centres x1 x2)

include hp in
theorem gaps_apply (b : Fin 4) (q : Fin 512) (j : Fin 2048) (l : Fin 3) :
    gaps x1 x2 (ix4 b q j l) = (x1 (ix3 b (p b q) l) - x1 (ix3 b j l) : EReal) := by
  rw [← centres_apply x1 x2 p hp]
  refine congrArg₂ (fun s z : EReal => s - z) (congrArg (centres x1 x2) (funext fun a => Fin.ext ?_)) (congrArg x1 (funext fun a => Fin.ext ?_)) <;>
    fin_cases a <;> rfl

include hp in
theorem dists_apply (b : Fin 4) (q : Fin 512) (j : Fin 2048) :
    dists x1 x2 (ix3 b q j) = apart (fun a l => (x1 (ix3 b l a) : EReal)) (p b q) j := by
  have hR : S4x512x2048x3.Reduces [(3 : Fin 4)] S4x512x2048 := by decide
  refine (Ideal.hostReduceAdd_single _ hR _ _ (ix3 b q j)).trans ?_
  have hinit : (constant S_ .f32 0x00000000#32 : FVec Ideal S_ .f32) (Shape.Idx.first h_S_) = (0 : EReal) := Ideal.ofBits_zero_f32
  rw [hinit, zero_add]
  refine (Fin.sum_univ_three _).trans ?_
  have hl (k : Fin 3) : hR.lift (ix3 b q j) k = ix4 b q j k := by
    funext a; apply Fin.ext
    match a with
    | ⟨0, _⟩ => rfl
    | ⟨1, _⟩ => rfl
    | ⟨2, _⟩ => rfl
    | ⟨3, _⟩ => rfl
  have hg (k : Fin 3) : mulf (gaps x1 x2) (gaps x1 x2) (hR.lift (ix3 b q j) k)
      = ((x1 (ix3 b (p b q) k) - x1 (ix3 b j k)) * (x1 (ix3 b (p b q) k) - x1 (ix3 b j k)) : EReal) := by
    rw [hl, ← gaps_apply x1 x2 p hp]; rfl
  unfold apart
  exact congrArg₂ (fun s z : EReal => s + z) (congrArg₂ (fun s z : EReal => s + z) (hg 0) (hg 1)) (hg 2)

/-- The positions of the 16 greatest of each row of `z`. -/
abbrev chosenOf (z : FVec Ideal S4x512x2048 .f32) : IVec S4x512x16 32 :=
  (Host.topK S4x512x16 2 (FloatOps.cmpfTotal .gt) z sliceFits_S4x512x2048_S4x512x16).2

/-- The selected positions. -/
abbrev chosen : IVec S4x512x16 32 := chosenOf (Host.negf (dists x1 x2))

theorem real_apart (y : Fin 3 → Fin 2048 → EReal) (hy : ∀ a l, IsReal (y a l)) (q j : Fin 2048) : IsReal (apart y q j) := by
  unfold apart
  exact ((((hy _ _).sub (hy _ _)).mul ((hy _ _).sub (hy _ _))).add (((hy _ _).sub (hy _ _)).mul ((hy _ _).sub (hy _ _)))).add
    (((hy _ _).sub (hy _ _)).mul ((hy _ _).sub (hy _ _)))

/-- The second array of a sort of two, at an index. -/
theorem sort2_snd {s : Shape} {α β : Type} (d : ℕ) (hd : d < s.rank) (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

/-- A position's number along the last axis. -/
theorem along_val (b : Fin 4) (q : Fin 512) (j k : Fin 2048) : (if hd : 2 < S4x512x2048.rank then iotaInDim S4x512x2048 32 ⟨2, hd⟩ ((ix3 b q j : S4x512x2048.Idx).along ⟨2, hd⟩ k) else 0#32)
    = BitVec.ofNat 32 k.val := rfl

include hp in
theorem chosen_apply (h1 : ∀ y, IsReal (x1 y)) (b : Fin 4) (q : Fin 512) (r : Fin 16) :
    chosen x1 x2 (ix3 b q r) = BitVec.ofNat 32 (Rounds.pick (apart (fun a l => (x1 (ix3 b l a) : EReal)) (p b q)) r.val).val := by
  have e := Rounds.sortedFrom_eq_pick (apart (fun a l => (x1 (ix3 b l a) : EReal)) (p b q))
    (fun j => (real_apart _ (fun a l => h1 _) _ j).2) 16 (by omega) r
  rw [← e]
  have hs (z : S4x512x2048.Idx → BitVec 32) : extractStridedSlice S4x512x16 (fun _ => 0) z sliceFits_S4x512x2048_S4x512x16 (ix3 b q r)
      = z (ix3 b q (r.castLE (by omega))) := congrArg z (funext fun a => Fin.ext (by fin_cases a <;> exact Nat.zero_add _))
  refine (hs (Host.sort2 S4x512x2048 2 (fun l r => FloatOps.cmpfTotal (F := Ideal) (φ := .f32) .gt l.1 r.1) (Host.negf (dists x1 x2))
    (fun i => if hd : 2 < S4x512x2048.rank then iotaInDim S4x512x2048 32 ⟨2, hd⟩ i else 0#32)).2).trans ?_
  have ha (k : Fin 2048) : (ix3 b q (r.castLE (by omega) : Fin 2048) : S4x512x2048.Idx).along (2 : Fin 3) k = ix3 b q k := by
    funext a
    match a with
    | ⟨0, _⟩ => rfl
    | ⟨1, _⟩ => rfl
    | ⟨2, _⟩ => rfl
  have hc : (fun k k' : Fin 2048 => FloatOps.cmpfTotal .gt (Host.negf (dists x1 x2) ((ix3 b q (r.castLE (by omega) : Fin 2048) : S4x512x2048.Idx).along (2 : Fin 3) k))
        (Host.negf (dists x1 x2) ((ix3 b q (r.castLE (by omega) : Fin 2048) : S4x512x2048.Idx).along (2 : Fin 3) k')) == 1#1)
      = fun k k' => decide (apart (fun a l => (x1 (ix3 b l a) : EReal)) (p b q) k < apart (fun a l => (x1 (ix3 b l a) : EReal)) (p b q) k') := by
    funext k k'
    rw [ha, ha, ← dists_apply x1 x2 p hp, ← dists_apply x1 x2 p hp]
    show (BitVec.ofBool (decide ((-(dists x1 x2 (ix3 b q k')) : EReal) < -(dists x1 x2 (ix3 b q k)))) == 1#1) = _
    rw [Bool.eq_iff_iff, beq_iff_eq, Cert.Rows.ofBool_eq_one, decide_eq_true_eq, decide_eq_true_eq, EReal.neg_lt_neg_iff]
  rw [← hc, sort2_snd _ (show 2 < S4x512x2048.rank by decide)]
  exact along_val _ _ _ _

/-- The fourth result, from the negated distances. -/
abbrev fourthOf (z : FVec Ideal S4x512x2048 .f32) : IVec S4x16x512x1 32 :=
  shapeCast S4x16x512x1 (transpose S4x16x512 [0, 2, 1] (addi (chosenOf z)
    (broadcastInDim S4x512x16 ![0, 1, 2] bcast_S4x1x1_S4x512x16_0_1_2 (broadcastInDim S4x1x1 ![0] bcast_S4_S4x1x1_0 (muli (iotaInDim S4 32 0) (broadcastInDim S4 ![] bcast_S_S4 (constantI S_ 32 2048#32))))))
    transposes_S4x512x16_S4x16x512_0_2_1) shapeCasts_S4x16x512_S4x16x512x1

include hp in
theorem fourth_apply (h1 : ∀ y, IsReal (x1 y)) (b : Fin 4) (r : Fin 16) (q : Fin 512) : fourthOf (Host.negf (dists x1 x2)) (ix4 b r q 0)
    = BitVec.ofNat 32 (Rounds.pick (apart (fun a l => (x1 (ix3 b l a) : EReal)) (p b q)) r.val).val + BitVec.ofNat 32 b.val * 2048#32 := by
  refine (shapeCast_apply _ _ _ (ix3 b r q) (by
    rw [Shape.rowMajor_val_four, Shape.rowMajor_val_three]
    show (b.val * 16 + r.val) * 512 + q.val = ((b.val * 16 + r.val) * 512 + q.val) * 1 + 0
    omega)).trans ?_
  rw [← chosen_apply x1 x2 p hp h1]
  have ht (z : S4x512x16.Idx → BitVec 32) : transpose S4x16x512 [0, 2, 1] z transposes_S4x512x16_S4x16x512_0_2_1 (ix3 b r q) = z (ix3 b q r) :=
    congrArg z (funext fun a => Fin.ext (by fin_cases a <;> rfl))
  exact (ht _).trans rfl

end

end Cert.Cloud.Ref

end
-- ==== Proof.NearEqual.lean ====
/- The nearest-neighbour call alone: its frames, and its results against its reference's at the extended reals. -/
module

public import proofs.«01_k».proof.Defs
public import proofs.«01_k».proof.Proof.NearPoints
public import proofs.«01_k».proof.Proof.NearRef
public import proofs.«01_k».proof.Proof.Frames
public import proofs.«01_k».proof.Proof.Gen.Near.Frame
public import proofs.«01_k».proof.Proof.Gen.NearRefIdeal.Run
public import proofs.«01_k».proof.Proof.Gen.Pre_near_pre

@[expose] public section

noncomputable section

namespace Cert.Nearest

open Cert.NearIdeal Cert.NearIdeal.Gen Idealize.ShloMosaic.TcCoe Idealize.ShloMosaic.ValueIdx Idealize.SL.Sem
open Idealize.ShloMosaic hiding ix1 ix2 ix3 ix4
open Cert.Rows (IsReal)

/-! ## The frames -/

theorem frame_near : Cert.quiescent_Near := fun m ρ _ => Cert.Near.Gen.frame (F := Bits) m ρ

theorem frame_ideal : Cert.quiescent_NearIdeal := fun m ρ _ => Cert.NearIdeal.Gen.frame (F := Ideal) m ρ

theorem frame_ideal_pre : Cert.quiescent_NearIdeal_pre_near_pre := fun m ρ _ => frame_ideal m ρ trivial

/-- The reference declares no semaphore. -/
theorem frame_ref : Cert.quiescent_NearRefIdeal := fun m ρ _ =>
  (θ_run Cert.NearRefIdeal.defs _ _).mono (fun r h => ⟨fun c => (h c).2.2.2.2, sem_eq_zero_of_no_sems (by decide) r.2⟩)
    (Cert.NearRefIdeal.Value.run (F := Ideal) m ρ)

theorem frame_ref_pre : Cert.quiescent_NearRefIdeal_pre_near_pre := fun m ρ _ => frame_ref m ρ trivial

/-! ## What the precondition says -/

/-- A word at least 0 and below 2048, both signed, is below 2048 unsigned. -/
theorem range_word (w : BitVec 32) (h : IntOp.andi (IntOp.cmpi .sge w 0#32) (IntOp.cmpi .slt w 2048#32) = 1#1) : w.toNat < 2048 := by
  simp only [IntOp.andi, IntOp.cmpi, Cert.Rows.andi_ofBool, Cert.Rows.ofBool_eq_one, Bool.and_eq_true, BitVec.sle_eq_decide, BitVec.slt_eq_decide,
    decide_eq_true_eq, BitVec.toInt_eq_toNat_cond, BitVec.toNat_ofNat, Nat.reducePow, Nat.reduceMod] at h
  omega

section
variable {m : (ℓ : Loc nD τ sig) → Buf (Elt Ideal) ℓ} (h : Cert.Pre_NearIdeal_near_pre m) (c : Dev nD)
include h

theorem cent_lt (b : Fin 4) (q : Fin 512) : (m ((c : Thread nD τ).loc main_arg2) (ix3 b q 0) : BitVec 32).toNat < 2048 :=
  range_word _ (congrFun (h c).1 (ix3 b q 0))

theorem real_pos (y : S4x2048x3.Idx) : IsReal (m ((c : Thread nD τ).loc main_arg1) y) :=
  Cert.Rows.finite_real _ (congrFun (h c).2.1 y)

theorem real_weight (k : Fin 3) (l : Fin 256) : IsReal (m ((c : Thread nD τ).loc main_arg3) (ix2 ⟨128 + k.val, by omega⟩ l)) := by
  have e := Cert.Rows.finite_real _ (congrFun (h c).2.2 (ix2 k l))
  have hi : (extractStridedSlice S3x256 ![128, 0] (m ((c : Thread nD τ).loc main_arg3) : S131x256.Idx → EReal) Cert.Pre_near_pre.Facts.slices_S131x256_S3x256_128_0) (ix2 k l)
      = m ((c : Thread nD τ).loc main_arg3) (ix2 ⟨128 + k.val, by omega⟩ l) :=
    congrArg (m ((c : Thread nD τ).loc main_arg3) : S131x256.Idx → EReal) (funext fun a => Fin.ext (by
      match a with
      | ⟨0, _⟩ => rfl
      | ⟨1, _⟩ => exact Nat.zero_add _))
  rw [← hi]; exact e

end

/-! ## The reference at an index -/

/-- The given centres' numbers, a row a cloud. -/
abbrev slots (x2 : IVec S4x512x1 32) : IVec Cert.NearRefIdeal.S4x512 32 := shapeCast Cert.NearRefIdeal.S4x512 x2 Cert.NearRefIdeal.Gen.shapeCasts_S4x512x1_S4x512

theorem slots_apply (x2 : IVec S4x512x1 32) (b : Fin 4) (q : Fin 512) : slots x2 (ix2 b q) = x2 (ix3 b q 0) :=
  shapeCast_apply x2 _ _ _ (by
    rw [Shape.rowMajor_val_three, Shape.rowMajor_val_two]
    show (b.val * 512 + q.val) * 1 + 0 = b.val * 512 + q.val
    omega)

/-- The first result. -/
abbrev first (x1 : FVec Ideal S4x2048x3 .f32) (x2 : IVec S4x512x1 32) : FVec Ideal S4x512x128 .f32 :=
  pad S4x512x128 ![0, 0, 0] ![0, 0, 125] ![0, 0, 0] (Cloud.Ref.centres x1 (slots x2)) (sitofp .f32 (constantI S_ 32 0#32))
    Cert.NearRefIdeal.Gen.pads_S4x512x3_S4x512x128_000_000_01250 Cert.NearRefIdeal.Gen.h_S_

theorem first_apply (x1 : FVec Ideal S4x2048x3 .f32) (x2 : IVec S4x512x1 32) (p : Fin 4 → Fin 512 → Fin 2048)
    (hp : ∀ b q, x2 (ix3 b q 0) = BitVec.ofNat 32 (p b q).val) (b : Fin 4) (q : Fin 512) (l : Fin 128) :
    first x1 x2 (ix3 b q l) = if h : l.val < 3 then (x1 (ix3 b (p b q) ⟨l.val, h⟩) : EReal) else 0 := by
  by_cases h : l.val < 3
  · rw [dif_pos h, ← Cloud.Ref.centres_apply x1 (slots x2) p (fun b q => (slots_apply x2 b q).trans (hp b q))]
    refine pad_apply_of_inside _ _ _ _ _ _ _ _ (ix3 b q ⟨l.val, h⟩) fun a => ?_
    match a with
    | ⟨0, _⟩ => show b.val = 0 + b.val * (0 + 1); omega
    | ⟨1, _⟩ => show q.val = 0 + q.val * (0 + 1); omega
    | ⟨2, _⟩ => show l.val = 0 + l.val * (0 + 1); omega
  · rw [dif_neg h]
    refine (pad_apply_of_not_inside _ _ _ _ _ _ _ _ (2 : Fin 3) fun h' => h ?_).trans ?_
    · have := h'.2.2
      have h2 : (l.val - 0) / (0 + 1) < 3 := this
      omega
    · show ((((0#32 : BitVec 32).toInt : ℤ) : ℝ) : EReal) = 0
      simp

/-! ## The claim -/

/-- At the extended reals the call and its reference run to the same results, and both leave their arguments. -/
theorem equal : Cert.algebraic_NearIdeal_NearRefIdeal_pre_near_pre := by
  intro m g m' g' h ha
  let p (c : Dev nD) (b : Fin 4) (q : Fin 512) : Fin 2048 := ⟨(m ((c : Thread nD τ).loc main_arg2) (ix3 b q 0) : BitVec 32).toNat, cent_lt h c b q⟩
  have hp (c : Dev nD) (b : Fin 4) (q : Fin 512) : m ((c : Thread nD τ).loc main_arg2) (ix3 b q 0) = BitVec.ofNat 32 (p c b q).val :=
    BitVec.eq_of_toNat_eq (by rw [BitVec.toNat_ofNat]; exact (Nat.mod_eq_of_lt (BitVec.isLt _)).symm)
  have hs (c : Dev nD) (b : Fin 4) (q : Fin 512) := (slots_apply (m ((c : Thread nD τ).loc main_arg2)) b q).trans (hp c b q)
  refine ⟨fun c => (dats m 0 c).arrAt 7 cfg0.N, fun c => (dats m 0 c).arrAt 8 cfg0.N, fun c => (dats m 0 c).arrAt 9 cfg0.N, fun c => (dats m 0 c).arrAt 10 cfg0.N,
    Cert.NearIdeal.Value.run_blocks m g, ?_⟩
  refine (θ_run Cert.NearRefIdeal.defs _ _).mono (fun r hr c => ?_) (Cert.NearRefIdeal.Value.run (F := Ideal) m' g')
  obtain ⟨h0, h1, h2, h3, h4⟩ := ha c
  obtain ⟨r0, r1, r2, r3, rest⟩ := hr c
  refine ⟨r0.trans (Eq.symm (array7 m c (p c) (hp c) _ fun b q l => ?_)), r1.trans (Eq.symm (array8 m c _ fun b j l => ?_)),
    r2.trans (Eq.symm (array9 m c (p c) (hp c) (real_pos h c) (real_weight h c) _ fun b q l => ?_)),
    r3.trans (Eq.symm (array10 m c (p c) (hp c) _ fun b r q => ?_)), rest⟩
  · rw [h1, h2]; exact (first_apply _ _ (p c) (hp c) b q l).symm
  · rw [h0, h1, h3]; exact (Cloud.Ref.second_apply _ _ _ b j l).symm
  · rw [h1, h2, h3, h4]; exact (Cloud.Ref.third_apply _ (slots _) _ _ (p c) (hs c) b q l).symm
  · rw [h1, h2]; exact (Cloud.Ref.fourth_apply _ (slots _) (p c) (hs c) (real_pos h c) b r q).symm

end Cert.Nearest

end
-- ==== Proof.FrontRun.lean ====
/- The run of the first two calls with every buffer's last contents, and its results from the second call's arrays. -/
module

public import proofs.«01_k».proof.Proof.Gen.FrontIdeal.Frame

@[expose] public section

set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's algebra for this program. -/
abbrev 𝕄 (F : FTy → Type) := MT nD τ sig Unit (Elt F) ℕ (UR sig nD τ) ℕ

variable (m : (ℓ : Loc nD τ sig) → Buf (Elt F) ℓ) (ρ : Dev nD → PrngReg)

-- as for the frame: the launch rule's implicit arguments are found by unfolding plain definitions
set_option backward.isDefEq.respectTransparency.types false in
/-- Every unscoped buffer ends at the fold's last contents. The launch is the frame's; only the fact read off the last state is larger. -/
theorem run_contents : θ_run defs (onTc (τ := τ) (main (F := F))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (𝕄 F))
            ⊢ BI.own (emb₁ (initOf (Pipeline.cells cfgs cellOf_inj) (Pipeline.launchToks cfgs cellOf_inj))) from .rfl)
        iexact Hu
      iapply (show (BI.emp : sProp (𝕄 F)) ⊢ bigSep Finset.univ (fun _ : Dev nD => (BI.emp : sProp (𝕄 F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-! ## The results -/

variable (c : Dev nD)

theorem last_v17 : W5 m ρ c (Proc.devRef .tc main_v17)
    = extractStridedSlice S4x512x3 ![0, 0, 0] ((dat1 (V3 m ρ) c).arrAt 7 cfg1.N) slices_S4x512x128_S4x512x3_0_0_0 := by
  have h : W4 m ρ c (Proc.devRef .tc main_v16_0) = (dat1 (V3 m ρ) c).arrAt 7 cfg1.N := W4_arr m ρ c 7
  rw [← h]
  simp only [W5, hostOps2]
  after_results_simp <;> rfl

theorem last_v16_1 : W5 m ρ c (Proc.devRef .tc main_v16_1) = (dat1 (V3 m ρ) c).arrAt 8 cfg1.N :=
  (W5_of m ρ c main_v16_1 (by decide)).trans (W4_arr m ρ c 8)

theorem last_v16_2 : W5 m ρ c (Proc.devRef .tc main_v16_2) = (dat1 (V3 m ρ) c).arrAt 9 cfg1.N :=
  (W5_of m ρ c main_v16_2 (by decide)).trans (W4_arr m ρ c 9)

theorem last_v16_3 : W5 m ρ c (Proc.devRef .tc main_v16_3) = (dat1 (V3 m ρ) c).arrAt 10 cfg1.N :=
  (W5_of m ρ c main_v16_3 (by decide)).trans (W4_arr m ρ c 10)

end Cert.FrontIdeal.Gen

end
-- ==== Proof.FarRun.lean ====
/- The sampling reference's run: one counted loop of 511 trips between two stretches of host operations, and what one trip
   leaves in the buffers it carries. -/
module

public import proofs.«01_k».proof.Proof.Gen.FrontRefIdeal
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Farthest.Run

open Cert.FrontRefIdeal Cert.FrontRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]
/-! ## The program as lists of operations -/

/-- 12 host operations of @main, in order. -/
abbrev hostOps0 : List (HloOp τ sig (Elt F)) :=
  [ StableHlo.nullary main_c (constantI S_ 32 0#32),
    StableHlo.unary main_c main_v0 (broadcastInDim S4 ![] bcast_S_S4 : (⟨S_, .i32⟩ : BufTy).Contents (Elt F) → (⟨S4, .i32⟩ : BufTy).Contents (Elt F)),
    StableHlo.nullary main_cst (constant S_ .f32 0x501502F9#32),
    StableHlo.unary main_cst main_v1 (broadcastInDim S4x2048 ![] bcast_S_S4x2048 : (⟨S_, .f32⟩ : BufTy).Contents (Elt F) → (⟨S4x2048, .f32⟩ : BufTy).Contents (Elt F)),
    StableHlo.nullary main_c_0 (constantI S_ 32 0#32),
    StableHlo.unary main_c_0 main_v2 (broadcastInDim S511x4 ![] bcast_S_S511x4 : (⟨S_, .i32⟩ : BufTy).Contents (Elt F) → (⟨S511x4, .i32⟩ : BufTy).Contents (Elt F)),
    StableHlo.nullary main_c_1 (constantI S_ 32 0#32),
    StableHlo.unary main_arg1 main_v3_0 id,
    StableHlo.unary main_c_1 main_v3_1 id,
    StableHlo.unary main_v1 main_v3_2 id,
    StableHlo.unary main_v0 main_v3_3 id,
    StableHlo.unary main_v2 main_v3_4 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 3 host operations of @main, in order: the picks joined. -/
abbrev hostOps0_1 : List (HloOp τ sig (Elt F)) :=
  [ StableHlo.unary main_v0 main_v4 (broadcastInDim S4x1 ![0] bcast_S4_S4x1_0 : (⟨S4, .i32⟩ : BufTy).Contents (Elt F) → (⟨S4x1, .i32⟩ : BufTy).Contents (Elt F)),
    StableHlo.unary main_v3_4 main_v5 ((transpose S4x511 [1, 0] · transposes_S511x4_S4x511_1_0) : (⟨S511x4, .i32⟩ : BufTy).Contents (Elt F) → (⟨S4x511, .i32⟩ : BufTy).Contents (Elt F)),
    StableHlo.binary main_v4 main_v5 main_v6 ((fun a b => concatenate S4x512 1 [⟨S4x1, a⟩, ⟨S4x511, b⟩] concatenates_S4x1_S4x511_S4x512_d1) : (⟨S4x1, .i32⟩ : BufTy).Contents (Elt F) → (⟨S4x511, .i32⟩ : BufTy).Contents (Elt F) → (⟨S4x512, .i32⟩ : BufTy).Contents (Elt F)) ]
theorem hostOps0_1_sub : (hostOps0_1 : List (HloOp τ sig (Elt F))).Forall fun op => op.bufs ⊆ StableHlo.tcRefs τ sig :=
  ⟨StableHlo.unary_bufs_sub .., StableHlo.unary_bufs_sub .., StableHlo.binary_bufs_sub ..⟩
/-- 9 host operations of @main, in order: the picked points read. -/
abbrev hostOps0_2 : List (HloOp τ sig (Elt F)) :=
  [ StableHlo.nullary main_c_2 (constantI S_ 32 0#32),
    StableHlo.unary main_c_2 main_v7 (broadcastInDim S4x512 ![] bcast_S_S4x512 : (⟨S_, .i32⟩ : BufTy).Contents (Elt F) → (⟨S4x512, .i32⟩ : BufTy).Contents (Elt F)),
    StableHlo.binary main_v6 main_v7 main_v8 (cmpi .slt : (⟨S4x512, .i32⟩ : BufTy).Contents (Elt F) → (⟨S4x512, .i32⟩ : BufTy).Contents (Elt F) → (⟨S4x512, .i1⟩ : BufTy).Contents (Elt F)),
    StableHlo.nullary main_c_3 (constantI S_ 32 2048#32),
    StableHlo.unary main_c_3 main_v9 (broadcastInDim S4x512 ![] bcast_S_S4x512 : (⟨S_, .i32⟩ : BufTy).Contents (Elt F) → (⟨S4x512, .i32⟩ : BufTy).Contents (Elt F)),
    StableHlo.binary main_v6 main_v9 main_v10 (addi : (⟨S4x512, .i32⟩ : BufTy).Contents (Elt F) → (⟨S4x512, .i32⟩ : BufTy).Contents (Elt F) → (⟨S4x512, .i32⟩ : BufTy).Contents (Elt F)),
    StableHlo.ternary main_v8 main_v10 main_v6 main_v11 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    StableHlo.unary main_v11 main_v12 (broadcastInDim S4x512x1 ![0, 1] bcast_S4x512_S4x512x1_0_1 : (⟨S4x512, .i32⟩ : BufTy).Contents (Elt F) → (⟨S4x512x1, .i32⟩ : BufTy).Contents (Elt F)),
    StableHlo.binary main_arg1 main_v12 main_v13 ((fun x i => Host.gather gather_S4x2048x3_S4x512x1_S4x512x3_2_1_0_0_1_2_113 x i) : (⟨S4x2048x3, .f32⟩ : BufTy).Contents (Elt F) → (⟨S4x512x1, .i32⟩ : BufTy).Contents (Elt F) → (⟨S4x512x3, .f32⟩ : BufTy).Contents (Elt F)) ]
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- 9 host operations of @main, in order: the distances from them, negated. -/
abbrev hostOps0_3 : List (HloOp τ sig (Elt F)) :=
  [ StableHlo.unary main_v13 main_v14 (broadcastInDim S4x512x1x3 ![0, 1, 3] bcast_S4x512x3_S4x512x1x3_0_1_3 : (⟨S4x512x3, .f32⟩ : BufTy).Contents (Elt F) → (⟨S4x512x1x3, .f32⟩ : BufTy).Contents (Elt F)),
    StableHlo.unary main_arg1 main_v15 (broadcastInDim S4x1x2048x3 ![0, 2, 3] bcast_S4x2048x3_S4x1x2048x3_0_2_3 : (⟨S4x2048x3, .f32⟩ : BufTy).Contents (Elt F) → (⟨S4x1x2048x3, .f32⟩ : BufTy).Contents (Elt F)),
    StableHlo.unary main_v14 main_v16 (broadcastInDim S4x512x2048x3 ![0, 1, 2, 3] bcast_S4x512x1x3_S4x512x2048x3_0_1_2_3 : (⟨S4x512x1x3, .f32⟩ : BufTy).Contents (Elt F) → (⟨S4x512x2048x3, .f32⟩ : BufTy).Contents (Elt F)),
    StableHlo.unary main_v15 main_v17 (broadcastInDim S4x512x2048x3 ![0, 1, 2, 3] bcast_S4x1x2048x3_S4x512x2048x3_0_1_2_3 : (⟨S4x1x2048x3, .f32⟩ : BufTy).Contents (Elt F) → (⟨S4x512x2048x3, .f32⟩ : BufTy).Contents (Elt F)),
    StableHlo.binary main_v16 main_v17 main_v18 (subf : (⟨S4x512x2048x3, .f32⟩ : BufTy).Contents (Elt F) → (⟨S4x512x2048x3, .f32⟩ : BufTy).Contents (Elt F) → (⟨S4x512x2048x3, .f32⟩ : BufTy).Contents (Elt F)),
    StableHlo.binary main_v18 main_v18 main_v19 (mulf : (⟨S4x512x2048x3, .f32⟩ : BufTy).Contents (Elt F) → (⟨S4x512x2048x3, .f32⟩ : BufTy).Contents (Elt F) → (⟨S4x512x2048x3, .f32⟩ : BufTy).Contents (Elt F)),
    StableHlo.nullary main_cst_4 (constant S_ .f32 0x00000000#32),
    StableHlo.binary main_v19 main_cst_4 main_v20 ((fun x v => Host.reduceAdd x v reducesTo_S4x512x2048x3_S4x512x2048_d3 h_S_) : (⟨S4x512x2048x3, .f32⟩ : BufTy).Contents (Elt F) → (⟨S_, .f32⟩ : BufTy).Contents (Elt F) → (⟨S4x512x2048, .f32⟩ : BufTy).Contents (Elt F)),
    StableHlo.unary main_v20 main_v21 (Host.negf : (⟨S4x512x2048, .f32⟩ : BufTy).Contents (Elt F) → (⟨S4x512x2048, .f32⟩ : BufTy).Contents (Elt F)) ]
theorem hostOps0_3_sub : (hostOps0_3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub ..⟩
/-- 11 host operations of @main, in order: the nearest points' numbers. -/
abbrev hostOps0_4 : List (HloOp τ sig (Elt F)) :=
  [ StableHlo.unary main_v21 main_values ((fun x => (Host.topK S4x512x16 2 (FloatOps.cmpfTotal .gt) x sliceFits_S4x512x2048_S4x512x16).1) : (⟨S4x512x2048, .f32⟩ : BufTy).Contents (Elt F) → (⟨S4x512x16, .f32⟩ : BufTy).Contents (Elt F)),
    StableHlo.unary main_v21 main_indices ((fun x => (Host.topK S4x512x16 2 (FloatOps.cmpfTotal .gt) x sliceFits_S4x512x2048_S4x512x16).2) : (⟨S4x512x2048, .f32⟩ : BufTy).Contents (Elt F) → (⟨S4x512x16, .i32⟩ : BufTy).Contents (Elt F)),
    StableHlo.nullary main_v22 (iotaInDim S4 32 0),
    StableHlo.nullary main_c_5 (constantI S_ 32 2048#32),
    StableHlo.unary main_c_5 main_v23 (broadcastInDim S4 ![] bcast_S_S4 : (⟨S_, .i32⟩ : BufTy).Contents (Elt F) → (⟨S4, .i32⟩ : BufTy).Contents (Elt F)),
    StableHlo.binary main_v22 main_v23 main_v24 (muli : (⟨S4, .i32⟩ : BufTy).Contents (Elt F) → (⟨S4, .i32⟩ : BufTy).Contents (Elt F) → (⟨S4, .i32⟩ : BufTy).Contents (Elt F)),
    StableHlo.unary main_v24 main_v25 (broadcastInDim S4x1x1 ![0] bcast_S4_S4x1x1_0 : (⟨S4, .i32⟩ : BufTy).Contents (Elt F) → (⟨S4x1x1, .i32⟩ : BufTy).Contents (Elt F)),
    StableHlo.unary main_v25 main_v26 (broadcastInDim S4x512x16 ![0, 1, 2] bcast_S4x1x1_S4x512x16_0_1_2 : (⟨S4x1x1, .i32⟩ : BufTy).Contents (Elt F) → (⟨S4x512x16, .i32⟩ : BufTy).Contents (Elt F)),
    StableHlo.binary main_indices main_v26 main_v27 (addi : (⟨S4x512x16, .i32⟩ : BufTy).Contents (Elt F) → (⟨S4x512x16, .i32⟩ : BufTy).Contents (Elt F) → (⟨S4x512x16, .i32⟩ : BufTy).Contents (Elt F)),
    StableHlo.unary main_v27 main_v28 ((transpose S4x16x512 [0, 2, 1] · transposes_S4x512x16_S4x16x512_0_2_1) : (⟨S4x512x16, .i32⟩ : BufTy).Contents (Elt F) → (⟨S4x16x512, .i32⟩ : BufTy).Contents (Elt F)),
    StableHlo.reshape main_v28 main_v29 (rfl : (.i32 : EltTy) = .i32) shapeCasts_S4x16x512_S4x16x512x1 ]
theorem hostOps0_4_sub : (hostOps0_4 : List (HloOp τ sig (Elt F))).Forall fun op => op.bufs ⊆ StableHlo.tcRefs τ sig :=
  ⟨StableHlo.unary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub ..⟩
/-- 7 host operations of @main, in order: the products. -/
abbrev hostOps0_5 : List (HloOp τ sig (Elt F)) :=
  [ StableHlo.binary main_arg0 main_arg1 main_v30 ((fun a b => concatenate S4x2048x131 2 [⟨S4x2048x128, a⟩, ⟨S4x2048x3, b⟩] concatenates_S4x2048x128_S4x2048x3_S4x2048x131_d2) : (⟨S4x2048x128, .f32⟩ : BufTy).Contents (Elt F) → (⟨S4x2048x3, .f32⟩ : BufTy).Contents (Elt F) → (⟨S4x2048x131, .f32⟩ : BufTy).Contents (Elt F)),
    StableHlo.binary main_v30 main_arg2 main_v31 ((fun l r => Host.dotGeneral dot_S4x2048x131_S131x256_S4x2048x256_2_0_01_1_n_n none l r) : (⟨S4x2048x131, .f32⟩ : BufTy).Contents (Elt F) → (⟨S131x256, .f32⟩ : BufTy).Contents (Elt F) → (⟨S4x2048x256, .f32⟩ : BufTy).Contents (Elt F)),
    StableHlo.unary main_arg2 main_v32 ((extractStridedSlice S3x256 ![128, 0] · slices_S131x256_S3x256_128_0) : (⟨S131x256, .f32⟩ : BufTy).Contents (Elt F) → (⟨S3x256, .f32⟩ : BufTy).Contents (Elt F)),
    StableHlo.binary main_v13 main_v32 main_v33 ((fun l r => Host.dotGeneral dot_S4x512x3_S3x256_S4x512x256_2_0_01_1_n_n none l r) : (⟨S4x512x3, .f32⟩ : BufTy).Contents (Elt F) → (⟨S3x256, .f32⟩ : BufTy).Contents (Elt F) → (⟨S4x512x256, .f32⟩ : BufTy).Contents (Elt F)),
    StableHlo.unary main_arg3 main_v34 (broadcastInDim S1x1x256 ![2] bcast_S256_S1x1x256_2 : (⟨S256, .f32⟩ : BufTy).Contents (Elt F) → (⟨S1x1x256, .f32⟩ : BufTy).Contents (Elt F)),
    StableHlo.unary main_v34 main_v35 (broadcastInDim S4x512x256 ![0, 1, 2] bcast_S1x1x256_S4x512x256_0_1_2 : (⟨S1x1x256, .f32⟩ : BufTy).Contents (Elt F) → (⟨S4x512x256, .f32⟩ : BufTy).Contents (Elt F)),
    StableHlo.binary main_v35 main_v33 main_v36 (subf : (⟨S4x512x256, .f32⟩ : BufTy).Contents (Elt F) → (⟨S4x512x256, .f32⟩ : BufTy).Contents (Elt F) → (⟨S4x512x256, .f32⟩ : BufTy).Contents (Elt F)) ]
theorem hostOps0_5_sub : (hostOps0_5 : List (HloOp τ sig (Elt F))).Forall fun op => op.bufs ⊆ StableHlo.tcRefs τ sig :=
  ⟨StableHlo.binary_bufs_sub .., StableHlo.binary_bufs_sub .., StableHlo.unary_bufs_sub .., StableHlo.binary_bufs_sub .., StableHlo.unary_bufs_sub .., StableHlo.unary_bufs_sub .., StableHlo.binary_bufs_sub ..⟩
/-- `main` is its items in order. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, StableHlo.chain_seq_cons, StableHlo.chain_seq_cons, StableHlo.chain_seq_cons,
    StableHlo.chain_seq_cons]
  chain_rfl

/-- 1 host operation of host loop 0's body region, in order. -/
abbrev while0Ops0 : List (HloOp τ sig (Elt F)) :=
  [ StableHlo.unary main_v3_3 main_while0b_v37 (broadcastInDim S4x1x1 ![0] bcast_S4_S4x1x1_0 : (⟨S4, .i32⟩ : BufTy).Contents (Elt F) → (⟨S4x1x1, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  StableHlo.unary_bufs_sub ..
/-- 22 host operations of @take_along_axis (main_while0b_call0), in order. -/
abbrev while0Ops0_1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S4x1x1, .i32⟩) (broadcastInDim S4x1x1 ![] bcast_S_S4x1x1),
    StableHlo.TRef.binary (.of main_while0b_v37 : StableHlo.TRef sig ⟨S4x1x1, .i32⟩) (.of main_while0b_call0_v0 : StableHlo.TRef sig ⟨S4x1x1, .i32⟩) (.of main_while0b_call0_v1 : StableHlo.TRef sig ⟨S4x1x1, .i1⟩) (cmpi .slt),
    StableHlo.TRef.nullary (.of main_while0b_call0_c_0 : StableHlo.TRef sig ⟨S_, .i32⟩) (constantI S_ 32 2048#32),
    StableHlo.TRef.unary (.of main_while0b_call0_c_0 : StableHlo.TRef sig ⟨S_, .i32⟩) (.of main_while0b_call0_v2 : StableHlo.TRef sig ⟨S4x1x1, .i32⟩) (broadcastInDim S4x1x1 ![] bcast_S_S4x1x1),
    StableHlo.TRef.binary (.of main_while0b_v37 : StableHlo.TRef sig ⟨S4x1x1, .i32⟩) (.of main_while0b_call0_v2 : StableHlo.TRef sig ⟨S4x1x1, .i32⟩) (.of main_while0b_call0_v3 : StableHlo.TRef sig ⟨S4x1x1, .i32⟩) addi,
    StableHlo.TRef.ternary (.of main_while0b_call0_v1 : StableHlo.TRef sig ⟨S4x1x1, .i1⟩) (.of main_while0b_call0_v3 : StableHlo.TRef sig ⟨S4x1x1, .i32⟩) (.of main_while0b_v37 : StableHlo.TRef sig ⟨S4x1x1, .i32⟩) (.of main_while0b_call0_v4 : StableHlo.TRef sig ⟨S4x1x1, .i32⟩) select,
    StableHlo.TRef.nullary (.of main_while0b_call0_c_1 : StableHlo.TRef sig ⟨S1, .i32⟩) (constantI S1 32 2047#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S4x1x1, .i32⟩) (broadcastInDim S4x1x1 ![] bcast_S_S4x1x1),
    StableHlo.TRef.binary (.of main_while0b_call0_v4 : StableHlo.TRef sig ⟨S4x1x1, .i32⟩) (.of main_while0b_call0_v5 : StableHlo.TRef sig ⟨S4x1x1, .i32⟩) (.of main_while0b_call0_v6 : StableHlo.TRef sig ⟨S4x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S4x1x1, .i32⟩) (broadcastInDim S4x1x1 ![0, 1, 2] bcast_S1x1x1_S4x1x1_0_1_2),
    StableHlo.TRef.binary (.of main_while0b_call0_v4 : StableHlo.TRef sig ⟨S4x1x1, .i32⟩) (.of main_while0b_call0_v8 : StableHlo.TRef sig ⟨S4x1x1, .i32⟩) (.of main_while0b_call0_v9 : StableHlo.TRef sig ⟨S4x1x1, .i1⟩) (cmpi .sle),
    StableHlo.TRef.binary (.of main_while0b_call0_v6 : StableHlo.TRef sig ⟨S4x1x1, .i1⟩) (.of main_while0b_call0_v9 : StableHlo.TRef sig ⟨S4x1x1, .i1⟩) (.of main_while0b_call0_v10 : StableHlo.TRef sig ⟨S4x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S4x1x1, .i1⟩) (.of main_while0b_call0_c_3 : StableHlo.TRef sig ⟨S_, .i1⟩) (.of main_while0b_call0_v11 : StableHlo.TRef sig ⟨S4x1, .i1⟩) (fun x v => Host.reduce IntOp.andi x v reducesTo_S4x1x1_S4x1_d2 h_S_),
    StableHlo.TRef.binary (.of main_v3_0 : StableHlo.TRef sig ⟨S4x2048x3, .f32⟩) (.of main_while0b_call0_v4 : StableHlo.TRef sig ⟨S4x1x1, .i32⟩) (.of main_while0b_call0_v12 : StableHlo.TRef sig ⟨S4x1x3, .f32⟩) (fun x i => Host.gather gather_S4x2048x3_S4x1x1_S4x1x3_2_1_0_0_1_2_113 x i),
    StableHlo.TRef.unary (.of main_while0b_call0_v11 : StableHlo.TRef sig ⟨S4x1, .i1⟩) (.of main_while0b_call0_v13 : StableHlo.TRef sig ⟨S4x1x3, .i1⟩) (broadcastInDim S4x1x3 ![0, 1] bcast_S4x1_S4x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S4x1x3, .f32⟩) (broadcastInDim S4x1x3 ![] bcast_S_S4x1x3),
    StableHlo.TRef.ternary (.of main_while0b_call0_v13 : StableHlo.TRef sig ⟨S4x1x3, .i1⟩) (.of main_while0b_call0_v12 : StableHlo.TRef sig ⟨S4x1x3, .f32⟩) (.of main_while0b_call0_v14 : StableHlo.TRef sig ⟨S4x1x3, .f32⟩) (.of main_while0b_v38 : StableHlo.TRef sig ⟨S4x1x3, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 6 host operations of the loop body. -/
abbrev while0Ops0_2 : List (HloOp τ sig (Elt F)) :=
  [ StableHlo.unary main_while0b_v38 main_while0b_v39 (broadcastInDim S4x2048x3 ![0, 1, 2] bcast_S4x1x3_S4x2048x3_0_1_2 : (⟨S4x1x3, .f32⟩ : BufTy).Contents (Elt F) → (⟨S4x2048x3, .f32⟩ : BufTy).Contents (Elt F)),
    StableHlo.binary main_v3_0 main_while0b_v39 main_while0b_v40 (subf : (⟨S4x2048x3, .f32⟩ : BufTy).Contents (Elt F) → (⟨S4x2048x3, .f32⟩ : BufTy).Contents (Elt F) → (⟨S4x2048x3, .f32⟩ : BufTy).Contents (Elt F)),
    StableHlo.binary main_while0b_v40 main_while0b_v40 main_while0b_v41 (mulf : (⟨S4x2048x3, .f32⟩ : BufTy).Contents (Elt F) → (⟨S4x2048x3, .f32⟩ : BufTy).Contents (Elt F) → (⟨S4x2048x3, .f32⟩ : BufTy).Contents (Elt F)),
    StableHlo.nullary main_while0b_cst_10 (constant S_ .f32 0x00000000#32),
    StableHlo.binary main_while0b_v41 main_while0b_cst_10 main_while0b_v42 ((fun x v => Host.reduceAdd x v reducesTo_S4x2048x3_S4x2048_d2 h_S_) : (⟨S4x2048x3, .f32⟩ : BufTy).Contents (Elt F) → (⟨S_, .f32⟩ : BufTy).Contents (Elt F) → (⟨S4x2048, .f32⟩ : BufTy).Contents (Elt F)),
    StableHlo.binary main_v3_2 main_while0b_v42 main_while0b_v43 (minimumf : (⟨S4x2048, .f32⟩ : BufTy).Contents (Elt F) → (⟨S4x2048, .f32⟩ : BufTy).Contents (Elt F) → (⟨S4x2048, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- 5 host operations of @argmax, in order. -/
abbrev while0Ops0_3 : List (HloOp τ sig (Elt F)) :=
  [ StableHlo.TRef.nullary (.of main_while0b_call1_v0 : StableHlo.TRef sig ⟨S4x2048, .i32⟩) (iotaInDim S4x2048 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v43 : StableHlo.TRef sig ⟨S4x2048, .f32⟩) (.of main_while0b_call1_v0 : StableHlo.TRef sig ⟨S4x2048, .i32⟩) (.of main_while0b_call1_cst : StableHlo.TRef sig ⟨S_, .f32⟩) (.of main_while0b_call1_c : StableHlo.TRef sig ⟨S_, .i32⟩) (.of main_while0b_call1_v1_0 : StableHlo.TRef sig ⟨S4, .f32⟩) (fun x y u v j => (Host.argReduce reducer_argmax_f32_i32 x y u v reducesTo_S4x2048_S4_d1 h_S_ j).1),
    StableHlo.TRef.quaternary (.of main_while0b_v43 : StableHlo.TRef sig ⟨S4x2048, .f32⟩) (.of main_while0b_call1_v0 : StableHlo.TRef sig ⟨S4x2048, .i32⟩) (.of main_while0b_call1_cst : StableHlo.TRef sig ⟨S_, .f32⟩) (.of main_while0b_call1_c : StableHlo.TRef sig ⟨S_, .i32⟩) (.of main_while0b_v44 : StableHlo.TRef sig ⟨S4, .i32⟩) (fun x y u v j => (Host.argReduce reducer_argmax_f32_i32 x y u v reducesTo_S4x2048_S4_d1 h_S_ j).2) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @dynamic_update_index_in_dim (main_while0b_call2), in order. -/
abbrev while0Ops0_4 : List (HloOp τ sig (Elt F)) :=
  [ StableHlo.TRef.unary (.of main_while0b_v44 : StableHlo.TRef sig ⟨S4, .i32⟩) (.of main_while0b_call2_v0 : StableHlo.TRef sig ⟨S1x4, .i32⟩) (broadcastInDim S1x4 ![1] bcast_S4_S1x4_1),
    StableHlo.TRef.nullary (.of main_while0b_call2_c : StableHlo.TRef sig ⟨S_, .i32⟩) (constantI S_ 32 0#32),
    StableHlo.TRef.binaryIndexed (.of main_v3_4 : StableHlo.TRef sig ⟨S511x4, .i32⟩) (.of main_while0b_call2_v0 : StableHlo.TRef sig ⟨S1x4, .i32⟩) ![(.of main_v3_1 : StableHlo.TRef sig ⟨S_, .i32⟩), (.of main_while0b_call2_c : StableHlo.TRef sig ⟨S_, .i32⟩)] (.of main_while0b_v45 : StableHlo.TRef sig ⟨S511x4, .i32⟩) (fun x u i => Host.dynamicUpdateSlice x u (fun k => (i k (Shape.Idx.first h_S_)).toInt) updateFits_S511x4_S1x4) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 0's body region, in order. -/
abbrev while0Ops0_5 : List (HloOp τ sig (Elt F)) :=
  [ StableHlo.nullary main_while0b_c_11 (constantI S_ 32 1#32),
    StableHlo.binary main_v3_1 main_while0b_c_11 main_while0b_v46 (addi : (⟨S_, .i32⟩ : BufTy).Contents (Elt F) → (⟨S_, .i32⟩ : BufTy).Contents (Elt F) → (⟨S_, .i32⟩ : BufTy).Contents (Elt F)),
    StableHlo.unary main_while0b_v46 main_v3_1 id,
    StableHlo.unary main_while0b_v43 main_v3_2 id,
    StableHlo.unary main_while0b_v44 main_v3_3 id,
    StableHlo.unary main_while0b_v45 main_v3_4 id ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The loop's body is its items in order. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons]
  chain_rfl

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_c, main_v0, main_cst, main_v1, main_c_0, main_v2, main_c_1, main_v3_0, main_v3_1, main_v3_2, main_v3_3, main_v3_4]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_v37]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v38]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v39, main_while0b_v40, main_while0b_v41, main_while0b_cst_10, main_while0b_v42, main_while0b_v43]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call1_v0, main_while0b_call1_cst, main_while0b_call1_c, main_while0b_call1_v1_0, main_while0b_v44]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call2_v0, main_while0b_call2_c, main_while0b_v45]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_c_11, main_while0b_v46, main_v3_1, main_v3_2, main_v3_3, main_v3_4]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-! The stretches after the loop. -/

theorem hostOps0_1_fresh : (hostOps0_1 : List (HloOp τ sig (Elt F))).Forall fun op => op.fresh = ∅ :=
  StableHlo.forall_fresh_of_map rfl
abbrev hostOps0_1_W : List (Ref sig .tc) := [main_v4, main_v5, main_v6]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl
abbrev hostOps0_2_W : List (Ref sig .tc) := [main_c_2, main_v7, main_v8, main_c_3, main_v9, main_v10, main_v11, main_v12, main_v13]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_3_fresh : (hostOps0_3 : List (HloOp τ sig (Elt F))).Forall fun op => op.fresh = ∅ :=
  StableHlo.forall_fresh_of_map rfl
abbrev hostOps0_3_W : List (Ref sig .tc) := [main_v14, main_v15, main_v16, main_v17, main_v18, main_v19, main_cst_4, main_v20, main_v21]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_4_fresh : (hostOps0_4 : List (HloOp τ sig (Elt F))).Forall fun op => op.fresh = ∅ :=
  StableHlo.forall_fresh_of_map rfl
abbrev hostOps0_4_W : List (Ref sig .tc) := [main_values, main_indices, main_v22, main_c_5, main_v23, main_v24, main_v25, main_v26, main_v27, main_v28, main_v29]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_5_fresh : (hostOps0_5 : List (HloOp τ sig (Elt F))).Forall fun op => op.fresh = ∅ :=
  StableHlo.forall_fresh_of_map rfl
abbrev hostOps0_5_W : List (Ref sig .tc) := [main_v30, main_v31, main_v32, main_v33, main_v34, main_v35, main_v36]
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_10 (constantI S_ 32 511#32),
    StableHlo.binary main_v3_1 main_while0c_c_10 main_while0c_v37 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5]
abbrev postI : List (List (HloOp τ sig (Elt F))) := [hostOps0_1, hostOps0_2, hostOps0_3, hostOps0_4, hostOps0_5]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.nil))))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil)))))

/-- The reference each operation of `condOps` writes, in order. -/
abbrev condOps_W : List (Ref sig .tc) := [main_while0c_c_10, main_while0c_v37]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v3_1`) is written by one stretch of the body, the last. -/
theorem ctr_cond (V : Valuation τ sig (Elt F)) : after condOps V (Proc.devRef .tc main_v3_1) = V (Proc.devRef .tc main_v3_1) :=
  after_of_writes_sub condOps V condOps_writes (by decide +kernel)
theorem ctr_while0Ops0 (V : Valuation τ sig (Elt F)) : after while0Ops0 V (Proc.devRef .tc main_v3_1) = V (Proc.devRef .tc main_v3_1) :=
  after_of_writes_sub while0Ops0 V while0Ops0_writes (by decide +kernel)
theorem ctr_while0Ops0_1 (V : Valuation τ sig (Elt F)) : after while0Ops0_1 V (Proc.devRef .tc main_v3_1) = V (Proc.devRef .tc main_v3_1) :=
  after_of_writes_sub while0Ops0_1 V while0Ops0_1_writes (by decide +kernel)
theorem ctr_while0Ops0_2 (V : Valuation τ sig (Elt F)) : after while0Ops0_2 V (Proc.devRef .tc main_v3_1) = V (Proc.devRef .tc main_v3_1) :=
  after_of_writes_sub while0Ops0_2 V while0Ops0_2_writes (by decide +kernel)
theorem ctr_while0Ops0_3 (V : Valuation τ sig (Elt F)) : after while0Ops0_3 V (Proc.devRef .tc main_v3_1) = V (Proc.devRef .tc main_v3_1) :=
  after_of_writes_sub while0Ops0_3 V while0Ops0_3_writes (by decide +kernel)
theorem ctr_while0Ops0_4 (V : Valuation τ sig (Elt F)) : after while0Ops0_4 V (Proc.devRef .tc main_v3_1) = V (Proc.devRef .tc main_v3_1) :=
  after_of_writes_sub while0Ops0_4 V while0Ops0_4_writes (by decide +kernel)

set_option maxRecDepth 100000 in
/-- `while0Ops0_5` leaves the counter one step on. -/
theorem ctr_step (X : Valuation τ sig (Elt F)) :
    after while0Ops0_5 X (Proc.devRef .tc main_v3_1) = addi (X (Proc.devRef .tc main_v3_1)) (constantI S_ 32 1#32) := by
  after_results
  rfl

/-- The counter is the loop's lower bound at the loop's entry: its last writer before the loop read back. -/
theorem ctr_entry (c : Dev nD) : entryContents preI m c (Proc.devRef .tc main_v3_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v3_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 511 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_1 HostLoop.idx0)
        (HloOp.result _ (atK m k c) main_while0c_c_10 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 511 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 511 m ρ (cond_spec m)

end Cert.Farthest.Run

end
-- ==== Proof.FarTrip.lean ====
/- One trip of the sampling reference's loop, as functions of the arrays it carries. -/
module

public import proofs.«01_k».proof.Proof.FarRun

@[expose] public section

noncomputable section

namespace Cert.Farthest.Run

open Cert.FrontRefIdeal Cert.FrontRefIdeal.Gen
open Idealize.ShloMosaic Idealize.ShloMosaic.TcCoe Idealize.ShloMosaic.Tactic Idealize.ShloMosaic.StableHlo

variable {F : FTy → Type} [FloatOps F]

/-- The positions to read, one a cloud, from 0. -/
def spot (w : IVec S4x1x1 32) : IVec S4x1x1 32 :=
  select (cmpi .slt w (broadcastInDim S4x1x1 ![] bcast_S_S4x1x1 (constantI S_ 32 0#32)))
    (addi w (broadcastInDim S4x1x1 ![] bcast_S_S4x1x1 (constantI S_ 32 2048#32))) w

/-- Whether each is one of the cloud's. -/
def inside (w : IVec S4x1x1 32) : IVec S4x1 1 :=
  Host.reduce IntOp.andi
    (andi (cmpi .sge w (broadcastInDim S4x1x1 ![] bcast_S_S4x1x1 (constantI S_ 32 0#32)))
      (cmpi .sle w (broadcastInDim S4x1x1 ![0, 1, 2] bcast_S1x1x1_S4x1x1_0_1_2 (broadcastInDim S1x1x1 ![2] bcast_S1_S1x1x1_2 (constantI S1 32 2047#32)))))
    (constantI S_ 1 1#1) reducesTo_S4x1x1_S4x1_d2 h_S_

/-- The points read. -/
def point (x : FVec F S4x2048x3 .f32) (w : IVec S4x1x1 32) : FVec F S4x1x3 .f32 :=
  select (broadcastInDim S4x1x3 ![0, 1] bcast_S4x1_S4x1x3_0_1 (inside (spot w)))
    (Host.gather gather_S4x2048x3_S4x1x1_S4x1x3_2_1_0_0_1_2_113 x (spot w))
    (broadcastInDim S4x1x3 ![] bcast_S_S4x1x3 (constant S_ .f32 0x7FC00000#32))

/-- The differences from the points read. -/
def away (x : FVec F S4x2048x3 .f32) (c : FVec F S4x1x3 .f32) : FVec F S4x2048x3 .f32 :=
  subf x (broadcastInDim S4x2048x3 ![0, 1, 2] bcast_S4x1x3_S4x2048x3_0_1_2 c)

/-- The distances after a trip. -/
def closer (x : FVec F S4x2048x3 .f32) (c : FVec F S4x1x3 .f32) (d : FVec F S4x2048 .f32) : FVec F S4x2048 .f32 :=
  minimumf d (Host.reduceAdd (mulf (away x c) (away x c)) (constant S_ .f32 0x00000000#32) reducesTo_S4x2048x3_S4x2048_d2 h_S_)

/-- The farthest positions. -/
def top (d : FVec F S4x2048 .f32) : IVec S4 32 := fun j =>
  (Host.argReduce reducer_argmax_f32_i32 d (iotaInDim S4x2048 32 1) (constant S_ .f32 0xFF800000#32) (constantI S_ 32 0#32) reducesTo_S4x2048_S4_d1 h_S_ j).2

/-- The picks so far with one more row. -/
def put (a : IVec S511x4 32) (l : IVec S4 32) (i : IVec S_ 32) : IVec S511x4 32 :=
  Host.dynamicUpdateSlice a (broadcastInDim S1x4 ![1] bcast_S4_S1x4_1 l)
    (fun k => ((![i, constantI S_ 32 0#32] : Fin 2 → IVec S_ 32) k (Shape.Idx.first h_S_)).toInt) updateFits_S511x4_S1x4

variable (V : Valuation τ sig (Elt F))

set_option maxRecDepth 8192 in
set_option maxHeartbeats 2000000 in
theorem at1 : after while0Ops0_1 V (Proc.devRef .tc main_while0b_v38)
    = point (V (Proc.devRef .tc main_v3_0)) (V (Proc.devRef .tc main_while0b_v37)) := by
  simp only [while0Ops0_1]
  after_results_entrywise [cast_eq] <;> rfl

set_option maxRecDepth 8192 in
theorem at2 : after while0Ops0_2 V (Proc.devRef .tc main_while0b_v43)
    = closer (V (Proc.devRef .tc main_v3_0)) (V (Proc.devRef .tc main_while0b_v38)) (V (Proc.devRef .tc main_v3_2)) := by
  simp only [while0Ops0_2]
  after_results_entrywise [cast_eq] <;> rfl

set_option maxRecDepth 8192 in
theorem at3 : after while0Ops0_3 V (Proc.devRef .tc main_while0b_v44) = top (V (Proc.devRef .tc main_while0b_v43)) := by
  simp only [while0Ops0_3]
  after_results_entrywise [cast_eq] <;> rfl

set_option maxRecDepth 8192 in
theorem at4 : after while0Ops0_4 V (Proc.devRef .tc main_while0b_v45)
    = put (V (Proc.devRef .tc main_v3_4)) (V (Proc.devRef .tc main_while0b_v44)) (V (Proc.devRef .tc main_v3_1)) := by
  simp only [while0Ops0_4]
  after_results_entrywise [cast_eq] <;> rfl

theorem at0 : after while0Ops0 V (Proc.devRef .tc main_while0b_v37) = broadcastInDim S4x1x1 ![0] bcast_S4_S4x1x1_0 (V (Proc.devRef .tc main_v3_3)) := by
  simp only [while0Ops0]
  after_results_entrywise [cast_eq] <;> rfl

/-! A stretch leaves what it does not write. -/

theorem keep0 (r : Ref sig .tc) (h : r ∉ while0Ops0_W) : after while0Ops0 V (Proc.devRef .tc r) = V (Proc.devRef .tc r) :=
  after_of_writes_sub while0Ops0 V while0Ops0_writes h
theorem keep1 (r : Ref sig .tc) (h : r ∉ while0Ops0_1_W) : after while0Ops0_1 V (Proc.devRef .tc r) = V (Proc.devRef .tc r) :=
  after_of_writes_sub while0Ops0_1 V while0Ops0_1_writes h
theorem keep2 (r : Ref sig .tc) (h : r ∉ while0Ops0_2_W) : after while0Ops0_2 V (Proc.devRef .tc r) = V (Proc.devRef .tc r) :=
  after_of_writes_sub while0Ops0_2 V while0Ops0_2_writes h
theorem keep3 (r : Ref sig .tc) (h : r ∉ while0Ops0_3_W) : after while0Ops0_3 V (Proc.devRef .tc r) = V (Proc.devRef .tc r) :=
  after_of_writes_sub while0Ops0_3 V while0Ops0_3_writes h
theorem keep4 (r : Ref sig .tc) (h : r ∉ while0Ops0_4_W) : after while0Ops0_4 V (Proc.devRef .tc r) = V (Proc.devRef .tc r) :=
  after_of_writes_sub while0Ops0_4 V while0Ops0_4_writes h

set_option maxRecDepth 100000 in
/-- The last stretch copies the trip's values to the carried arrays. -/
theorem at5 : after while0Ops0_5 V (Proc.devRef .tc main_v3_0) = V (Proc.devRef .tc main_v3_0)
    ∧ after while0Ops0_5 V (Proc.devRef .tc main_v3_2) = V (Proc.devRef .tc main_while0b_v43)
    ∧ after while0Ops0_5 V (Proc.devRef .tc main_v3_3) = V (Proc.devRef .tc main_while0b_v44)
    ∧ after while0Ops0_5 V (Proc.devRef .tc main_v3_4) = V (Proc.devRef .tc main_while0b_v45) := by
  refine ⟨?_, ?_, ?_, ?_⟩ <;> (after_results <;> rfl)

/-! ## A trip from any contents -/

/-- The distances after a trip, of the carried arrays before it, -/
def dist (x : FVec F S4x2048x3 .f32) (d : FVec F S4x2048 .f32) (l : IVec S4 32) : FVec F S4x2048 .f32 :=
  closer x (point x (broadcastInDim S4x1x1 ![0] bcast_S4_S4x1x1_0 l)) d

theorem trip_dist : after while0Ops0_2 (after while0Ops0_1 (after while0Ops0 V)) (Proc.devRef .tc main_while0b_v43)
    = dist (V (Proc.devRef .tc main_v3_0)) (V (Proc.devRef .tc main_v3_2)) (V (Proc.devRef .tc main_v3_3)) := by
  rw [at2, at1, at0, keep1 _ main_v3_0 (by decide), keep1 _ main_v3_2 (by decide), keep0 _ main_v3_0 (by decide), keep0 _ main_v3_2 (by decide)]
  rfl

theorem trip_x : afterL bodyI V (Proc.devRef .tc main_v3_0) = V (Proc.devRef .tc main_v3_0) := by
  simp only [bodyI, afterL_cons, afterL_nil]
  rw [(at5 _).1, keep4 _ main_v3_0 (by decide), keep3 _ main_v3_0 (by decide), keep2 _ main_v3_0 (by decide), keep1 _ main_v3_0 (by decide),
    keep0 _ main_v3_0 (by decide)]

theorem trip_d : afterL bodyI V (Proc.devRef .tc main_v3_2)
    = dist (V (Proc.devRef .tc main_v3_0)) (V (Proc.devRef .tc main_v3_2)) (V (Proc.devRef .tc main_v3_3)) := by
  simp only [bodyI, afterL_cons, afterL_nil]
  rw [(at5 _).2.1, keep4 _ main_while0b_v43 (by decide), keep3 _ main_while0b_v43 (by decide), trip_dist]

theorem trip_l : afterL bodyI V (Proc.devRef .tc main_v3_3)
    = top (dist (V (Proc.devRef .tc main_v3_0)) (V (Proc.devRef .tc main_v3_2)) (V (Proc.devRef .tc main_v3_3))) := by
  simp only [bodyI, afterL_cons, afterL_nil]
  rw [(at5 _).2.2.1, keep4 _ main_while0b_v44 (by decide), at3, trip_dist]

theorem trip_a : afterL bodyI V (Proc.devRef .tc main_v3_4)
    = put (V (Proc.devRef .tc main_v3_4)) (top (dist (V (Proc.devRef .tc main_v3_0)) (V (Proc.devRef .tc main_v3_2)) (V (Proc.devRef .tc main_v3_3))))
      (V (Proc.devRef .tc main_v3_1)) := by
  simp only [bodyI, afterL_cons, afterL_nil]
  rw [(at5 _).2.2.2, at4, at3, trip_dist, keep3 _ main_v3_4 (by decide), keep3 _ main_v3_1 (by decide), keep2 _ main_v3_4 (by decide),
    keep2 _ main_v3_1 (by decide), keep1 _ main_v3_4 (by decide), keep1 _ main_v3_1 (by decide), keep0 _ main_v3_4 (by decide), keep0 _ main_v3_1 (by decide)]

end Cert.Farthest.Run

end
-- ==== Proof.FarRef.lean ====
/- The sampling reference's one trip, entry by entry at the extended reals. -/
module

public import proofs.«01_k».proof.Proof.FarTrip
public import proofs.«01_k».proof.Proof.FarArray
public import Idealize.ShloMosaic.Lib.ValueLayout
public import Idealize.ShloMosaic.Lib.WordCmp
public import Idealize.ShloMosaic.Lib.Pipeline.Value
public import Idealize.ShloMosaic.PureOps.Ideal.Laws

@[expose] public section

noncomputable section

namespace Cert.Farthest.Run

open Cert.FrontRefIdeal Cert.FrontRefIdeal.Gen Idealize.ShloMosaic.ValueIdx
open Idealize.ShloMosaic hiding ix1 ix2 ix3 ix4

theorem slt_words (q p : ℕ) (hq : q < 2 ^ 31) (hp : p < 2 ^ 31) : IntOp.cmpi .slt (BitVec.ofNat 32 q) (BitVec.ofNat 32 p) = BitVec.ofBool (decide (q < p)) := by
  simp only [IntOp.cmpi, BitVec.slt_eq_decide, WordCmp.toInt_ofNat_of_lt (w := 32) hq, WordCmp.toInt_ofNat_of_lt (w := 32) hp]
  congr 1
  simp

/-! ## The point read -/

section
variable (w : IVec S4x1x1 32) (n : Fin 4 → Fin 2048) (hw : ∀ b, w (ix3 b 0 0) = BitVec.ofNat 32 (n b).val)
include hw

theorem spot_eq : spot w = w := by
  funext y
  obtain ⟨b, u, v, rfl⟩ : ∃ (b : Fin 4) (u v : Fin 1), y = ix3 b u v :=
    ⟨⟨(y 0).val, (y 0).isLt⟩, ⟨(y 1).val, (y 1).isLt⟩, ⟨(y 2).val, (y 2).isLt⟩, funext fun a => Fin.ext (by fin_cases a <;> rfl)⟩
  obtain rfl : u = 0 := Subsingleton.elim _ _
  obtain rfl : v = 0 := Subsingleton.elim _ _
  show (if IntOp.cmpi .slt (w (ix3 b 0 0)) (BitVec.ofNat 32 0) = 1#1 then _ else w (ix3 b 0 0)) = w (ix3 b 0 0)
  rw [hw, slt_words _ _ (by have := (n b).isLt; omega) (by norm_num), if_neg (by simp)]

theorem inside_eq (b : Fin 4) : inside w (ix2 b 0) = 1#1 := by
  have hv : (andi (cmpi .sge w (broadcastInDim S4x1x1 ![] bcast_S_S4x1x1 (constantI S_ 32 0#32)))
      (cmpi .sle w (broadcastInDim S4x1x1 ![0, 1, 2] bcast_S1x1x1_S4x1x1_0_1_2 (broadcastInDim S1x1x1 ![2] bcast_S1_S1x1x1_2 (constantI S1 32 2047#32)))) : IVec S4x1x1 1)
      = fun _ => 1#1 := by
    funext y
    obtain ⟨b, u, v, rfl⟩ : ∃ (b : Fin 4) (u v : Fin 1), y = ix3 b u v :=
      ⟨⟨(y 0).val, (y 0).isLt⟩, ⟨(y 1).val, (y 1).isLt⟩, ⟨(y 2).val, (y 2).isLt⟩, funext fun a => Fin.ext (by fin_cases a <;> rfl)⟩
    obtain rfl : u = 0 := Subsingleton.elim _ _
    obtain rfl : v = 0 := Subsingleton.elim _ _
    show IntOp.andi (IntOp.cmpi .sge (w (ix3 b 0 0)) 0#32) (IntOp.cmpi .sle (w (ix3 b 0 0)) 2047#32) = 1#1
    rw [hw]
    have h := (n b).isLt
    simp only [IntOp.cmpi, BitVec.sle_eq_decide, WordCmp.toInt_ofNat_of_lt (w := 32) (show (n b).val < 2 ^ 31 by omega)]
    rw [show (0#32).toInt = 0 from rfl, show (2047#32).toInt = 2047 from rfl, decide_eq_true (by omega), decide_eq_true (by omega)]
    rfl
  unfold inside
  rw [hv]
  unfold Host.reduce
  generalize (List.finRange _).filter _ = l
  show l.foldl (fun r _ => IntOp.andi r 1#1) 1#1 = 1#1
  induction l with
  | nil => rfl
  | cons a l ih => exact ih

/-- The gather, read at an index: the point named by the start index. -/
theorem gather_apply {α : Type} (x : S4x2048x3.Idx → α) (b : Fin 4) (l : Fin 3) :
    Host.gather gather_S4x2048x3_S4x1x1_S4x1x3_2_1_0_0_1_2_113 x w (ix3 b 0 l) = x (ix3 b (n b) l) := by
  have hn : (w (ix3 b 0 0)).toInt = (n b).val := by
    rw [hw]; exact WordCmp.toInt_ofNat_of_lt (w := 32) (show (n b).val < 2 ^ 31 by have := (n b).isLt; omega)
  unfold Host.gather
  refine congrArg x (funext fun a => Fin.ext ?_)
  show (gather_S4x2048x3_S4x1x1_S4x1x3_2_1_0_0_1_2_113).start (ix3 b 0 l) w a
    + (gather_S4x2048x3_S4x1x1_S4x1x3_2_1_0_0_1_2_113).batchCoord (ix3 b 0 l) a
    + (gather_S4x2048x3_S4x1x1_S4x1x3_2_1_0_0_1_2_113).offCoord (ix3 b 0 l) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (gather_S4x2048x3_S4x1x1_S4x1x3_2_1_0_0_1_2_113).operandBatchingDims from List.mem_singleton.mpr rfl)]
    rfl
  · rw [GatherDims.batchCoord_eq_zero _ _ _ (show (1 : Fin 3) ∉ [(0 : Fin 3)] by decide), Nat.add_zero,
      GatherDims.offCoord_eq_zero _ _ _ (fun h => ((GatherDims.mem_sKept _ _).mp h).1 (List.mem_singleton.mpr rfl)), Nat.add_zero]
    unfold GatherDims.start
    rw [dif_pos (show (1 : Fin 3) ∈ (gather_S4x2048x3_S4x1x1_S4x1x3_2_1_0_0_1_2_113).startIndexMap from List.mem_singleton.mpr rfl)]
    have hsi : (gather_S4x2048x3_S4x1x1_S4x1x3_2_1_0_0_1_2_113).siIdx (ix3 b 0 l)
        ⟨List.idxOf (1 : Fin 3) (gather_S4x2048x3_S4x1x1_S4x1x3_2_1_0_0_1_2_113).startIndexMap,
          List.idxOf_lt_length_iff.2 (List.mem_singleton.mpr rfl)⟩ = ix3 b 0 0 := by
      funext e; refine Fin.ext ?_
      match e with
      | ⟨0, _⟩ => rfl
      | ⟨1, _⟩ => rfl
      | ⟨2, _⟩ => rfl
    rw [hsi, hn]
    show min (((n b).val : ℤ)).toNat (2048 - 1) = (n b).val
    have := (n b).isLt
    rw [Int.toNat_natCast]; omega
  · have h0 : (gather_S4x2048x3_S4x1x1_S4x1x3_2_1_0_0_1_2_113).start (ix3 b 0 l) w 2 = 0 := by
      unfold GatherDims.start
      exact dif_neg (by decide)
    rw [h0, Nat.zero_add, GatherDims.batchCoord_eq_zero _ _ _ (show (2 : Fin 3) ∉ [(0 : Fin 3)] by decide), Nat.zero_add]
    rfl

theorem point_apply (x : FVec Ideal S4x2048x3 .f32) (b : Fin 4) (l : Fin 3) : point x w (ix3 b 0 l) = x (ix3 b (n b) l) := by
  unfold point
  rw [spot_eq w n hw, ← gather_apply w n hw x b l, select_apply]
  refine if_pos ?_
  refine Eq.trans (congrArg (inside w) (?_ : _ = ix2 b 0)) (inside_eq w n hw b)
  funext e; apply Fin.ext
  match e with
  | ⟨0, _⟩ => rfl
  | ⟨1, _⟩ => rfl

end

/-! ## The distances -/

theorem dist_apply (x : FVec Ideal S4x2048x3 .f32) (d : FVec Ideal S4x2048 .f32) (l : IVec S4 32) (b : Fin 4) (s : Fin 4 → (Fin 2048 → EReal) × Fin 2048)
    (hl : ∀ b, l (ix1 b) = BitVec.ofNat 32 (s b).2.val) (hd : ∀ p, d (ix2 b p) = (s b).1 p) (p : Fin 2048) :
    dist x d l (ix2 b p) = nearer (spread x b) (s b) p := by
  have hc (a : Fin 3) : point x (broadcastInDim S4x1x1 ![0] bcast_S4_S4x1x1_0 l) (ix3 b 0 a) = x (ix3 b (s b).2 a) :=
    point_apply _ (fun b => (s b).2) (fun b => Eq.trans (congrArg l (funext fun e => Fin.ext (by match e with | ⟨0, _⟩ => rfl))) (hl b)) x b a
  unfold dist closer
  generalize point x (broadcastInDim S4x1x1 ![0] bcast_S4_S4x1x1_0 l) = c at hc
  have hR : S4x2048x3.Reduces [(2 : Fin 3)] S4x2048 := by decide
  have hinit : (constant S_ .f32 0x00000000#32 : FVec Ideal S_ .f32) (Shape.Idx.first h_S_) = (0 : EReal) := Ideal.ofBits_zero_f32
  have ha (a : Fin 3) : away x c (hR.lift (ix2 b p) a) = spread x b a p - spread x b a (s b).2 := by
    unfold away spread
    refine congrArg₂ (fun u v : EReal => u - v) (congrArg x (funext fun e => Fin.ext ?_)) (Eq.trans (congrArg c (funext fun e => Fin.ext ?_)) (hc a))
    · match e with
      | ⟨0, _⟩ => rfl
      | ⟨1, _⟩ => rfl
      | ⟨2, _⟩ => rfl
    · match e with
      | ⟨0, _⟩ => rfl
      | ⟨1, _⟩ => rfl
      | ⟨2, _⟩ => rfl
  refine congrArg₂ (fun u v : EReal => min u v) (hd p) ?_
  refine (Ideal.hostReduceAdd_single _ hR _ _ (ix2 b p)).trans ?_
  rw [hinit, zero_add]
  refine (Fin.sum_univ_three _).trans ?_
  exact congrArg₂ (fun u v : EReal => u + v) (congrArg₂ (fun u v : EReal => u + v) (congrArg₂ (fun u v : EReal => u * v) (ha 0) (ha 0))
    (congrArg₂ (fun u v : EReal => u * v) (ha 1) (ha 1))) (congrArg₂ (fun u v : EReal => u * v) (ha 2) (ha 2))

/-! ## The farthest position -/

/-- The reducer keeps the greater value, and the earlier position of two equal ones. -/
theorem reducer_eq (v u : EReal) (q p : ℕ) (hq : q < 2 ^ 31) (hp : p < 2 ^ 31) :
    reducer_argmax_f32_i32 (F := Ideal) (v, BitVec.ofNat 32 q) (u, BitVec.ofNat 32 p)
      = if u < v ∨ (v = u ∧ q < p) then (v, BitVec.ofNat 32 q) else (u, BitVec.ofNat 32 p) := by
  have h2 : FloatOps.cmpf (F := Ideal) (φ := .f32) .ogt v u = BitVec.ofBool (decide (u < v)) := rfl
  have h3 : FloatOps.cmpf (F := Ideal) (φ := .f32) .une v v = BitVec.ofBool (decide (v ≠ v)) := rfl
  have h5 : FloatOps.cmpf (F := Ideal) (φ := .f32) .oeq v u = BitVec.ofBool (decide (v = u)) := rfl
  unfold reducer_argmax_f32_i32
  simp only [h2, h3, h5, slt_words q p hq hp]
  by_cases a : u < v
  · have b : ¬ v = u := fun e => absurd a (e ▸ lt_irrefl _)
    simp [a, b, IntOp.ori, IntOp.andi, Scalar.select]
  · by_cases b : v = u
    · subst b
      by_cases c : q < p
      · simp [c, IntOp.ori, IntOp.andi, Scalar.select]
      · simp [c, IntOp.ori, IntOp.andi, Scalar.select]
    · simp [a, b, IntOp.ori, IntOp.andi, Scalar.select]

theorem foldl_steps {α β : Type} (f g : α → β → α) (l : List β) (i : α) (h : ∀ r n, f r n = g r n) : l.foldl f i = l.foldl g i := by
  rw [show f = g from funext fun r => funext fun n => h r n]

theorem top_apply (d : FVec Ideal S4x2048 .f32) (b : Fin 4) : top d (ix1 b) = BitVec.ofNat 32 (peak fun p => d (ix2 b p)).val := by
  unfold top
  have hinit : (constant S_ .f32 0xFF800000#32 : FVec Ideal S_ .f32) (Shape.Idx.first h_S_) = (⊥ : EReal) := low_pattern
  have hzero : (constantI S_ 32 0#32 : IVec S_ 32) (Shape.Idx.first h_S_) = BitVec.ofNat 32 0 := rfl
  rw [Ideal.argReduce_eq_reduce2]
  unfold Host.reduce2
  rw [hinit, hzero]
  set f : Fin 2048 → EReal := fun p => d (ix2 b p) with hf
  set P := peak f with hP
  have hdrop (y : S4x2048.Idx) : (reducesTo_S4x2048_S4_d1).drop y = ix1 b ↔ (y 0).val = b.val := by
    constructor
    · intro h; exact congrArg (fun z : S4.Idx => (z 0).val) h
    · intro h; funext e; apply Fin.ext
      match e with
      | ⟨0, _⟩ => exact h
  have hrow (y : S4x2048.Idx) (h : (y 0).val = b.val) : d y = f ⟨(y 1).val, (y 1).isLt⟩ :=
    congrArg d (funext fun e => Fin.ext (by
      match e with
      | ⟨0, _⟩ => exact h
      | ⟨1, _⟩ => rfl))
  obtain ⟨r, q, e, hm, -, hr⟩ := foldl_best (reducer_argmax_f32_i32 (F := Ideal)) reducer_eq
    (fun n => d (S4x2048.rowMajor.symm n)) (fun n => ((S4x2048.rowMajor.symm n) 1).val)
    ((List.finRange S4x2048.numel).filter fun n => (reducesTo_S4x2048_S4_d1).drop (S4x2048.rowMajor.symm n) = ix1 b)
    (fun n _ => by have h : ((S4x2048.rowMajor.symm n) 1).val < 2048 := ((S4x2048.rowMajor.symm n) 1).isLt; omega) ⊥ 0 (by norm_num)
  refine (congrArg Prod.snd (Eq.trans ?_ e)).trans (congrArg (BitVec.ofNat 32) ?_)
  · refine foldl_steps _ _ _ _ fun r n => ?_
    exact congrArg (fun z => reducer_argmax_f32_i32 (F := Ideal) r (d (S4x2048.rowMajor.symm n), z)) rfl
  · have hPm : S4x2048.rowMajor (ix2 b P) ∈ (List.finRange S4x2048.numel).filter fun n => (reducesTo_S4x2048_S4_d1).drop (S4x2048.rowMajor.symm n) = ix1 b := by
      rw [List.mem_filter]
      refine ⟨List.mem_finRange _, decide_eq_true ?_⟩
      rw [Equiv.symm_apply_apply, hdrop]
    have h1 := hr _ hPm
    simp only [Equiv.symm_apply_apply] at h1
    have h1 : f P < r ∨ (f P = r ∧ q ≤ P.val) := h1
    rcases hm with ⟨rfl, rfl⟩ | ⟨n, hn, rfl, rfl⟩
    · rcases h1 with h1 | ⟨h1, -⟩
      · exact absurd h1 not_lt_bot
      · have h0 : f 0 = f P := le_antisymm (le_peak f 0) (h1 ▸ bot_le)
        exact (Nat.le_zero.mp (Fin.le_def.mp (peak_first f 0 h0))).symm
    · have hy := (hdrop _).mp (of_decide_eq_true (List.mem_filter.mp hn).2)
      rw [hrow _ hy] at h1
      have hle := le_peak f ⟨((S4x2048.rowMajor.symm n) 1).val, ((S4x2048.rowMajor.symm n) 1).isLt⟩
      rcases h1 with h1 | ⟨h1, h2⟩
      · exact absurd h1 (not_lt.mpr hle)
      · exact le_antisymm h2 (Fin.le_def.mp (peak_first f _ h1.symm))

/-! ## The picks -/

theorem put_apply (a : IVec S511x4 32) (l : IVec S4 32) (k : ℕ) (hk : k < 511) (i : IVec S_ 32) (hi : i = fun _ => BitVec.ofNat 32 k) (r : Fin 511) (b : Fin 4) :
    put a l i (ix2 r b) = if r.val = k then l (ix1 b) else a (ix2 r b) := by
  have hs : S511x4.Slices ![k, 0] S1x4 := ⟨rfl, fun e => by
    match e with
    | ⟨0, _⟩ => show k + 1 ≤ 511; omega
    | ⟨1, _⟩ => show 0 + 4 ≤ 4; omega⟩
  unfold put
  rw [WordCmp.dynamicUpdateSlice_eq_update _ _ _ _ ![k, 0] hs fun e => by
    match e with
    | ⟨0, _⟩ => show (i _).toInt = (k : ℤ); rw [hi]; exact WordCmp.toInt_ofNat_of_lt (w := 32) (show k < 2 ^ 31 by omega)
    | ⟨1, _⟩ => rfl]
  unfold updateSlice
  by_cases h : r.val = k
  · rw [if_pos h, dif_pos fun e => by
      match e with
      | ⟨0, _⟩ => show k ≤ r.val ∧ r.val < k + 1; omega
      | ⟨1, _⟩ => show 0 ≤ b.val ∧ b.val < 0 + 4; omega]
    refine congrArg l (funext fun e => Fin.ext ?_)
    match e with
    | ⟨0, _⟩ => rfl
  · rw [if_neg h, dif_neg fun hh => h ?_]
    have h0 : k ≤ r.val ∧ r.val < k + 1 := hh (0 : Fin 2)
    omega

end Cert.Farthest.Run

end
-- ==== Proof.FarLoop.lean ====
/- The sampling reference's result: what its loop carries before each trip, and the row of picks it returns. -/
module

public import proofs.«01_k».proof.Proof.FarRef

@[expose] public section

noncomputable section

namespace Cert.Farthest.Run

open Cert.FrontRefIdeal Cert.FrontRefIdeal.Gen Idealize.ShloMosaic.ValueIdx Idealize.ShloMosaic.TcCoe Idealize.ShloMosaic.Tactic Idealize.ShloMosaic.StableHlo
open Idealize.ShloMosaic hiding ix1 ix2 ix3 ix4

variable (m : (ℓ : Loc nD τ sig) → Buf (Elt Ideal) ℓ) (c : Dev nD)

/-- The positions the run starts from. -/
def points : S4x2048x3.Idx → EReal := m ((c : Thread nD τ).loc main_arg1)

/-! ## Before the loop -/

theorem entry_x : entryContents preI m c (Proc.devRef .tc main_v3_0) = points m c := by
  simp only [entryContents, afterL_cons, afterL_nil]
  after_reads_simp
  rfl

theorem entry_d : entryContents preI m c (Proc.devRef .tc main_v3_2) = fun _ => Ideal.ofBits .f32 0x501502F9#32 := by
  simp only [entryContents, afterL_cons, afterL_nil]
  after_reads_simp
  rfl

theorem entry_l : entryContents preI m c (Proc.devRef .tc main_v3_3) = fun _ => (0#32 : BitVec 32) := by
  simp only [entryContents, afterL_cons, afterL_nil]
  after_reads_simp
  rfl

theorem entry_first : entryContents preI m c (Proc.devRef .tc main_v0) = fun _ => (0#32 : BitVec 32) := by
  simp only [entryContents, afterL_cons, afterL_nil]
  after_reads_simp
  rfl

/-- No stretch writes `r`. -/
abbrev Untouched (r : Ref sig .tc) : Prop :=
  (r ∉ hostOps0_W ∧ r ∉ condOps_W ∧ r ∉ while0Ops0_W ∧ r ∉ while0Ops0_1_W ∧ r ∉ while0Ops0_2_W ∧ r ∉ while0Ops0_3_W ∧ r ∉ while0Ops0_4_W ∧ r ∉ while0Ops0_5_W)
    ∧ r ∉ hostOps0_1_W ∧ r ∉ hostOps0_2_W ∧ r ∉ hostOps0_3_W ∧ r ∉ hostOps0_4_W ∧ r ∉ hostOps0_5_W

theorem entry_arg (r : Ref sig .tc) (h : Untouched r) : entryContents preI m c (Proc.devRef .tc r) = m ((c : Thread nD τ).loc r) := by
  simp only [entryContents, afterL_cons, afterL_nil]
  exact after_of_writes_sub hostOps0 _ hostOps0_writes h.1.1

/-! ## At each trip -/

theorem keepC (V : Valuation τ sig (Elt Ideal)) (r : Ref sig .tc) (h : r ∉ condOps_W) :
    after condOps V (Proc.devRef .tc r) = V (Proc.devRef .tc r) := after_of_writes_sub condOps V condOps_writes h

/-- A buffer that neither the condition nor the body writes. -/
theorem keepL (V : Valuation τ sig (Elt Ideal)) (r : Ref sig .tc) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) : afterL bodyI V (Proc.devRef .tc r) = V (Proc.devRef .tc r) := by
  simp only [bodyI, afterL_cons, afterL_nil]
  rw [after_of_writes_sub while0Ops0_5 _ while0Ops0_5_writes h5, keep4 _ r h4, keep3 _ r h3, keep2 _ r h2, keep1 _ r h1, keep0 _ r h0]

theorem atK_x : ∀ k, atK m k c (Proc.devRef .tc main_v3_0) = points m c
  | 0 => entry_x m c
  | k + 1 => by
    rw [show atK m (k + 1) c = afterL bodyI (after condOps (atK m k c)) from rfl, trip_x, keepC _ main_v3_0 (by decide), atK_x k]

theorem atK_first : ∀ k, atK m k c (Proc.devRef .tc main_v0) = fun _ => (0#32 : BitVec 32)
  | 0 => entry_first m c
  | k + 1 => by
    rw [show atK m (k + 1) c = afterL bodyI (after condOps (atK m k c)) from rfl,
      keepL _ main_v0 (by decide) (by decide) (by decide) (by decide) (by decide) (by decide), keepC _ main_v0 (by decide), atK_first k]

theorem atK_arg (r : Ref sig .tc) (h : Untouched r) : ∀ k, atK m k c (Proc.devRef .tc r) = m ((c : Thread nD τ).loc r)
  | 0 => entry_arg m c r h
  | k + 1 => by
    rw [show atK m (k + 1) c = afterL bodyI (after condOps (atK m k c)) from rfl,
      keepL _ r h.1.2.2.1 h.1.2.2.2.1 h.1.2.2.2.2.1 h.1.2.2.2.2.2.1 h.1.2.2.2.2.2.2.1 h.1.2.2.2.2.2.2.2, keepC _ r h.1.2.1, atK_arg r h k]

/-- The distances and the last picks before trip `k` are the state of each cloud. -/
def Holds (k : ℕ) (d : S4x2048.Idx → EReal) (l : S4.Idx → BitVec 32) : Prop :=
  (∀ b p, d (ix2 b p) = (state (spread (points m c) b) k).1 p) ∧ ∀ b, l (ix1 b) = BitVec.ofNat 32 (chosen (spread (points m c) b) k).val

theorem holds_dist (k : ℕ) (d : S4x2048.Idx → EReal) (l : S4.Idx → BitVec 32) (h : Holds m c k d l) (b : Fin 4) (p : Fin 2048) :
    dist (F := Ideal) (points m c) d l (ix2 b p) = (state (spread (points m c) b) (k + 1)).1 p := by
  rw [state_succ]
  exact dist_apply (points m c) d l b (fun b => state (spread (points m c) b) k) h.2 (h.1 b) p

theorem holds_top (k : ℕ) (d : S4x2048.Idx → EReal) (l : S4.Idx → BitVec 32) (h : Holds m c k d l) (b : Fin 4) :
    top (F := Ideal) (dist (F := Ideal) (points m c) d l) (ix1 b) = BitVec.ofNat 32 (chosen (spread (points m c) b) (k + 1)).val := by
  rw [chosen_succ, top_apply]
  exact congrArg (fun f => BitVec.ofNat 32 (peak f).val) (funext fun p => holds_dist m c k d l h b p)

theorem atK_holds : ∀ k, Holds m c k (atK m k c (Proc.devRef .tc main_v3_2)) (atK m k c (Proc.devRef .tc main_v3_3))
  | 0 => by
    rw [show atK m 0 c = entryContents preI m c from rfl, entry_d, entry_l]
    exact ⟨fun b p => rfl, fun b => rfl⟩
  | k + 1 => by
    have h := atK_holds k
    rw [show atK m (k + 1) c = afterL bodyI (after condOps (atK m k c)) from rfl, trip_d, trip_l, keepC _ main_v3_0 (by decide),
      keepC _ main_v3_2 (by decide), keepC _ main_v3_3 (by decide), atK_x]
    exact ⟨holds_dist m c k _ _ h, holds_top m c k _ _ h⟩

theorem iv_eq (k : ℕ) : Scf.iv 0#32 1#32 k = BitVec.ofNat 32 k := by simp [Scf.iv]

/-- The picks stored before trip `k`. -/
theorem atK_picks : ∀ k, k ≤ 511 → ∀ (r : Fin 511) (b : Fin 4), r.val < k →
    atK m k c (Proc.devRef .tc main_v3_4) (ix2 r b) = BitVec.ofNat 32 (chosen (spread (points m c) b) (r.val + 1)).val
  | 0, _, _, _, h => absurd h (Nat.not_lt_zero _)
  | k + 1, hk, r, b, h => by
    rw [show atK m (k + 1) c = afterL bodyI (after condOps (atK m k c)) from rfl, trip_a, keepC _ main_v3_0 (by decide),
      keepC _ main_v3_1 (by decide), keepC _ main_v3_2 (by decide), keepC _ main_v3_3 (by decide), keepC _ main_v3_4 (by decide), atK_x]
    refine (put_apply _ _ k (by omega) _ ((atK_ctr m c k).trans (funext fun _ => iv_eq k)) r b).trans ?_
    by_cases e : r.val = k
    · rw [if_pos e, e]
      exact holds_top m c k _ _ (atK_holds m c k) b
    · rw [if_neg e]
      exact atK_picks k (by omega) r b (by omega)

/-! ## The picks joined -/

theorem result_eq (V : Valuation τ sig (Elt Ideal)) : after hostOps0_1 V (Proc.devRef .tc main_v6)
    = concatenate S4x512 1 [⟨S4x1, broadcastInDim S4x1 ![0] bcast_S4_S4x1_0 (V (Proc.devRef .tc main_v0))⟩,
      ⟨S4x511, transpose S4x511 [1, 0] (V (Proc.devRef .tc main_v3_4)) transposes_S511x4_S4x511_1_0⟩] concatenates_S4x1_S4x511_S4x512_d1 := by
  simp only [hostOps0_1]
  after_results_entrywise [cast_eq] <;> rfl

/-- Every buffer's contents when the picks have been joined. -/
def joined : Valuation τ sig (Elt Ideal) := after hostOps0_1 (after condOps (atK m 511 c))

theorem final_eq : finalContents condOps preI bodyI postI 511 m c
    = after hostOps0_5 (after hostOps0_4 (after hostOps0_3 (after hostOps0_2 (joined m c)))) := by
  simp only [finalContents, afterL_cons, afterL_nil]
  rfl

theorem joined_arg (r : Ref sig .tc) (h : Untouched r) : joined m c (Proc.devRef .tc r) = m ((c : Thread nD τ).loc r) := by
  unfold joined
  rw [after_of_writes_sub hostOps0_1 _ hostOps0_1_writes h.2.1, keepC _ r h.1.2.1, atK_arg m c r h]

/-- Joined, the picks are each cloud's chosen points in order. -/
theorem joined_picks : joined m c (Proc.devRef .tc main_v6) = picked (points m c) := by
  unfold joined
  rw [result_eq, keepC _ main_v0 (by decide), keepC _ main_v3_4 (by decide),
    show atK m 511 c (Proc.devRef .tc main_v0) = _ from atK_first m c 511]
  funext y
  obtain ⟨b, j, rfl⟩ : ∃ (b : Fin 4) (j : Fin 512), y = ix2 b j := ⟨⟨(y 0).val, (y 0).isLt⟩, ⟨(y 1).val, (y 1).isLt⟩, funext fun a => Fin.ext (by fin_cases a <;> rfl)⟩
  show _ = BitVec.ofNat 32 (chosen (spread (points m c) b) j.val).val
  by_cases hj : j.val = 0
  · refine (concatenate_pair_apply_left (t := S4x512) (s₁ := S4x1) (s₂ := S4x511) 1 _ _ _ _ rfl (ix2 b (0 : Fin 1)) fun a => ?_).trans ?_
    · match a with
      | ⟨0, _⟩ => rfl
      | ⟨1, _⟩ => exact hj.symm
    · rw [hj]; rfl
  · have hl := j.isLt
    refine (concatenate_pair_apply_right (t := S4x512) (s₁ := S4x1) (s₂ := S4x511) 1 _ _ _ _ rfl rfl (ix2 b (⟨j.val - 1, by omega⟩ : Fin 511)) (fun a ha => ?_) ?_).trans ?_
    · match a with
      | ⟨0, _⟩ => rfl
      | ⟨1, _⟩ => exact absurd rfl ha
    · show j.val - 1 + 1 = j.val; omega
    · refine Eq.trans (congrArg (atK m 511 c (Proc.devRef .tc main_v3_4)) (?_ : _ = ix2 (⟨j.val - 1, by omega⟩ : Fin 511) b)) ?_
      · funext e; apply Fin.ext
        match e with
        | ⟨0, _⟩ => rfl
        | ⟨1, _⟩ => rfl
      · refine (atK_picks m c 511 le_rfl _ b (show j.val - 1 < 511 by omega)).trans ?_
        rw [show (⟨j.val - 1, by omega⟩ : Fin 511).val + 1 = j.val from by show j.val - 1 + 1 = j.val; omega]

end Cert.Farthest.Run

end
-- ==== Proof.FrontRef.lean ====
/- The results of the first two calls' reference, from its arguments. -/
module

public import proofs.«01_k».proof.Proof.FarLoop
public import proofs.«01_k».proof.Proof.NearRef

@[expose] public section

noncomputable section

namespace Cert.Farthest.Run

open Cert.FrontRefIdeal Cert.FrontRefIdeal.Gen Idealize.ShloMosaic.TcCoe Idealize.ShloMosaic.Tactic Idealize.ShloMosaic.StableHlo
open Idealize.ShloMosaic hiding ix1 ix2 ix3 ix4
open Cert.Cloud.Ref (centres distsOf fourthOf thirdOf second)

section
variable (V : Valuation τ sig (Elt Ideal))

set_option maxRecDepth 8192 in
theorem read_v13 : after hostOps0_2 V (Proc.devRef .tc main_v13) = centres (V (Proc.devRef .tc main_arg1)) (V (Proc.devRef .tc main_v6)) := by
  simp only [hostOps0_2]
  after_results_entrywise [cast_eq] <;> rfl

set_option maxRecDepth 8192 in
theorem read_v21 : after hostOps0_3 V (Proc.devRef .tc main_v21) = Host.negf (distsOf (V (Proc.devRef .tc main_arg1)) (V (Proc.devRef .tc main_v13))) := by
  simp only [hostOps0_3]
  after_results_entrywise [cast_eq] <;> rfl

set_option maxRecDepth 8192 in
theorem read_v29 : after hostOps0_4 V (Proc.devRef .tc main_v29) = fourthOf (V (Proc.devRef .tc main_v21)) := by
  simp only [hostOps0_4]
  after_results_entrywise [cast_eq] <;> rfl

set_option maxRecDepth 8192 in
theorem read_v31 : after hostOps0_5 V (Proc.devRef .tc main_v31)
    = second (V (Proc.devRef .tc main_arg0)) (V (Proc.devRef .tc main_arg1)) (V (Proc.devRef .tc main_arg2)) := by
  simp only [hostOps0_5]
  after_results_entrywise [cast_eq] <;> rfl

set_option maxRecDepth 8192 in
theorem read_v36 : after hostOps0_5 V (Proc.devRef .tc main_v36)
    = thirdOf (V (Proc.devRef .tc main_arg2)) (V (Proc.devRef .tc main_arg3)) (V (Proc.devRef .tc main_v13)) := by
  simp only [hostOps0_5]
  after_results_entrywise [cast_eq] <;> rfl

theorem keep_2 (r : Ref sig .tc) (h : r ∉ hostOps0_2_W) : after hostOps0_2 V (Proc.devRef .tc r) = V (Proc.devRef .tc r) :=
  after_of_writes_sub hostOps0_2 V hostOps0_2_writes h
theorem keep_3 (r : Ref sig .tc) (h : r ∉ hostOps0_3_W) : after hostOps0_3 V (Proc.devRef .tc r) = V (Proc.devRef .tc r) :=
  after_of_writes_sub hostOps0_3 V hostOps0_3_writes h
theorem keep_4 (r : Ref sig .tc) (h : r ∉ hostOps0_4_W) : after hostOps0_4 V (Proc.devRef .tc r) = V (Proc.devRef .tc r) :=
  after_of_writes_sub hostOps0_4 V hostOps0_4_writes h
theorem keep_5 (r : Ref sig .tc) (h : r ∉ hostOps0_5_W) : after hostOps0_5 V (Proc.devRef .tc r) = V (Proc.devRef .tc r) :=
  after_of_writes_sub hostOps0_5 V hostOps0_5_writes h

end

variable (m : (ℓ : Loc nD τ sig) → Buf (Elt Ideal) ℓ) (c : Dev nD)

/-- The run's last contents. -/
abbrev last : Valuation τ sig (Elt Ideal) := finalContents condOps preI bodyI postI 511 m c

/-- The picked points, read at the arguments. -/
theorem centres_eq : after hostOps0_2 (joined m c) (Proc.devRef .tc main_v13) = centres (points m c) (picked (points m c)) := by
  rw [read_v13, joined_arg m c main_arg1 (by decide), joined_picks]
  rfl

theorem last_v13 : last m c (Proc.devRef .tc main_v13) = centres (points m c) (picked (points m c)) := by
  unfold last
  rw [final_eq, keep_5 _ main_v13 (by decide), keep_4 _ main_v13 (by decide), keep_3 _ main_v13 (by decide), centres_eq]

theorem last_v29 : last m c (Proc.devRef .tc main_v29)
    = fourthOf (Host.negf (distsOf (points m c) (centres (points m c) (picked (points m c))))) := by
  unfold last
  rw [final_eq, keep_5 _ main_v29 (by decide), read_v29, read_v21, centres_eq, keep_2 _ main_arg1 (by decide), joined_arg m c main_arg1 (by decide)]
  rfl

theorem last_v31 : last m c (Proc.devRef .tc main_v31)
    = second (m ((c : Thread nD τ).loc main_arg0)) (points m c) (m ((c : Thread nD τ).loc main_arg2)) := by
  unfold last
  rw [final_eq, read_v31, keep_4 _ main_arg0 (by decide), keep_3 _ main_arg0 (by decide), keep_2 _ main_arg0 (by decide), joined_arg m c main_arg0 (by decide),
    keep_4 _ main_arg1 (by decide), keep_3 _ main_arg1 (by decide), keep_2 _ main_arg1 (by decide), joined_arg m c main_arg1 (by decide),
    keep_4 _ main_arg2 (by decide), keep_3 _ main_arg2 (by decide), keep_2 _ main_arg2 (by decide), joined_arg m c main_arg2 (by decide)]
  rfl

theorem last_v36 : last m c (Proc.devRef .tc main_v36)
    = thirdOf (m ((c : Thread nD τ).loc main_arg2)) (m ((c : Thread nD τ).loc main_arg3)) (centres (points m c) (picked (points m c))) := by
  unfold last
  rw [final_eq, read_v36, keep_4 _ main_arg2 (by decide), keep_3 _ main_arg2 (by decide), keep_2 _ main_arg2 (by decide), joined_arg m c main_arg2 (by decide),
    keep_4 _ main_arg3 (by decide), keep_3 _ main_arg3 (by decide), keep_2 _ main_arg3 (by decide), joined_arg m c main_arg3 (by decide),
    keep_4 _ main_v13 (by decide), keep_3 _ main_v13 (by decide), centres_eq]

theorem last_arg (r : Ref sig .tc) (h : Untouched r) : last m c (Proc.devRef .tc r) = m ((c : Thread nD τ).loc r) := by
  unfold last
  rw [final_eq, keep_5 _ r h.2.2.2.2.2, keep_4 _ r h.2.2.2.2.1, keep_3 _ r h.2.2.2.1, keep_2 _ r h.2.2.1, joined_arg m c r h]

end Cert.Farthest.Run

end
-- ==== Proof.FrontEqual.lean ====
/- The first two calls: their frames, and their results against their reference's at the extended reals. -/
module

public import proofs.«01_k».proof.Defs
public import proofs.«01_k».proof.Proof.Points
public import proofs.«01_k».proof.Proof.FrontRun
public import proofs.«01_k».proof.Proof.FrontRef
public import proofs.«01_k».proof.Proof.Frames
public import proofs.«01_k».proof.Proof.Gen.Front.Frame
public import proofs.«01_k».proof.Proof.Gen.Pre_front_pre

@[expose] public section

noncomputable section

namespace Cert.Cloud

open Cert.FrontIdeal Cert.FrontIdeal.Gen Idealize.ShloMosaic.TcCoe Idealize.ShloMosaic.ValueIdx Idealize.SL.Sem
open Idealize.ShloMosaic hiding ix1 ix2 ix3 ix4
open Cert.Rows (IsReal)
open Cert.Farthest.Run (points)

/-! ## The reference's run -/

/-- The reference's results and its arguments after it ran. -/
theorem run_ref (m : (ℓ : Loc Cert.FrontRefIdeal.nD Cert.FrontRefIdeal.τ Cert.FrontRefIdeal.sig) → Buf (Elt Ideal) ℓ) (ρ : Dev Cert.FrontRefIdeal.nD → PrngReg) :
    θ_run (Cert.FrontRefIdeal.defs (F := Ideal)) (onTc (τ := Cert.FrontRefIdeal.τ) (Cert.FrontRefIdeal.main (F := Ideal))) ⟨m, fun _ => 0, ρ⟩ (fun r => ∀ c : Dev Cert.FrontRefIdeal.nD,
      r.2.mem ((c.tc : Thread Cert.FrontRefIdeal.nD Cert.FrontRefIdeal.τ).loc Cert.FrontRefIdeal.main_v13) = Ref.centres (points m c) (Farthest.picked (points m c))
      ∧ r.2.mem ((c.tc : Thread Cert.FrontRefIdeal.nD Cert.FrontRefIdeal.τ).loc Cert.FrontRefIdeal.main_v31)
        = Ref.second (m ((c.tc : Thread Cert.FrontRefIdeal.nD Cert.FrontRefIdeal.τ).loc Cert.FrontRefIdeal.main_arg0)) (points m c)
          (m ((c.tc : Thread Cert.FrontRefIdeal.nD Cert.FrontRefIdeal.τ).loc Cert.FrontRefIdeal.main_arg2))
      ∧ r.2.mem ((c.tc : Thread Cert.FrontRefIdeal.nD Cert.FrontRefIdeal.τ).loc Cert.FrontRefIdeal.main_v36)
        = Ref.thirdOf (m ((c.tc : Thread Cert.FrontRefIdeal.nD Cert.FrontRefIdeal.τ).loc Cert.FrontRefIdeal.main_arg2))
          (m ((c.tc : Thread Cert.FrontRefIdeal.nD Cert.FrontRefIdeal.τ).loc Cert.FrontRefIdeal.main_arg3)) (Ref.centres (points m c) (Farthest.picked (points m c)))
      ∧ r.2.mem ((c.tc : Thread Cert.FrontRefIdeal.nD Cert.FrontRefIdeal.τ).loc Cert.FrontRefIdeal.main_v29)
        = Ref.fourthOf (Host.negf (Ref.dists (points m c) (Farthest.picked (points m c))))
      ∧ r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)) :=
  (θ_run Cert.FrontRefIdeal.defs _ _).mono (fun r h c =>
    ⟨(h c Cert.FrontRefIdeal.main_v13 rfl).trans (Farthest.Run.last_v13 m c),
      (h c Cert.FrontRefIdeal.main_v31 rfl).trans (Farthest.Run.last_v31 m c),
      (h c Cert.FrontRefIdeal.main_v36 rfl).trans (Farthest.Run.last_v36 m c),
      (h c Cert.FrontRefIdeal.main_v29 rfl).trans (Farthest.Run.last_v29 m c),
      (h c Cert.FrontRefIdeal.main_arg0 rfl).trans (Farthest.Run.last_arg m c _ (by decide)),
      (h c Cert.FrontRefIdeal.main_arg1 rfl).trans (Farthest.Run.last_arg m c _ (by decide)),
      (h c Cert.FrontRefIdeal.main_arg2 rfl).trans (Farthest.Run.last_arg m c _ (by decide)),
      (h c Cert.FrontRefIdeal.main_arg3 rfl).trans (Farthest.Run.last_arg m c _ (by decide))⟩) (Farthest.Run.run_fold (F := Ideal) m ρ)

/-! ## The frames -/

theorem frame_front : Cert.quiescent_Front := fun m ρ _ => Cert.Front.Gen.frame (F := Bits) m ρ

theorem frame_ideal : Cert.quiescent_FrontIdeal := fun m ρ _ => Cert.FrontIdeal.Gen.frame (F := Ideal) m ρ

theorem frame_ideal_pre : Cert.quiescent_FrontIdeal_pre_front_pre := fun m ρ _ => frame_ideal m ρ trivial

/-- The reference declares no semaphore. -/
theorem frame_ref : Cert.quiescent_FrontRefIdeal := fun m ρ _ =>
  (θ_run Cert.FrontRefIdeal.defs _ _).mono (fun r h => ⟨fun c => (h c).2.2.2.2, sem_eq_zero_of_no_sems (by decide) r.2⟩) (run_ref m ρ)

theorem frame_ref_pre : Cert.quiescent_FrontRefIdeal_pre_front_pre := fun m ρ _ => frame_ref m ρ trivial

/-! ## What the precondition says -/

section
variable {m : (ℓ : Loc nD τ sig) → Buf (Elt Ideal) ℓ} (h : Cert.Pre_FrontIdeal_front_pre m) (c : Dev nD)
include h

theorem real_pos (y : S4x2048x3.Idx) : IsReal (poss m c y) :=
  Cert.Rows.finite_real _ (congrFun (h c).1 y)

theorem real_weight (k : Fin 3) (l : Fin 256) : IsReal (wts m c (ix2 ⟨128 + k.val, by omega⟩ l)) := by
  have e := Cert.Rows.finite_real _ (congrFun (h c).2 (ix2 k l))
  have hi : (extractStridedSlice S3x256 ![128, 0] (wts m c : S131x256.Idx → EReal) Cert.Pre_front_pre.Facts.slices_S131x256_S3x256_128_0) (ix2 k l)
      = wts m c (ix2 ⟨128 + k.val, by omega⟩ l) :=
    congrArg (wts m c : S131x256.Idx → EReal) (funext fun a => Fin.ext (by
      match a with
      | ⟨0, _⟩ => rfl
      | ⟨1, _⟩ => exact Nat.zero_add _))
  rw [← hi]; exact e

end

/-! ## The kernel's run -/

section
variable (m : (ℓ : Loc nD τ sig) → Buf (Elt Ideal) ℓ) (ρ : Dev nD → PrngReg) (c : Dev nD)

theorem picked_eq (b : Fin 4) (q : Fin 512) : Farthest.picked (poss m c) (ix2 b q) = BitVec.ofNat 32 (centre m c b q).val := rfl

/-- The second call's first array: the centres, with zeros to the width of 128. -/
def padded (y : S4x512x128.Idx) : EReal :=
  if h : (y 2).val < 3 then (poss m c (ix3 (y 0) (centre m c (y 0) (y 1)) ⟨(y 2).val, h⟩) : EReal) else 0

theorem result_centres : W5 m ρ c (Proc.devRef .tc main_v17) = Ref.centres (poss m c) (Farthest.picked (poss m c)) := by
  rw [last_v17, array7 m ρ c (padded m c) fun _ _ _ => rfl]
  funext y
  obtain ⟨b, q, l, rfl⟩ : ∃ (b : Fin 4) (q : Fin 512) (l : Fin 3), y = ix3 b q l :=
    ⟨⟨(y 0).val, (y 0).isLt⟩, ⟨(y 1).val, (y 1).isLt⟩, ⟨(y 2).val, (y 2).isLt⟩, funext fun a => Fin.ext (by fin_cases a <;> rfl)⟩
  refine Eq.trans ?_ (Ref.centres_apply (poss m c) _ (centre m c) (picked_eq m c) b q l).symm
  refine (congrArg (padded m c) (?_ : _ = ix3 b q (⟨l.val, by omega⟩ : Fin 128))).trans ?_
  · funext a; apply Fin.ext
    match a with
    | ⟨0, _⟩ => exact Nat.zero_add _
    | ⟨1, _⟩ => exact Nat.zero_add _
    | ⟨2, _⟩ => exact Nat.zero_add _
  · exact dif_pos l.isLt

theorem result_products : W5 m ρ c (Proc.devRef .tc main_v16_1) = Ref.second (feats m c) (poss m c) (wts m c) :=
  (last_v16_1 m ρ c).trans (array8 m ρ c _ fun b j l => (Ref.second_apply _ _ _ b j l).symm)

variable (h : Cert.Pre_FrontIdeal_front_pre m)
include h

theorem result_shifts : W5 m ρ c (Proc.devRef .tc main_v16_2)
    = Ref.thirdOf (wts m c) (bias m c) (Ref.centres (poss m c) (Farthest.picked (poss m c))) :=
  (last_v16_2 m ρ c).trans (array9 m ρ c (real_pos h c) (real_weight h c) _ fun b q l =>
    (Ref.third_apply _ _ _ _ (centre m c) (picked_eq m c) b q l).symm)

theorem result_numbers : W5 m ρ c (Proc.devRef .tc main_v16_3)
    = Ref.fourthOf (Host.negf (Ref.dists (poss m c) (Farthest.picked (poss m c)))) :=
  (last_v16_3 m ρ c).trans (array10 m ρ c _ fun b r q =>
    (Ref.fourth_apply _ _ (centre m c) (picked_eq m c) (real_pos h c) b r q).symm)

end

/-! ## The claim -/

/-- At the extended reals the two calls and their reference run to the same results, and both leave their arguments. -/
theorem equal : Cert.algebraic_FrontIdeal_FrontRefIdeal_pre_front_pre := by
  intro m g m' g' h ha
  refine ⟨_, _, _, _, (θ_run Cert.FrontIdeal.defs _ _).mono (fun r hr c =>
    ⟨(hr c _ (mem_uc main_v17 (by decide))).trans (result_centres m g c),
     (hr c _ (mem_uc main_v16_1 (by decide))).trans (result_products m g c),
     (hr c _ (mem_uc main_v16_2 (by decide))).trans (result_shifts m g c h),
     (hr c _ (mem_uc main_v16_3 (by decide))).trans (result_numbers m g c h),
     (hr c _ (mem_uc main_arg0 (by decide))).trans (W5_main_arg0 m g c),
     (hr c _ (mem_uc main_arg1 (by decide))).trans (W5_main_arg1 m g c),
     (hr c _ (mem_uc main_arg2 (by decide))).trans (W5_main_arg2 m g c),
     (hr c _ (mem_uc main_arg3 (by decide))).trans (W5_main_arg3 m g c)⟩) (run_contents (F := Ideal) m g), ?_⟩
  refine (θ_run Cert.FrontRefIdeal.defs _ _).mono (fun r hr c => ?_) (run_ref m' g')
  obtain ⟨h0, h1, h2, h3⟩ := ha c
  have e : points m' c = poss m c := h1
  obtain ⟨r0, r1, r2, r3, rest⟩ := hr c
  rw [e] at r0 r1 r2 r3
  rw [h0, h2] at r1
  rw [h2, h3] at r2
  exact ⟨r0, r1, r2, r3, rest⟩

end Cert.Cloud

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_finite
public import proofs.«01_k».proof.Proof.Equation
public import proofs.«01_k».proof.Proof.Gen.NearIdeal.Value
public import proofs.«01_k».proof.Proof.Gen.NearRefIdeal.Run
public import proofs.«01_k».proof.Proof.Gen.Near
public import proofs.«01_k».proof.Proof.Gen.Near.Frame
public import proofs.«01_k».proof.Proof.Gen.NearRefIdeal
public import proofs.«01_k».proof.Proof.Gen.Pre_near_pre
public import proofs.«01_k».proof.Proof.NearEqual
public import proofs.«01_k».proof.Proof.FrontEqual
public import proofs.«01_k».proof.Proof.Gen.Front
public import proofs.«01_k».proof.Proof.Gen.Front.Frame
public import proofs.«01_k».proof.Proof.Gen.FrontIdeal
public import proofs.«01_k».proof.Proof.Gen.FrontIdeal.Frame
public import proofs.«01_k».proof.Proof.Gen.FrontRefIdeal
public import proofs.«01_k».proof.Proof.Gen.Pre_front_pre
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Near.Gen.facts, Cert.NearIdeal.Gen.facts, Cert.NearRefIdeal.Gen.facts,
  Cert.Front.Gen.facts, Cert.FrontIdeal.Gen.facts, Cert.FrontRefIdeal.Gen.facts,
  Cert.Pre_in_range.Gen.facts, Cert.Pre_finite.Gen.facts, Cert.Pre_near_pre.Gen.facts, Cert.Pre_front_pre.Gen.facts,
  Cert.Rows.frame_kernel, Cert.Rows.frame_ideal, Cert.Rows.frame_ideal_finite, Cert.Rows.frame_ref, Cert.Rows.frame_ref_finite,
  Cert.Nearest.frame_near, Cert.Nearest.frame_ideal, Cert.Nearest.frame_ideal_pre, Cert.Nearest.frame_ref, Cert.Nearest.frame_ref_pre,
  Cert.Cloud.frame_front, Cert.Cloud.frame_ideal, Cert.Cloud.frame_ideal_pre, Cert.Cloud.frame_ref, Cert.Cloud.frame_ref_pre,
  trivial, Cert.Rows.equal, trivial, Cert.Nearest.equal, trivial, Cert.Cloud.equal⟩

end Cert.Proof

end
